-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_padded [hPre_padded : Cert.Pre_padded.Facts] (m : (ℓ : Loc Cert.FfnIdeal.nD Cert.FfnIdeal.τ Cert.FfnIdeal.sig) → Buf (Elt Ideal) ℓ) : Prop :=
  ∀ c : Dev Cert.FfnIdeal.nD,
    (Cert.Pre_padded.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_padded [hPre_padded : Cert.Pre_padded.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_padded.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Prompt (m : (ℓ : Loc Cert.Prompt.nD Cert.Prompt.τ Cert.Prompt.sig) → Buf (Elt Bits) ℓ) : Prop :=
  True

def Pre_PromptIdeal (m : (ℓ : Loc Cert.PromptIdeal.nD Cert.PromptIdeal.τ Cert.PromptIdeal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_finite_prompt [hPre_finite_prompt : Cert.Pre_finite_prompt.Facts] (m : (ℓ : Loc Cert.CtxIdeal.nD Cert.CtxIdeal.τ Cert.CtxIdeal.sig) → Buf (Elt Ideal) ℓ) : Prop :=
  ∀ c : Dev Cert.CtxIdeal.nD,
    (Cert.Pre_finite_prompt.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_prompt [hPre_finite_prompt : Cert.Pre_finite_prompt.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_prompt.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnIdeal_pre_padded [hFfnIdeal : Cert.FfnIdeal.Facts] [hPre_padded : Cert.Pre_padded.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_padded m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_padded [hReference2Ideal : Cert.Reference2Ideal.Facts] [hPre_padded : Cert.Pre_padded.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_padded m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Prompt [hPrompt : Cert.Prompt.Facts] : Prop :=
  ∀ (m : (ℓ : Loc Cert.Prompt.nD Cert.Prompt.τ Cert.Prompt.sig) → Buf (Elt Bits) ℓ) (g : Dev Cert.Prompt.nD → PrngReg), Pre_Prompt m →
    θ_run (Cert.Prompt.defs (F := Bits)) (onTc (τ := Cert.Prompt.τ) (Cert.Prompt.main (F := Bits))) ⟨m, fun _ => 0, g⟩ (fun r => (∀ c : Dev Cert.Prompt.nD,
      r.2.mem ((c.tc : Thread Cert.Prompt.nD Cert.Prompt.τ).loc Cert.Prompt.main_arg0) = m ((c.tc : Thread Cert.Prompt.nD Cert.Prompt.τ).loc Cert.Prompt.main_arg0)
      ∧ r.2.mem ((c.tc : Thread Cert.Prompt.nD Cert.Prompt.τ).loc Cert.Prompt.main_arg1) = m ((c.tc : Thread Cert.Prompt.nD Cert.Prompt.τ).loc Cert.Prompt.main_arg1)
      ∧ r.2.mem ((c.tc : Thread Cert.Prompt.nD Cert.Prompt.τ).loc Cert.Prompt.main_arg2) = m ((c.tc : Thread Cert.Prompt.nD Cert.Prompt.τ).loc Cert.Prompt.main_arg2)
      ∧ r.2.mem ((c.tc : Thread Cert.Prompt.nD Cert.Prompt.τ).loc Cert.Prompt.main_arg3) = m ((c.tc : Thread Cert.Prompt.nD Cert.Prompt.τ).loc Cert.Prompt.main_arg3)
      ∧ r.2.mem ((c.tc : Thread Cert.Prompt.nD Cert.Prompt.τ).loc Cert.Prompt.main_arg4) = m ((c.tc : Thread Cert.Prompt.nD Cert.Prompt.τ).loc Cert.Prompt.main_arg4)
      ∧ r.2.mem ((c.tc : Thread Cert.Prompt.nD Cert.Prompt.τ).loc Cert.Prompt.main_arg5) = m ((c.tc : Thread Cert.Prompt.nD Cert.Prompt.τ).loc Cert.Prompt.main_arg5)
      ∧ r.2.mem ((c.tc : Thread Cert.Prompt.nD Cert.Prompt.τ).loc Cert.Prompt.main_arg6) = m ((c.tc : Thread Cert.Prompt.nD Cert.Prompt.τ).loc Cert.Prompt.main_arg6))
      ∧ r.2.sem = fun _ => 0)

def quiescent_PromptIdeal [hPromptIdeal : Cert.PromptIdeal.Facts] : Prop :=
  ∀ (m : (ℓ : Loc Cert.PromptIdeal.nD Cert.PromptIdeal.τ Cert.PromptIdeal.sig) → Buf (Elt Ideal) ℓ) (g : Dev Cert.PromptIdeal.nD → PrngReg), Pre_PromptIdeal m →
    θ_run (Cert.PromptIdeal.defs (F := Ideal)) (onTc (τ := Cert.PromptIdeal.τ) (Cert.PromptIdeal.main (F := Ideal))) ⟨m, fun _ => 0, g⟩ (fun r => (∀ c : Dev Cert.PromptIdeal.nD,
      r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
      ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
      ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
      ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
      ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
      ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
      ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2)
      ∧ r.2.mem ((c.tc : Thread Cert.Latent.nD Cert.Latent.τ).loc Cert.Latent.main_arg3) = m ((c.tc : Thread Cert.Latent.nD Cert.Latent.τ).loc Cert.Latent.main_arg3))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
      ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5))
      ∧ r.2.sem = fun _ => 0)

def quiescent_CtxIdeal_pre_finite_prompt [hCtxIdeal : Cert.CtxIdeal.Facts] [hPre_finite_prompt : Cert.Pre_finite_prompt.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_finite_prompt m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_prompt [hReference6Ideal : Cert.Reference6Ideal.Facts] [hPre_finite_prompt : Cert.Pre_finite_prompt.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_prompt m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Ffn_FfnIdeal : Prop :=
  True

def algebraic_FfnIdeal_Reference2Ideal_on_used_rows_pre_padded [hFfnIdeal : Cert.FfnIdeal.Facts] [hReference2Ideal : Cert.Reference2Ideal.Facts] [hPre_padded : Cert.Pre_padded.Facts] [hOn_used_rows : Cert.On_used_rows.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.Reference2Ideal.nD Cert.Reference2Ideal.τ Cert.Reference2Ideal.sig) → Buf (Elt Ideal) ℓ) (g' : Dev Cert.Reference2Ideal.nD → PrngReg), Pre_FfnIdeal_padded m →
    (∀ c : Dev Cert.FfnIdeal.nD,
      m' ((c.tc : Thread Cert.Reference2Ideal.nD Cert.Reference2Ideal.τ).loc Cert.Reference2Ideal.main_arg0) = m ((c.tc : Thread Cert.FfnIdeal.nD Cert.FfnIdeal.τ).loc Cert.FfnIdeal.main_arg0)
      ∧ m' ((c.tc : Thread Cert.Reference2Ideal.nD Cert.Reference2Ideal.τ).loc Cert.Reference2Ideal.main_arg1) = m ((c.tc : Thread Cert.FfnIdeal.nD Cert.FfnIdeal.τ).loc Cert.FfnIdeal.main_arg1)
      ∧ m' ((c.tc : Thread Cert.Reference2Ideal.nD Cert.Reference2Ideal.τ).loc Cert.Reference2Ideal.main_arg2) = m ((c.tc : Thread Cert.FfnIdeal.nD Cert.FfnIdeal.τ).loc Cert.FfnIdeal.main_arg2)
      ∧ m' ((c.tc : Thread Cert.Reference2Ideal.nD Cert.Reference2Ideal.τ).loc Cert.Reference2Ideal.main_arg3) = m ((c.tc : Thread Cert.FfnIdeal.nD Cert.FfnIdeal.τ).loc Cert.FfnIdeal.main_arg3)
      ∧ m' ((c.tc : Thread Cert.Reference2Ideal.nD Cert.Reference2Ideal.τ).loc Cert.Reference2Ideal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v31)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          (∀ i : (⟨2, ![353280, 1024]⟩ : Shape).Idx, (Cert.On_used_rows.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) i = 1#1 → r.2.mem ((c.tc : Thread Cert.FfnIdeal.nD Cert.FfnIdeal.τ).loc Cert.FfnIdeal.main_v31) i = v0 c i)
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![353280, 1024]⟩ : Shape).Idx, (Cert.On_used_rows.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4))) i = 1#1 → r.2.mem ((c.tc : Thread Cert.Reference2Ideal.nD Cert.Reference2Ideal.τ).loc Cert.Reference2Ideal.main_v28) i = v0 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Prompt_PromptIdeal : Prop :=
  True

def algebraic_PromptIdeal_Reference3Ideal [hPromptIdeal : Cert.PromptIdeal.Facts] [hReference3Ideal : Cert.Reference3Ideal.Facts] : Prop :=
  ∀ (m : (ℓ : Loc Cert.PromptIdeal.nD Cert.PromptIdeal.τ Cert.PromptIdeal.sig) → Buf (Elt Ideal) ℓ) (g : Dev Cert.PromptIdeal.nD → PrngReg)
    (m' : (ℓ : Loc Cert.Reference3Ideal.nD Cert.Reference3Ideal.τ Cert.Reference3Ideal.sig) → Buf (Elt Ideal) ℓ) (g' : Dev Cert.Reference3Ideal.nD → PrngReg), Pre_PromptIdeal m →
    (∀ c : Dev Cert.PromptIdeal.nD,
      m' ((c.tc : Thread Cert.Reference3Ideal.nD Cert.Reference3Ideal.τ).loc Cert.Reference3Ideal.main_arg0) = m ((c.tc : Thread Cert.PromptIdeal.nD Cert.PromptIdeal.τ).loc Cert.PromptIdeal.main_arg0)
      ∧ m' ((c.tc : Thread Cert.Reference3Ideal.nD Cert.Reference3Ideal.τ).loc Cert.Reference3Ideal.main_arg1) = m ((c.tc : Thread Cert.PromptIdeal.nD Cert.PromptIdeal.τ).loc Cert.PromptIdeal.main_arg1)
      ∧ m' ((c.tc : Thread Cert.Reference3Ideal.nD Cert.Reference3Ideal.τ).loc Cert.Reference3Ideal.main_arg2) = m ((c.tc : Thread Cert.PromptIdeal.nD Cert.PromptIdeal.τ).loc Cert.PromptIdeal.main_arg2)
      ∧ m' ((c.tc : Thread Cert.Reference3Ideal.nD Cert.Reference3Ideal.τ).loc Cert.Reference3Ideal.main_arg3) = m ((c.tc : Thread Cert.PromptIdeal.nD Cert.PromptIdeal.τ).loc Cert.PromptIdeal.main_arg3)
      ∧ m' ((c.tc : Thread Cert.Reference3Ideal.nD Cert.Reference3Ideal.τ).loc Cert.Reference3Ideal.main_arg4) = m ((c.tc : Thread Cert.PromptIdeal.nD Cert.PromptIdeal.τ).loc Cert.PromptIdeal.main_arg4)
      ∧ m' ((c.tc : Thread Cert.Reference3Ideal.nD Cert.Reference3Ideal.τ).loc Cert.Reference3Ideal.main_arg5) = m ((c.tc : Thread Cert.PromptIdeal.nD Cert.PromptIdeal.τ).loc Cert.PromptIdeal.main_arg5)
      ∧ m' ((c.tc : Thread Cert.Reference3Ideal.nD Cert.Reference3Ideal.τ).loc Cert.Reference3Ideal.main_arg6) = m ((c.tc : Thread Cert.PromptIdeal.nD Cert.PromptIdeal.τ).loc Cert.PromptIdeal.main_arg6)) →
    ∃ (v0 : (c : Dev Cert.PromptIdeal.nD) → Buf (Elt Ideal) ((c.tc : Thread Cert.PromptIdeal.nD Cert.PromptIdeal.τ).loc Cert.PromptIdeal.main_v16_0)) (v1 : (c : Dev Cert.PromptIdeal.nD) → Buf (Elt Ideal) ((c.tc : Thread Cert.PromptIdeal.nD Cert.PromptIdeal.τ).loc Cert.PromptIdeal.main_v16_1)) (v2 : (c : Dev Cert.PromptIdeal.nD) → Buf (Elt Ideal) ((c.tc : Thread Cert.PromptIdeal.nD Cert.PromptIdeal.τ).loc Cert.PromptIdeal.main_v17)) (v3 : (c : Dev Cert.PromptIdeal.nD) → Buf (Elt Ideal) ((c.tc : Thread Cert.PromptIdeal.nD Cert.PromptIdeal.τ).loc Cert.PromptIdeal.main_v18)),
      θ_run (Cert.PromptIdeal.defs (F := Ideal)) (onTc (τ := Cert.PromptIdeal.τ) (Cert.PromptIdeal.main (F := Ideal))) ⟨m, fun _ => 0, g⟩ (fun r => ∀ c : Dev Cert.PromptIdeal.nD,
          r.2.mem ((c.tc : Thread Cert.PromptIdeal.nD Cert.PromptIdeal.τ).loc Cert.PromptIdeal.main_v16_0) = v0 c
          ∧ r.2.mem ((c.tc : Thread Cert.PromptIdeal.nD Cert.PromptIdeal.τ).loc Cert.PromptIdeal.main_v16_1) = v1 c
          ∧ r.2.mem ((c.tc : Thread Cert.PromptIdeal.nD Cert.PromptIdeal.τ).loc Cert.PromptIdeal.main_v17) = v2 c
          ∧ r.2.mem ((c.tc : Thread Cert.PromptIdeal.nD Cert.PromptIdeal.τ).loc Cert.PromptIdeal.main_v18) = v3 c
          ∧ r.2.mem ((c.tc : Thread Cert.PromptIdeal.nD Cert.PromptIdeal.τ).loc Cert.PromptIdeal.main_arg0) = m ((c.tc : Thread Cert.PromptIdeal.nD Cert.PromptIdeal.τ).loc Cert.PromptIdeal.main_arg0)
          ∧ r.2.mem ((c.tc : Thread Cert.PromptIdeal.nD Cert.PromptIdeal.τ).loc Cert.PromptIdeal.main_arg1) = m ((c.tc : Thread Cert.PromptIdeal.nD Cert.PromptIdeal.τ).loc Cert.PromptIdeal.main_arg1)
          ∧ r.2.mem ((c.tc : Thread Cert.PromptIdeal.nD Cert.PromptIdeal.τ).loc Cert.PromptIdeal.main_arg2) = m ((c.tc : Thread Cert.PromptIdeal.nD Cert.PromptIdeal.τ).loc Cert.PromptIdeal.main_arg2)
          ∧ r.2.mem ((c.tc : Thread Cert.PromptIdeal.nD Cert.PromptIdeal.τ).loc Cert.PromptIdeal.main_arg3) = m ((c.tc : Thread Cert.PromptIdeal.nD Cert.PromptIdeal.τ).loc Cert.PromptIdeal.main_arg3)
          ∧ r.2.mem ((c.tc : Thread Cert.PromptIdeal.nD Cert.PromptIdeal.τ).loc Cert.PromptIdeal.main_arg4) = m ((c.tc : Thread Cert.PromptIdeal.nD Cert.PromptIdeal.τ).loc Cert.PromptIdeal.main_arg4)
          ∧ r.2.mem ((c.tc : Thread Cert.PromptIdeal.nD Cert.PromptIdeal.τ).loc Cert.PromptIdeal.main_arg5) = m ((c.tc : Thread Cert.PromptIdeal.nD Cert.PromptIdeal.τ).loc Cert.PromptIdeal.main_arg5)
          ∧ r.2.mem ((c.tc : Thread Cert.PromptIdeal.nD Cert.PromptIdeal.τ).loc Cert.PromptIdeal.main_arg6) = m ((c.tc : Thread Cert.PromptIdeal.nD Cert.PromptIdeal.τ).loc Cert.PromptIdeal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v46) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_v48) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Post_PostIdeal : Prop :=
  True

def algebraic_PostIdeal_Reference4Ideal [hPostIdeal : Cert.PostIdeal.Facts] [hReference4Ideal : Cert.Reference4Ideal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.Reference4Ideal.nD Cert.Reference4Ideal.τ Cert.Reference4Ideal.sig) → Buf (Elt Ideal) ℓ) (g' : Dev Cert.Reference4Ideal.nD → PrngReg), Pre_PostIdeal m →
    (∀ c : Dev Cert.PostIdeal.nD,
      m' ((c.tc : Thread Cert.Reference4Ideal.nD Cert.Reference4Ideal.τ).loc Cert.Reference4Ideal.main_arg0) = m ((c.tc : Thread Cert.PostIdeal.nD Cert.PostIdeal.τ).loc Cert.PostIdeal.main_arg0)
      ∧ m' ((c.tc : Thread Cert.Reference4Ideal.nD Cert.Reference4Ideal.τ).loc Cert.Reference4Ideal.main_arg1) = m ((c.tc : Thread Cert.PostIdeal.nD Cert.PostIdeal.τ).loc Cert.PostIdeal.main_arg1)
      ∧ m' ((c.tc : Thread Cert.Reference4Ideal.nD Cert.Reference4Ideal.τ).loc Cert.Reference4Ideal.main_arg2) = m ((c.tc : Thread Cert.PostIdeal.nD Cert.PostIdeal.τ).loc Cert.PostIdeal.main_arg2)
      ∧ m' ((c.tc : Thread Cert.Reference4Ideal.nD Cert.Reference4Ideal.τ).loc Cert.Reference4Ideal.main_arg3) = m ((c.tc : Thread Cert.PostIdeal.nD Cert.PostIdeal.τ).loc Cert.PostIdeal.main_arg3)
      ∧ m' ((c.tc : Thread Cert.Reference4Ideal.nD Cert.Reference4Ideal.τ).loc Cert.Reference4Ideal.main_arg4) = m ((c.tc : Thread Cert.PostIdeal.nD Cert.PostIdeal.τ).loc Cert.PostIdeal.main_arg4)
      ∧ m' ((c.tc : Thread Cert.Reference4Ideal.nD Cert.Reference4Ideal.τ).loc Cert.Reference4Ideal.main_arg5) = m ((c.tc : Thread Cert.PostIdeal.nD Cert.PostIdeal.τ).loc Cert.PostIdeal.main_arg5)
      ∧ m' ((c.tc : Thread Cert.Reference4Ideal.nD Cert.Reference4Ideal.τ).loc Cert.Reference4Ideal.main_arg6) = m ((c.tc : Thread Cert.PostIdeal.nD Cert.PostIdeal.τ).loc Cert.PostIdeal.main_arg6)
      ∧ m' ((c.tc : Thread Cert.Reference4Ideal.nD Cert.Reference4Ideal.τ).loc Cert.Reference4Ideal.main_arg7) = m ((c.tc : Thread Cert.PostIdeal.nD Cert.PostIdeal.τ).loc Cert.PostIdeal.main_arg7)
      ∧ m' ((c.tc : Thread Cert.Reference4Ideal.nD Cert.Reference4Ideal.τ).loc Cert.Reference4Ideal.main_arg8) = m ((c.tc : Thread Cert.PostIdeal.nD Cert.PostIdeal.τ).loc Cert.PostIdeal.main_arg8)
      ∧ m' ((c.tc : Thread Cert.Reference4Ideal.nD Cert.Reference4Ideal.τ).loc Cert.Reference4Ideal.main_arg9) = m ((c.tc : Thread Cert.PostIdeal.nD Cert.PostIdeal.τ).loc Cert.PostIdeal.main_arg9)
      ∧ m' ((c.tc : Thread Cert.Reference4Ideal.nD Cert.Reference4Ideal.τ).loc Cert.Reference4Ideal.main_arg10) = m ((c.tc : Thread Cert.PostIdeal.nD Cert.PostIdeal.τ).loc Cert.PostIdeal.main_arg10)) →
    ∃ (v0 : (c : Dev Cert.PostIdeal.nD) → Buf (Elt Ideal) ((c.tc : Thread Cert.PostIdeal.nD Cert.PostIdeal.τ).loc Cert.PostIdeal.main_v16_0)) (v1 : (c : Dev Cert.PostIdeal.nD) → Buf (Elt Ideal) ((c.tc : Thread Cert.PostIdeal.nD Cert.PostIdeal.τ).loc Cert.PostIdeal.main_v16_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v16_0) = v0 c
          ∧ r.2.mem ((c.tc : Thread Cert.PostIdeal.nD Cert.PostIdeal.τ).loc Cert.PostIdeal.main_v16_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v67) = v0 c
          ∧ r.2.mem ((c.tc : Thread Cert.Reference4Ideal.nD Cert.Reference4Ideal.τ).loc Cert.Reference4Ideal.main_v69) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Latent_LatentIdeal : Prop :=
  True

def algebraic_LatentIdeal_Reference5Ideal [hLatentIdeal : Cert.LatentIdeal.Facts] [hReference5Ideal : Cert.Reference5Ideal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.Reference5Ideal.nD Cert.Reference5Ideal.τ Cert.Reference5Ideal.sig) → Buf (Elt Ideal) ℓ) (g' : Dev Cert.Reference5Ideal.nD → PrngReg), Pre_LatentIdeal m →
    (∀ c : Dev Cert.LatentIdeal.nD,
      m' ((c.tc : Thread Cert.Reference5Ideal.nD Cert.Reference5Ideal.τ).loc Cert.Reference5Ideal.main_arg0) = m ((c.tc : Thread Cert.LatentIdeal.nD Cert.LatentIdeal.τ).loc Cert.LatentIdeal.main_arg0)
      ∧ m' ((c.tc : Thread Cert.Reference5Ideal.nD Cert.Reference5Ideal.τ).loc Cert.Reference5Ideal.main_arg1) = m ((c.tc : Thread Cert.LatentIdeal.nD Cert.LatentIdeal.τ).loc Cert.LatentIdeal.main_arg1)
      ∧ m' ((c.tc : Thread Cert.Reference5Ideal.nD Cert.Reference5Ideal.τ).loc Cert.Reference5Ideal.main_arg2) = m ((c.tc : Thread Cert.LatentIdeal.nD Cert.LatentIdeal.τ).loc Cert.LatentIdeal.main_arg2)
      ∧ m' ((c.tc : Thread Cert.Reference5Ideal.nD Cert.Reference5Ideal.τ).loc Cert.Reference5Ideal.main_arg3) = m ((c.tc : Thread Cert.LatentIdeal.nD Cert.LatentIdeal.τ).loc Cert.LatentIdeal.main_arg3)) →
    ∃ (v0 : (c : Dev Cert.LatentIdeal.nD) → Buf (Elt Ideal) ((c.tc : Thread Cert.LatentIdeal.nD Cert.LatentIdeal.τ).loc Cert.LatentIdeal.main_v47_0)) (v1 : (c : Dev Cert.LatentIdeal.nD) → Buf (Elt Ideal) ((c.tc : Thread Cert.LatentIdeal.nD Cert.LatentIdeal.τ).loc Cert.LatentIdeal.main_v47_1)) (v2 : (c : Dev Cert.LatentIdeal.nD) → Buf (Elt Ideal) ((c.tc : Thread Cert.LatentIdeal.nD Cert.LatentIdeal.τ).loc Cert.LatentIdeal.main_v47_2)) (v3 : (c : Dev Cert.LatentIdeal.nD) → Buf (Elt Ideal) ((c.tc : Thread Cert.LatentIdeal.nD Cert.LatentIdeal.τ).loc Cert.LatentIdeal.main_v47_3)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v47_0) = v0 c
          ∧ r.2.mem ((c.tc : Thread Cert.LatentIdeal.nD Cert.LatentIdeal.τ).loc Cert.LatentIdeal.main_v47_1) = v1 c
          ∧ r.2.mem ((c.tc : Thread Cert.LatentIdeal.nD Cert.LatentIdeal.τ).loc Cert.LatentIdeal.main_v47_2) = v2 c
          ∧ r.2.mem ((c.tc : Thread Cert.LatentIdeal.nD Cert.LatentIdeal.τ).loc Cert.LatentIdeal.main_v47_3) = v3 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2)
          ∧ r.2.mem ((c.tc : Thread Cert.LatentIdeal.nD Cert.LatentIdeal.τ).loc Cert.LatentIdeal.main_arg3) = m ((c.tc : Thread Cert.LatentIdeal.nD Cert.LatentIdeal.τ).loc Cert.LatentIdeal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v150) = v0 c
          ∧ r.2.mem ((c.tc : Thread Cert.Reference5Ideal.nD Cert.Reference5Ideal.τ).loc Cert.Reference5Ideal.main_v152) = v1 c
          ∧ r.2.mem ((c.tc : Thread Cert.Reference5Ideal.nD Cert.Reference5Ideal.τ).loc Cert.Reference5Ideal.main_v154) = v2 c
          ∧ r.2.mem ((c.tc : Thread Cert.Reference5Ideal.nD Cert.Reference5Ideal.τ).loc Cert.Reference5Ideal.main_v156) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Ctx_CtxIdeal : Prop :=
  True

def algebraic_CtxIdeal_Reference6Ideal_pre_finite_prompt [hCtxIdeal : Cert.CtxIdeal.Facts] [hReference6Ideal : Cert.Reference6Ideal.Facts] [hPre_finite_prompt : Cert.Pre_finite_prompt.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.Reference6Ideal.nD Cert.Reference6Ideal.τ Cert.Reference6Ideal.sig) → Buf (Elt Ideal) ℓ) (g' : Dev Cert.Reference6Ideal.nD → PrngReg), Pre_CtxIdeal_finite_prompt m →
    (∀ c : Dev Cert.CtxIdeal.nD,
      m' ((c.tc : Thread Cert.Reference6Ideal.nD Cert.Reference6Ideal.τ).loc Cert.Reference6Ideal.main_arg0) = m ((c.tc : Thread Cert.CtxIdeal.nD Cert.CtxIdeal.τ).loc Cert.CtxIdeal.main_arg0)
      ∧ m' ((c.tc : Thread Cert.Reference6Ideal.nD Cert.Reference6Ideal.τ).loc Cert.Reference6Ideal.main_arg1) = m ((c.tc : Thread Cert.CtxIdeal.nD Cert.CtxIdeal.τ).loc Cert.CtxIdeal.main_arg1)
      ∧ m' ((c.tc : Thread Cert.Reference6Ideal.nD Cert.Reference6Ideal.τ).loc Cert.Reference6Ideal.main_arg2) = m ((c.tc : Thread Cert.CtxIdeal.nD Cert.CtxIdeal.τ).loc Cert.CtxIdeal.main_arg2)
      ∧ m' ((c.tc : Thread Cert.Reference6Ideal.nD Cert.Reference6Ideal.τ).loc Cert.Reference6Ideal.main_arg3) = m ((c.tc : Thread Cert.CtxIdeal.nD Cert.CtxIdeal.τ).loc Cert.CtxIdeal.main_arg3)
      ∧ m' ((c.tc : Thread Cert.Reference6Ideal.nD Cert.Reference6Ideal.τ).loc Cert.Reference6Ideal.main_arg4) = m ((c.tc : Thread Cert.CtxIdeal.nD Cert.CtxIdeal.τ).loc Cert.CtxIdeal.main_arg4)
      ∧ m' ((c.tc : Thread Cert.Reference6Ideal.nD Cert.Reference6Ideal.τ).loc Cert.Reference6Ideal.main_arg5) = m ((c.tc : Thread Cert.CtxIdeal.nD Cert.CtxIdeal.τ).loc Cert.CtxIdeal.main_arg5)) →
    ∃ (v0 : (c : Dev Cert.CtxIdeal.nD) → Buf (Elt Ideal) ((c.tc : Thread Cert.CtxIdeal.nD Cert.CtxIdeal.τ).loc Cert.CtxIdeal.main_v21)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v21) = v0 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v60) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hReference2Ideal : Cert.Reference2Ideal.Facts) (hPrompt : Cert.Prompt.Facts) (hPromptIdeal : Cert.PromptIdeal.Facts) (hReference3Ideal : Cert.Reference3Ideal.Facts) (hPost : Cert.Post.Facts) (hPostIdeal : Cert.PostIdeal.Facts) (hReference4Ideal : Cert.Reference4Ideal.Facts) (hLatent : Cert.Latent.Facts) (hLatentIdeal : Cert.LatentIdeal.Facts) (hReference5Ideal : Cert.Reference5Ideal.Facts) (hCtx : Cert.Ctx.Facts) (hCtxIdeal : Cert.CtxIdeal.Facts) (hReference6Ideal : Cert.Reference6Ideal.Facts) (hPre_finite : Cert.Pre_finite.Facts) (hPre_padded : Cert.Pre_padded.Facts) (hPre_finite_prompt : Cert.Pre_finite_prompt.Facts) (hOn_used_rows : Cert.On_used_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnIdeal_pre_padded (hFfnIdeal := hFfnIdeal) (hPre_padded := hPre_padded)
    ∧ quiescent_Reference2Ideal (hReference2Ideal := hReference2Ideal)
    ∧ quiescent_Reference2Ideal_pre_padded (hReference2Ideal := hReference2Ideal) (hPre_padded := hPre_padded)
    ∧ quiescent_Prompt (hPrompt := hPrompt)
    ∧ quiescent_PromptIdeal (hPromptIdeal := hPromptIdeal)
    ∧ quiescent_Reference3Ideal (hReference3Ideal := hReference3Ideal)
    ∧ quiescent_Post (hPost := hPost)
    ∧ quiescent_PostIdeal (hPostIdeal := hPostIdeal)
    ∧ quiescent_Reference4Ideal (hReference4Ideal := hReference4Ideal)
    ∧ quiescent_Latent (hLatent := hLatent)
    ∧ quiescent_LatentIdeal (hLatentIdeal := hLatentIdeal)
    ∧ quiescent_Reference5Ideal (hReference5Ideal := hReference5Ideal)
    ∧ quiescent_Ctx (hCtx := hCtx)
    ∧ quiescent_CtxIdeal (hCtxIdeal := hCtxIdeal)
    ∧ quiescent_CtxIdeal_pre_finite_prompt (hCtxIdeal := hCtxIdeal) (hPre_finite_prompt := hPre_finite_prompt)
    ∧ quiescent_Reference6Ideal (hReference6Ideal := hReference6Ideal)
    ∧ quiescent_Reference6Ideal_pre_finite_prompt (hReference6Ideal := hReference6Ideal) (hPre_finite_prompt := hPre_finite_prompt)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_Reference2Ideal_on_used_rows_pre_padded (hFfnIdeal := hFfnIdeal) (hReference2Ideal := hReference2Ideal) (hPre_padded := hPre_padded) (hOn_used_rows := hOn_used_rows)
    ∧ preserves_Prompt_PromptIdeal
    ∧ algebraic_PromptIdeal_Reference3Ideal (hPromptIdeal := hPromptIdeal) (hReference3Ideal := hReference3Ideal)
    ∧ preserves_Post_PostIdeal
    ∧ algebraic_PostIdeal_Reference4Ideal (hPostIdeal := hPostIdeal) (hReference4Ideal := hReference4Ideal)
    ∧ preserves_Latent_LatentIdeal
    ∧ algebraic_LatentIdeal_Reference5Ideal (hLatentIdeal := hLatentIdeal) (hReference5Ideal := hReference5Ideal)
    ∧ preserves_Ctx_CtxIdeal
    ∧ algebraic_CtxIdeal_Reference6Ideal_pre_finite_prompt (hCtxIdeal := hCtxIdeal) (hReference6Ideal := hReference6Ideal) (hPre_finite_prompt := hPre_finite_prompt)
-- ==== On_used_rows.lean ====
abbrev S64 : Shape := ⟨1, ![64]⟩
abbrev S353280x1024 : Shape := ⟨2, ![353280, 1024]⟩
abbrev S64x1024x256 : Shape := ⟨3, ![64, 1024, 256]⟩
abbrev S64x256x1024 : Shape := ⟨3, ![64, 256, 1024]⟩
abbrev S353280 : Shape := ⟨1, ![353280]⟩
abbrev S1 : Shape := ⟨1, ![1]⟩
abbrev S_ : Shape := ⟨0, ![]⟩
abbrev S353280x1 : Shape := ⟨2, ![353280, 1]⟩

class Facts : Prop where
  slices_S64_S1_63 : S64.Slices ![63] S1
  shapeCasts_S1_S_ : S1.ShapeCasts S_
  bcast_S_S353280 : S_.BroadcastsInDim S353280 (![] : Fin 0 → Fin S353280.rank)
  bcast_S353280_S353280x1_0 : S353280.BroadcastsInDim S353280x1 (![0] : Fin 1 → Fin S353280x1.rank)
  bcast_S353280x1_S353280x1024_0_1 : S353280x1.BroadcastsInDim S353280x1024 (![0, 1] : Fin 2 → Fin S353280x1024.rank)

variable [Facts]

def fn {F : FTy → Type} [FloatOps F] (main_arg0 : IVec S64 32) (main_arg1 : FVec F S353280x1024 .bf16) (main_arg2 : FVec F S64x1024x256 .f32) (main_arg3 : FVec F S64x1024x256 .f32) (main_arg4 : FVec F S64x256x1024 .f32) : IVec S353280x1024 1 :=
  let main_v0 : IVec S353280 32 := iotaInDim S353280 32 0
  let main_v1 : IVec S1 32 := (extractStridedSlice S1 ![63] · slices_S64_S1_63) main_arg0
  let main_v2 : IVec S_ 32 := shapeCast S_ main_v1 shapeCasts_S1_S_
  let main_v3 : IVec S353280 32 := broadcastInDim S353280 ![] bcast_S_S353280 main_v2
  let main_v4 : IVec S353280 1 := cmpi .slt main_v0 main_v3
  let main_v5 : IVec S353280x1 1 := broadcastInDim S353280x1 ![0] bcast_S353280_S353280x1_0 main_v4
  let main_v6 : IVec S353280x1024 1 := broadcastInDim S353280x1024 ![0, 1] bcast_S353280x1_S353280x1024_0_1 main_v5
  main_v6
-- ==== Pre_finite.lean ====
abbrev S4x4096x512 : Shape := ⟨3, ![4, 4096, 512]⟩
abbrev S4x1x512x4x128 : Shape := ⟨5, ![4, 1, 512, 4, 128]⟩
abbrev S1x2x64 : Shape := ⟨3, ![1, 2, 64]⟩
abbrev S1x128 : Shape := ⟨2, ![1, 128]⟩
abbrev S_ : Shape := ⟨0, ![]⟩

class Facts : Prop where
  bitsLt_bf16_f32 : FTy.bits .bf16 < FTy.bits .f32
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x1x512x4x128 : S_.BroadcastsInDim S4x1x512x4x128 (![] : Fin 0 → Fin S4x1x512x4x128.rank)
  reducesTo_S4x1x512x4x128_S_d0_1_2_3_4 : S4x1x512x4x128.ReducesTo [0, 1, 2, 3, 4] S_
  bcast_S_S1x2x64 : S_.BroadcastsInDim S1x2x64 (![] : Fin 0 → Fin S1x2x64.rank)
  reducesTo_S1x2x64_S_d0_1_2 : S1x2x64.ReducesTo [0, 1, 2] S_

variable [Facts]

def fn_part2 {F : FTy → Type} [FloatOps F] (main_v32 : IVec S_ 1) (main_v33 : FVec F S1x2x64 .f32) (main_cst_11 : FVec F S_ .f32) : IVec S_ 1 :=
  let main_v34 : FVec F S1x2x64 .f32 := broadcastInDim S1x2x64 ![] bcast_S_S1x2x64 main_cst_11
  let main_v35 : IVec S1x2x64 1 := cmpf .olt main_v33 main_v34
  let main_c_12 : IVec S_ 1 := constantI S_ 1 1#1
  let main_v36 : IVec S_ 1 := (fun x v => Host.reduce IntOp.andi x v reducesTo_S1x2x64_S_d0_1_2 h_S_) main_v35 main_c_12
  let main_v37 : IVec S_ 1 := andi main_v32 main_v36
  main_v37

def fn_part1 {F : FTy → Type} [FloatOps F] (main_arg3 : FVec F S4x1x512x4x128 .f32) (main_arg4 : FVec F S4x1x512x4x128 .f32) (main_arg5 : FVec F S1x2x64 .f32) (main_arg6 : FVec F S1x2x64 .f32) (main_v11 : IVec S_ 1) (main_v16 : IVec S_ 1) : IVec S_ 1 :=
  let main_v17 : IVec S_ 1 := andi main_v11 main_v16
  let main_v18 : FVec F S4x1x512x4x128 .f32 := Host.absf main_arg3
  let main_cst_5 : FVec F S_ .f32 := constant S_ .f32 0x7F800000#32
  let main_v19 : FVec F S4x1x512x4x128 .f32 := broadcastInDim S4x1x512x4x128 ![] bcast_S_S4x1x512x4x128 main_cst_5
  let main_v20 : IVec S4x1x512x4x128 1 := cmpf .olt main_v18 main_v19
  let main_c_6 : IVec S_ 1 := constantI S_ 1 1#1
  let main_v21 : IVec S_ 1 := (fun x v => Host.reduce IntOp.andi x v reducesTo_S4x1x512x4x128_S_d0_1_2_3_4 h_S_) main_v20 main_c_6
  let main_v22 : IVec S_ 1 := andi main_v17 main_v21
  let main_v23 : FVec F S4x1x512x4x128 .f32 := Host.absf main_arg4
  let main_cst_7 : FVec F S_ .f32 := constant S_ .f32 0x7F800000#32
  let main_v24 : FVec F S4x1x512x4x128 .f32 := broadcastInDim S4x1x512x4x128 ![] bcast_S_S4x1x512x4x128 main_cst_7
  let main_v25 : IVec S4x1x512x4x128 1 := cmpf .olt main_v23 main_v24
  let main_c_8 : IVec S_ 1 := constantI S_ 1 1#1
  let main_v26 : IVec S_ 1 := (fun x v => Host.reduce IntOp.andi x v reducesTo_S4x1x512x4x128_S_d0_1_2_3_4 h_S_) main_v25 main_c_8
  let main_v27 : IVec S_ 1 := andi main_v22 main_v26
  let main_v28 : FVec F S1x2x64 .f32 := Host.absf main_arg5
  let main_cst_9 : FVec F S_ .f32 := constant S_ .f32 0x7F800000#32
  let main_v29 : FVec F S1x2x64 .f32 := broadcastInDim S1x2x64 ![] bcast_S_S1x2x64 main_cst_9
  let main_v30 : IVec S1x2x64 1 := cmpf .olt main_v28 main_v29
  let main_c_10 : IVec S_ 1 := constantI S_ 1 1#1
  let main_v31 : IVec S_ 1 := (fun x v => Host.reduce IntOp.andi x v reducesTo_S1x2x64_S_d0_1_2 h_S_) main_v30 main_c_10
  let main_v32 : IVec S_ 1 := andi main_v27 main_v31
  let main_v33 : FVec F S1x2x64 .f32 := Host.absf main_arg6
  let main_cst_11 : FVec F S_ .f32 := constant S_ .f32 0x7F800000#32
  fn_part2 (F := F) main_v32 main_v33 main_cst_11

def fn {F : FTy → Type} [FloatOps F] (main_arg0 : FVec F S4x4096x512 .bf16) (main_arg1 : FVec F S4x4096x512 .bf16) (main_arg2 : FVec F S4x4096x512 .bf16) (main_arg3 : FVec F S4x1x512x4x128 .f32) (main_arg4 : FVec F S4x1x512x4x128 .f32) (main_arg5 : FVec F S1x2x64 .f32) (main_arg6 : FVec F S1x2x64 .f32) (main_arg7 : FVec F S1x128 .f32) : IVec S_ 1 :=
  let main_v0 : FVec F S4x4096x512 .f32 := (extf .f32 · bitsLt_bf16_f32) main_arg0
  let main_v1 : FVec F S4x4096x512 .f32 := Host.absf main_v0
  let main_cst : FVec F S_ .f32 := constant S_ .f32 0x7F800000#32
  let main_v2 : FVec F S4x4096x512 .f32 := broadcastInDim S4x4096x512 ![] bcast_S_S4x4096x512 main_cst
  let main_v3 : IVec S4x4096x512 1 := cmpf .olt main_v1 main_v2
  let main_c : IVec S_ 1 := constantI S_ 1 1#1
  let main_v4 : IVec S_ 1 := (fun x v => Host.reduce IntOp.andi x v reducesTo_S4x4096x512_S_d0_1_2 h_S_) main_v3 main_c
  let main_c_0 : IVec S_ 1 := constantI S_ 1 1#1
  let main_v5 : IVec S_ 1 := andi main_c_0 main_v4
  let main_v6 : FVec F S4x4096x512 .f32 := (extf .f32 · bitsLt_bf16_f32) main_arg1
  let main_v7 : FVec F S4x4096x512 .f32 := Host.absf main_v6
  let main_cst_1 : FVec F S_ .f32 := constant S_ .f32 0x7F800000#32
  let main_v8 : FVec F S4x4096x512 .f32 := broadcastInDim S4x4096x512 ![] bcast_S_S4x4096x512 main_cst_1
  let main_v9 : IVec S4x4096x512 1 := cmpf .olt main_v7 main_v8
  let main_c_2 : IVec S_ 1 := constantI S_ 1 1#1
  let main_v10 : IVec S_ 1 := (fun x v => Host.reduce IntOp.andi x v reducesTo_S4x4096x512_S_d0_1_2 h_S_) main_v9 main_c_2
  let main_v11 : IVec S_ 1 := andi main_v5 main_v10
  let main_v12 : FVec F S4x4096x512 .f32 := (extf .f32 · bitsLt_bf16_f32) main_arg2
  let main_v13 : FVec F S4x4096x512 .f32 := Host.absf main_v12
  let main_cst_3 : FVec F S_ .f32 := constant S_ .f32 0x7F800000#32
  let main_v14 : FVec F S4x4096x512 .f32 := broadcastInDim S4x4096x512 ![] bcast_S_S4x4096x512 main_cst_3
  let main_v15 : IVec S4x4096x512 1 := cmpf .olt main_v13 main_v14
  let main_c_4 : IVec S_ 1 := constantI S_ 1 1#1
  let main_v16 : IVec S_ 1 := (fun x v => Host.reduce IntOp.andi x v reducesTo_S4x4096x512_S_d0_1_2 h_S_) main_v15 main_c_4
  fn_part1 (F := F) main_arg3 main_arg4 main_arg5 main_arg6 main_v11 main_v16
-- ==== Pre_finite_prompt.lean ====
abbrev S32x256x512 : Shape := ⟨3, ![32, 256, 512]⟩
abbrev S1x2x64 : Shape := ⟨3, ![1, 2, 64]⟩
abbrev S1x128 : Shape := ⟨2, ![1, 128]⟩
abbrev S_ : Shape := ⟨0, ![]⟩

class Facts : Prop where
  bitsLt_bf16_f32 : FTy.bits .bf16 < FTy.bits .f32
  bcast_S_S32x256x512 : S_.BroadcastsInDim S32x256x512 (![] : Fin 0 → Fin S32x256x512.rank)
  reducesTo_S32x256x512_S_d0_1_2 : S32x256x512.ReducesTo [0, 1, 2] S_
  h_S_ : 0 < S_.numel
  bcast_S_S1x2x64 : S_.BroadcastsInDim S1x2x64 (![] : Fin 0 → Fin S1x2x64.rank)
  reducesTo_S1x2x64_S_d0_1_2 : S1x2x64.ReducesTo [0, 1, 2] S_

variable [Facts]

def fn_part1 {F : FTy → Type} [FloatOps F] (main_arg4 : FVec F S1x2x64 .f32) (main_v15 : IVec S_ 1) (main_v16 : FVec F S1x2x64 .f32) : IVec S_ 1 :=
  let main_cst_5 : FVec F S_ .f32 := constant S_ .f32 0x7F800000#32
  let main_v17 : FVec F S1x2x64 .f32 := broadcastInDim S1x2x64 ![] bcast_S_S1x2x64 main_cst_5
  let main_v18 : IVec S1x2x64 1 := cmpf .olt main_v16 main_v17
  let main_c_6 : IVec S_ 1 := constantI S_ 1 1#1
  let main_v19 : IVec S_ 1 := (fun x v => Host.reduce IntOp.andi x v reducesTo_S1x2x64_S_d0_1_2 h_S_) main_v18 main_c_6
  let main_v20 : IVec S_ 1 := andi main_v15 main_v19
  let main_v21 : FVec F S1x2x64 .f32 := Host.absf main_arg4
  let main_cst_7 : FVec F S_ .f32 := constant S_ .f32 0x7F800000#32
  let main_v22 : FVec F S1x2x64 .f32 := broadcastInDim S1x2x64 ![] bcast_S_S1x2x64 main_cst_7
  let main_v23 : IVec S1x2x64 1 := cmpf .olt main_v21 main_v22
  let main_c_8 : IVec S_ 1 := constantI S_ 1 1#1
  let main_v24 : IVec S_ 1 := (fun x v => Host.reduce IntOp.andi x v reducesTo_S1x2x64_S_d0_1_2 h_S_) main_v23 main_c_8
  let main_v25 : IVec S_ 1 := andi main_v20 main_v24
  main_v25

def fn {F : FTy → Type} [FloatOps F] (main_arg0 : FVec F S32x256x512 .bf16) (main_arg1 : FVec F S32x256x512 .f32) (main_arg2 : FVec F S32x256x512 .f32) (main_arg3 : FVec F S1x2x64 .f32) (main_arg4 : FVec F S1x2x64 .f32) (main_arg5 : FVec F S1x128 .f32) : IVec S_ 1 :=
  let main_v0 : FVec F S32x256x512 .f32 := (extf .f32 · bitsLt_bf16_f32) main_arg0
  let main_v1 : FVec F S32x256x512 .f32 := Host.absf main_v0
  let main_cst : FVec F S_ .f32 := constant S_ .f32 0x7F800000#32
  let main_v2 : FVec F S32x256x512 .f32 := broadcastInDim S32x256x512 ![] bcast_S_S32x256x512 main_cst
  let main_v3 : IVec S32x256x512 1 := cmpf .olt main_v1 main_v2
  let main_c : IVec S_ 1 := constantI S_ 1 1#1
  let main_v4 : IVec S_ 1 := (fun x v => Host.reduce IntOp.andi x v reducesTo_S32x256x512_S_d0_1_2 h_S_) main_v3 main_c
  let main_c_0 : IVec S_ 1 := constantI S_ 1 1#1
  let main_v5 : IVec S_ 1 := andi main_c_0 main_v4
  let main_v6 : FVec F S32x256x512 .f32 := Host.absf main_arg1
  let main_cst_1 : FVec F S_ .f32 := constant S_ .f32 0x7F800000#32
  let main_v7 : FVec F S32x256x512 .f32 := broadcastInDim S32x256x512 ![] bcast_S_S32x256x512 main_cst_1
  let main_v8 : IVec S32x256x512 1 := cmpf .olt main_v6 main_v7
  let main_c_2 : IVec S_ 1 := constantI S_ 1 1#1
  let main_v9 : IVec S_ 1 := (fun x v => Host.reduce IntOp.andi x v reducesTo_S32x256x512_S_d0_1_2 h_S_) main_v8 main_c_2
  let main_v10 : IVec S_ 1 := andi main_v5 main_v9
  let main_v11 : FVec F S32x256x512 .f32 := Host.absf main_arg2
  let main_cst_3 : FVec F S_ .f32 := constant S_ .f32 0x7F800000#32
  let main_v12 : FVec F S32x256x512 .f32 := broadcastInDim S32x256x512 ![] bcast_S_S32x256x512 main_cst_3
  let main_v13 : IVec S32x256x512 1 := cmpf .olt main_v11 main_v12
  let main_c_4 : IVec S_ 1 := constantI S_ 1 1#1
  let main_v14 : IVec S_ 1 := (fun x v => Host.reduce IntOp.andi x v reducesTo_S32x256x512_S_d0_1_2 h_S_) main_v13 main_c_4
  let main_v15 : IVec S_ 1 := andi main_v10 main_v14
  let main_v16 : FVec F S1x2x64 .f32 := Host.absf main_arg3
  fn_part1 (F := F) main_arg4 main_v15 main_v16
-- ==== Pre_padded.lean ====
abbrev S64 : Shape := ⟨1, ![64]⟩
abbrev S353280x1024 : Shape := ⟨2, ![353280, 1024]⟩
abbrev S64x1024x256 : Shape := ⟨3, ![64, 1024, 256]⟩
abbrev S64x256x1024 : Shape := ⟨3, ![64, 256, 1024]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel

variable [Facts]

def fn {F : FTy → Type} [FloatOps F] (main_arg0 : IVec S64 32) (main_arg1 : FVec F S353280x1024 .bf16) (main_arg2 : FVec F S64x1024x256 .f32) (main_arg3 : FVec F S64x1024x256 .f32) (main_arg4 : FVec F S64x256x1024 .f32) : IVec S_ 1 :=
  let main_c : IVec S_ 32 := constantI S_ 32 1023#32
  let main_v0 : IVec S64 32 := broadcastInDim S64 ![] bcast_S_S64 main_c
  let main_v1 : IVec S64 32 := andi main_arg0 main_v0
  let main_c_0 : IVec S_ 32 := constantI S_ 32 0#32
  let main_v2 : IVec S64 32 := broadcastInDim S64 ![] bcast_S_S64 main_c_0
  let main_v3 : IVec S64 1 := cmpi .eq main_v1 main_v2
  let main_c_1 : IVec S_ 1 := constantI S_ 1 1#1
  let main_v4 : IVec S_ 1 := (fun x v => Host.reduce IntOp.andi x v reducesTo_S64_S_d0 h_S_) main_v3 main_c_1
  main_v4
-- ==== Kernel.lean ====
abbrev S4x4096x512 : Shape := ⟨3, ![4, 4096, 512]⟩
abbrev S4x1x512x4x128 : Shape := ⟨5, ![4, 1, 512, 4, 128]⟩
abbrev S1x2x64 : Shape := ⟨3, ![1, 2, 64]⟩
abbrev S1x128 : Shape := ⟨2, ![1, 128]⟩
abbrev S2x64 : Shape := ⟨2, ![2, 64]⟩
abbrev S1x64 : Shape := ⟨2, ![1, 64]⟩
abbrev S64 : Shape := ⟨1, ![64]⟩
abbrev S_ : Shape := ⟨0, ![]⟩
abbrev S1 : Shape := ⟨1, ![1]⟩
abbrev S128 : Shape := ⟨1, ![128]⟩
abbrev S4x512x4x128 : Shape := ⟨4, ![4, 512, 4, 128]⟩
abbrev S4x512x512 : Shape := ⟨3, ![4, 512, 512]⟩
abbrev S1x1024x128 : Shape := ⟨3, ![1, 1024, 128]⟩
abbrev S1x4096x128 : Shape := ⟨3, ![1, 4096, 128]⟩
abbrev S1x512x128 : Shape := ⟨3, ![1, 512, 128]⟩
abbrev S2x1024x4608 : Shape := ⟨3, ![2, 1024, 4608]⟩
abbrev S1024x128 : Shape := ⟨2, ![1024, 128]⟩
abbrev S512x128 : Shape := ⟨2, ![512, 128]⟩
abbrev S1024x512 : Shape := ⟨2, ![1024, 512]⟩
abbrev S1x1024x512 : Shape := ⟨3, ![1, 1024, 512]⟩
abbrev S1024 : Shape := ⟨1, ![1024]⟩
abbrev S1024x1 : Shape := ⟨2, ![1024, 1]⟩
abbrev S512x256 : Shape := ⟨2, ![512, 256]⟩
abbrev S1024x256 : Shape := ⟨2, ![1024, 256]⟩

abbrev nBuf : Space → Nat
  | .hbm => 39
  | .vmem => 14
  | .smem => 1
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x1x512x4x128, .f32⟩
  | .hbm, ⟨4, _⟩ => ⟨S4x1x512x4x128, .f32⟩
  | .hbm, ⟨5, _⟩ => ⟨S1x2x64, .f32⟩
  | .hbm, ⟨6, _⟩ => ⟨S1x2x64, .f32⟩
  | .hbm, ⟨7, _⟩ => ⟨S1x128, .f32⟩
  | .hbm, ⟨8, _⟩ => ⟨S2x64, .f32⟩
  | .hbm, ⟨9, _⟩ => ⟨S2x64, .f32⟩
  | .hbm, ⟨10, _⟩ => ⟨S1x64, .f32⟩
  | .hbm, ⟨11, _⟩ => ⟨S64, .f32⟩
  | .hbm, ⟨12, _⟩ => ⟨S1x64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S128, .f32⟩
  | .hbm, ⟨31, _⟩ => ⟨S1x128, .f32⟩
  | .hbm, ⟨32, _⟩ => ⟨S4x512x4x128, .f32⟩
  | .hbm, ⟨33, _⟩ => ⟨S4x512x512, .f32⟩
  | .hbm, ⟨34, _⟩ => ⟨S4x512x512, .bf16⟩
  | .hbm, ⟨35, _⟩ => ⟨S4x512x4x128, .f32⟩
  | .hbm, ⟨36, _⟩ => ⟨S4x512x512, .f32⟩
  | .hbm, ⟨37, _⟩ => ⟨S4x512x512, .bf16⟩
  | .hbm, ⟨38, _⟩ => ⟨S4x4096x512, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x512x128, .bf16⟩
  | .local _ .vmem, ⟨9, _⟩ => ⟨S1x512x128, .bf16⟩
  | .local _ .vmem, ⟨10, _⟩ => ⟨S1x128, .f32⟩
  | .local _ .vmem, ⟨11, _⟩ => ⟨S1x1024x128, .bf16⟩
  | .local _ .vmem, ⟨12, _⟩ => ⟨S1x1024x128, .bf16⟩
  | .local _ .vmem, ⟨13, _⟩ => ⟨S2x1024x4608, .f32⟩
  | .local _ .smem, ⟨0, _⟩ => ⟨S1, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x4096x512 : Shape := ⟨3, ![4, 4096, 512]⟩
abbrev S4x1x512x4x128 : Shape := ⟨5, ![4, 1, 512, 4, 128]⟩
abbrev S1x2x64 : Shape := ⟨3, ![1, 2, 64]⟩
abbrev S1x128 : Shape := ⟨2, ![1, 128]⟩
abbrev S4x512x4x128 : Shape := ⟨4, ![4, 512, 4, 128]⟩
abbrev S4x4096x4x2x64 : Shape := ⟨5, ![4, 4096, 4, 2, 64]⟩
abbrev S4x4096x4x128 : Shape := ⟨4, ![4, 4096, 4, 128]⟩
abbrev S2x64 : Shape := ⟨2, ![2, 64]⟩
abbrev S1x64 : Shape := ⟨2, ![1, 64]⟩
abbrev S64 : Shape := ⟨1, ![64]⟩
abbrev S_ : Shape := ⟨0, ![]⟩
abbrev S4x512x4x2x64 : Shape := ⟨5, ![4, 512, 4, 2, 64]⟩
abbrev S4x4608x4x2x64 : Shape := ⟨5, ![4, 4608, 4, 2, 64]⟩
abbrev S4x4608x4x128 : Shape := ⟨4, ![4, 4608, 4, 128]⟩
abbrev S4x4x2x4096x4608 : Shape := ⟨5, ![4, 4, 2, 4096, 4608]⟩
abbrev S4x4x2x4096 : Shape := ⟨4, ![4, 4, 2, 4096]⟩
abbrev S4x4x2x4096x1 : Shape := ⟨5, ![4, 4, 2, 4096, 1]⟩
abbrev S4x4x1x4096x4608 : Shape := ⟨5, ![4, 4, 1, 4096, 4608]⟩
abbrev S4x4x4096x4608 : Shape := ⟨4, ![4, 4, 4096, 4608]⟩
abbrev S4x4x128x4096 : Shape := ⟨4, ![4, 4, 128, 4096]⟩
abbrev S128 : Shape := ⟨1, ![128]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩

abbrev nBuf : Space → Nat
  | .hbm => 86
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .bf16⟩
  | .hbm, ⟨2, _⟩ => ⟨S4x4096x512, .bf16⟩
  | .hbm, ⟨3, _⟩ => ⟨S4x1x512x4x128, .f32⟩
  | .hbm, ⟨4, _⟩ => ⟨S4x1x512x4x128, .f32⟩
  | .hbm, ⟨5, _⟩ => ⟨S1x2x64, .f32⟩
  | .hbm, ⟨6, _⟩ => ⟨S1x2x64, .f32⟩
  | .hbm, ⟨7, _⟩ => ⟨S1x128, .f32⟩
  | .hbm, ⟨8, _⟩ => ⟨S4x512x4x128, .f32⟩
  | .hbm, ⟨9, _⟩ => ⟨S4x512x4x128, .f32⟩
  | .hbm, ⟨10, _⟩ => ⟨S4x4096x512, .f32⟩
  | .hbm, ⟨11, _⟩ => ⟨S4x4096x4x2x64, .f32⟩
  | .hbm, ⟨12, _⟩ => ⟨S4x4096x512, .f32⟩
  | .hbm, ⟨13, _⟩ => ⟨S4x4096x4x2x64, .f32⟩
  | .hbm, ⟨14, _⟩ => ⟨S4x4096x512, .f32⟩
  | .hbm, ⟨15, _⟩ => ⟨S4x4096x4x128, .f32⟩
  | .hbm, ⟨16, _⟩ => ⟨S2x64, .f32⟩
  | .hbm, ⟨17, _⟩ => ⟨S2x64, .f32⟩
  | .hbm, ⟨18, _⟩ => ⟨S1x64, .f32⟩
  | .hbm, ⟨19, _⟩ => ⟨S64, .f32⟩
  | .hbm, ⟨20, _⟩ => ⟨S1x64, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x64, .f32⟩
  | .hbm, ⟨27, _⟩ => ⟨S64, .f32⟩
  | .hbm, ⟨28, _⟩ => ⟨S1x64, .f32⟩
  | .hbm, ⟨29, _⟩ => ⟨S64, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4x512x4x2x64, .f32⟩
  | .hbm, ⟨38, _⟩ => ⟨S4x4608x4x2x64, .f32⟩
  | .hbm, ⟨39, _⟩ => ⟨S4x4608x4x128, .f32⟩
  | .hbm, ⟨40, _⟩ => ⟨S4x4x2x4096x4608, .f32⟩
  | .hbm, ⟨41, _⟩ => ⟨S_, .f32⟩
  | .hbm, ⟨42, _⟩ => ⟨S4x4x2x4096, .f32⟩
  | .hbm, ⟨43, _⟩ => ⟨S_, .f32⟩
  | .hbm, ⟨44, _⟩ => ⟨S4x4x2x4096, .f32⟩
  | .hbm, ⟨45, _⟩ => ⟨S4x4x2x4096, .f32⟩
  | .hbm, ⟨46, _⟩ => ⟨S4x4x2x4096x1, .f32⟩
  | .hbm, ⟨47, _⟩ => ⟨S4x4x2x4096x4608, .f32⟩
  | .hbm, ⟨48, _⟩ => ⟨S4x4x2x4096x4608, .f32⟩
  | .hbm, ⟨49, _⟩ => ⟨S4x4x2x4096x4608, .f32⟩
  | .hbm, ⟨50, _⟩ => ⟨S_, .f32⟩
  | .hbm, ⟨51, _⟩ => ⟨S4x4x2x4096, .f32⟩
  | .hbm, ⟨52, _⟩ => ⟨S4x4x2x4096x1, .f32⟩
  | .hbm, ⟨53, _⟩ => ⟨S4x4x2x4096x4608, .f32⟩
  | .hbm, ⟨54, _⟩ => ⟨S4x4x2x4096x4608, .f32⟩
  | .hbm, ⟨55, _⟩ => ⟨S4x4x1x4096x4608, .f32⟩
  | .hbm, ⟨56, _⟩ => ⟨S4x4x4096x4608, .f32⟩
  | .hbm, ⟨57, _⟩ => ⟨S4x4x1x4096x4608, .f32⟩
  | .hbm, ⟨58, _⟩ => ⟨S4x4x4096x4608, .f32⟩
  | .hbm, ⟨59, _⟩ => ⟨S4x4x4096x4608, .f32⟩
  | .hbm, ⟨60, _⟩ => ⟨S4x4x4096x4608, .f32⟩
  | .hbm, ⟨61, _⟩ => ⟨S4x4x4096x4608, .f32⟩
  | .hbm, ⟨62, _⟩ => ⟨S4x4x128x4096, .f32⟩
  | .hbm, ⟨63, _⟩ => ⟨S4x4096x4x128, .f32⟩
  | .hbm, ⟨64, _⟩ => ⟨S128, .f32⟩
  | .hbm, ⟨65, _⟩ => ⟨S4x4096x4x128, .f32⟩
  | .hbm, ⟨66, _⟩ => ⟨S_, .f32⟩
  | .hbm, ⟨67, _⟩ => ⟨S4x4096x4, .f32⟩
  | .hbm, ⟨68, _⟩ => ⟨S4x4096x4x1, .f32⟩
  | .hbm, ⟨69, _⟩ => ⟨S_, .f32⟩
  | .hbm, ⟨70, _⟩ => ⟨S4x4096x4x1, .f32⟩
  | .hbm, ⟨71, _⟩ => ⟨S4x4096x4x1, .f32⟩
  | .hbm, ⟨72, _⟩ => ⟨S_, .f32⟩
  | .hbm, ⟨73, _⟩ => ⟨S4x4096x4x1, .f32⟩
  | .hbm, ⟨74, _⟩ => ⟨S4x4096x4x1, .f32⟩
  | .hbm, ⟨75, _⟩ => ⟨S4x4096x4x1, .f32⟩
  | .hbm, ⟨76, _⟩ => ⟨S4x4096x4x128, .f32⟩
  | .hbm, ⟨77, _⟩ => ⟨S4x4096x4x128, .f32⟩
  | .hbm, ⟨78, _⟩ => ⟨S1x1x1x128, .f32⟩
  | .hbm, ⟨79, _⟩ => ⟨S4x4096x4x128, .f32⟩
  | .hbm, ⟨80, _⟩ => ⟨S4x4096x4x128, .f32⟩
  | .hbm, ⟨81, _⟩ => ⟨S_, .f32⟩
  | .hbm, ⟨82, _⟩ => ⟨S4x4096x4x128, .f32⟩
  | .hbm, ⟨83, _⟩ => ⟨S4x4096x4x128, .f32⟩
  | .hbm, ⟨84, _⟩ => ⟨S4x4096x512, .f32⟩
  | .hbm, ⟨85, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Ffn.lean ====
abbrev S64 : Shape := ⟨1, ![64]⟩
abbrev S353280x1024 : Shape := ⟨2, ![353280, 1024]⟩
abbrev S64x1024x256 : Shape := ⟨3, ![64, 1024, 256]⟩
abbrev S64x256x1024 : Shape := ⟨3, ![64, 256, 1024]⟩
abbrev S345 : Shape := ⟨1, ![345]⟩
abbrev S1 : Shape := ⟨1, ![1]⟩
abbrev S_ : Shape := ⟨0, ![]⟩
abbrev S1x64 : Shape := ⟨2, ![1, 64]⟩
abbrev S345x1 : Shape := ⟨2, ![345, 1]⟩
abbrev S345x64 : Shape := ⟨2, ![345, 64]⟩
abbrev S344 : Shape := ⟨1, ![344]⟩
abbrev S1024x1024 : Shape := ⟨2, ![1024, 1024]⟩
abbrev S1x1024x256 : Shape := ⟨3, ![1, 1024, 256]⟩
abbrev S1x256x1024 : Shape := ⟨3, ![1, 256, 1024]⟩
abbrev S1024x512 : Shape := ⟨2, ![1024, 512]⟩
abbrev S256x1024 : Shape := ⟨2, ![256, 1024]⟩
abbrev S1024x256 : Shape := ⟨2, ![1024, 256]⟩

abbrev nBuf : Space → Nat
  | .hbm => 58
  | .vmem => 12
  | .smem => 3
  | _ => 0

abbrev bufTy : (tb : Table) → Fin (tcTables nBuf tb) → BufTy
  | .hbm, ⟨0, _⟩ => ⟨S64, .i32⟩
  | .hbm, ⟨1, _⟩ => ⟨S353280x1024, .bf16⟩
  | .hbm, ⟨2, _⟩ => ⟨S64x1024x256, .f32⟩
  | .hbm, ⟨3, _⟩ => ⟨S64x1024x256, .f32⟩
  | .hbm, ⟨4, _⟩ => ⟨S64x256x1024, .f32⟩
  | .hbm, ⟨5, _⟩ => ⟨S345, .i32⟩
  | .hbm, ⟨6, _⟩ => ⟨S1, .i32⟩
  | .hbm, ⟨7, _⟩ => ⟨S_, .i32⟩
  | .hbm, ⟨8, _⟩ => ⟨S_, .i32⟩
  | .hbm, ⟨9, _⟩ => ⟨S345, .i32⟩
  | .hbm, ⟨10, _⟩ => ⟨S345, .i32⟩
  | .hbm, ⟨11, _⟩ => ⟨S345, .i32⟩
  | .hbm, ⟨12, _⟩ => ⟨S345, .i1⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S345, .i32⟩
  | .hbm, ⟨31, _⟩ => ⟨S1x64, .i32⟩
  | .hbm, ⟨32, _⟩ => ⟨S_, .i32⟩
  | .hbm, ⟨33, _⟩ => ⟨S345, .i32⟩
  | .hbm, ⟨34, _⟩ => ⟨S345, .i32⟩
  | .hbm, ⟨35, _⟩ => ⟨S345x1, .i32⟩
  | .hbm, ⟨36, _⟩ => ⟨S345x64, .i32⟩
  | .hbm, ⟨37, _⟩ => ⟨S345x64, .i32⟩
  | .hbm, ⟨38, _⟩ => ⟨S345x64, .i1⟩
  | .hbm, ⟨39, _⟩ => ⟨S345x64, .i32⟩
  | .hbm, ⟨40, _⟩ => ⟨S_, .i32⟩
  | .hbm, ⟨41, _⟩ => ⟨S345, .i32⟩
  | .hbm, ⟨42, _⟩ => ⟨S_, .i32⟩
  | .hbm, ⟨43, _⟩ => ⟨S345, .i32⟩
  | .hbm, ⟨44, _⟩ => ⟨S_, .i1⟩
  | .hbm, ⟨45, _⟩ => ⟨S1, .i1⟩
  | .hbm, ⟨46, _⟩ => ⟨S344, .i32⟩
  | .hbm, ⟨47, _⟩ => ⟨S344, .i32⟩
  | .hbm, ⟨48, _⟩ => ⟨S344, .i1⟩
  | .hbm, ⟨49, _⟩ => ⟨S345, .i1⟩
  | .hbm, ⟨50, _⟩ => ⟨S345, .i32⟩
  | .hbm, ⟨51, _⟩ => ⟨S_, .i32⟩
  | .hbm, ⟨52, _⟩ => ⟨S345, .i32⟩
  | .hbm, ⟨53, _⟩ => ⟨S345, .i32⟩
  | .hbm, ⟨54, _⟩ => ⟨S_, .i32⟩
  | .hbm, ⟨55, _⟩ => ⟨S_, .i32⟩
  | .hbm, ⟨56, _⟩ => ⟨S345, .i32⟩
  | .hbm, ⟨57, _⟩ => ⟨S353280x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x512, .bf16⟩
  | .local _ .vmem, ⟨11, _⟩ => ⟨S256x1024, .bf16⟩
  | .local _ .smem, ⟨0, _⟩ => ⟨S345, .i32⟩
  | .local _ .smem, ⟨1, _⟩ => ⟨S345, .i32⟩
  | .local _ .smem, ⟨2, _⟩ => ⟨S345, .i32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c : Ref sig .tc := ⟨.hbm, 20, rfl⟩
abbrev main_call0_v6 : Ref sig .tc := ⟨.hbm, 21, rfl⟩
abbrev main_call0_v7 : Ref sig .tc := ⟨.hbm, 22, rfl⟩
abbrev main_call0_c_0 : Ref sig .tc := ⟨.hbm, 23, rfl⟩
abbrev main_call0_v8 : Ref sig .tc := ⟨.hbm, 24, rfl⟩
abbrev main_v7 : Ref sig .tc := ⟨.hbm, 25, rfl⟩
abbrev main_c_1 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_call1_v0 : Ref sig .tc := ⟨.hbm, 30, rfl⟩
abbrev main_v11 : Ref sig .tc := ⟨.hbm, 31, rfl⟩
abbrev main_c_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_c_6 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_7 : Ref sig .tc := ⟨.hbm, 51, rfl⟩
abbrev main_v28 : Ref sig .tc := ⟨.hbm, 52, rfl⟩
abbrev main_v29 : Ref sig .tc := ⟨.hbm, 53, rfl⟩
abbrev main_c_8 : Ref sig .tc := ⟨.hbm, 54, rfl⟩
abbrev main_call2_v0 : Ref sig .tc := ⟨.hbm, 55, rfl⟩
abbrev main_call2_v1 : Ref sig .tc := ⟨.hbm, 56, rfl⟩
abbrev main_v31 : Ref sig .tc := ⟨.hbm, 57, rfl⟩
abbrev main_v21 : Ref sig .tc := ⟨.smem, 0, rfl⟩
abbrev main_v10 : Ref sig .tc := ⟨.smem, 1, rfl⟩
abbrev main_v30 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![345], ![false]⟩

abbrev pre0 : Pipeline.Prefetch sig := ⟨3, ![main_v21.idx, main_v10.idx, main_v30.idx], fun | 0 => main_v21.names | 1 => main_v10.names | 2 => main_v30.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (v1 : BitVec 32) : BitVec 1 :=
  let c0_i32_0 : BitVec 32 := 0#32
  let v5 : BitVec 1 := Scalar.cmpi .ne v1 c0_i32_0
  let v6 : BitVec 32 := Scalar.extui v5
  let c0_i32_1 : BitVec 32 := 0#32
  let v7 : BitVec 1 := Scalar.cmpi .ne v6 c0_i32_1
  v7

def cc0_transform_0 (k0_off1_inb : ∀ i : grid0.Coords, ∀ a, (k0_off1 i) a + S1.size a ≤ S345.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S345) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S345.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S345) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S345.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S345) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S345.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S345) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S345.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S345) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S64 : Shape := ⟨1, ![64]⟩
abbrev S353280x1024 : Shape := ⟨2, ![353280, 1024]⟩
abbrev S64x1024x256 : Shape := ⟨3, ![64, 1024, 256]⟩
abbrev S64x256x1024 : Shape := ⟨3, ![64, 256, 1024]⟩
abbrev S353280 : Shape := ⟨1, ![353280]⟩
abbrev S1x64 : Shape := ⟨2, ![1, 64]⟩
abbrev S353280x1 : Shape := ⟨2, ![353280, 1]⟩
abbrev S353280x64 : Shape := ⟨2, ![353280, 64]⟩
abbrev S_ : Shape := ⟨0, ![]⟩
abbrev S64x353280 : Shape := ⟨2, ![64, 353280]⟩
abbrev S64x353280x1 : Shape := ⟨3, ![64, 353280, 1]⟩
abbrev S64x256x353280 : Shape := ⟨3, ![64, 256, 353280]⟩
abbrev S64x353280x256 : Shape := ⟨3, ![64, 353280, 256]⟩
abbrev S64x353280x1024 : Shape := ⟨3, ![64, 353280, 1024]⟩

abbrev nBuf : Space → Nat
  | .hbm => 44
  | .vmem => 0
  | .smem => 0
  | _ => 0

abbrev bufTy : (tb : Table) → Fin (tcTables nBuf tb) → BufTy
  | .hbm, ⟨0, _⟩ => ⟨S64, .i32⟩
  | .hbm, ⟨1, _⟩ => ⟨S353280x1024, .bf16⟩
  | .hbm, ⟨2, _⟩ => ⟨S64x1024x256, .f32⟩
  | .hbm, ⟨3, _⟩ => ⟨S64x1024x256, .f32⟩
  | .hbm, ⟨4, _⟩ => ⟨S64x256x1024, .f32⟩
  | .hbm, ⟨5, _⟩ => ⟨S353280x1024, .f32⟩
  | .hbm, ⟨6, _⟩ => ⟨S353280, .i32⟩
  | .hbm, ⟨7, _⟩ => ⟨S1x64, .i32⟩
  | .hbm, ⟨8, _⟩ => ⟨S353280x1, .i32⟩
  | .hbm, ⟨9, _⟩ => ⟨S353280x64, .i32⟩
  | .hbm, ⟨10, _⟩ => ⟨S353280x64, .i32⟩
  | .hbm, ⟨11, _⟩ => ⟨S353280x64, .i1⟩
  | .hbm, ⟨12, _⟩ => ⟨S353280x64, .i32⟩
  | .hbm, ⟨13, _⟩ => ⟨S_, .i32⟩
  | .hbm, ⟨14, _⟩ => ⟨S353280, .i32⟩
  | .hbm, ⟨15, _⟩ => ⟨S353280x1, .i32⟩
  | .hbm, ⟨16, _⟩ => ⟨S64, .i32⟩
  | .hbm, ⟨17, _⟩ => ⟨S1x64, .i32⟩
  | .hbm, ⟨18, _⟩ => ⟨S353280x64, .i32⟩
  | .hbm, ⟨19, _⟩ => ⟨S353280x64, .i32⟩
  | .hbm, ⟨20, _⟩ => ⟨S353280x64, .i1⟩
  | .hbm, ⟨21, _⟩ => ⟨S353280x64, .f32⟩
  | .hbm, ⟨22, _⟩ => ⟨S64x353280, .f32⟩
  | .hbm, ⟨23, _⟩ => ⟨S64x353280x1, .f32⟩
  | .hbm, ⟨24, _⟩ => ⟨S64x256x353280, .f32⟩
  | .hbm, ⟨25, _⟩ => ⟨S64x353280x256, .f32⟩
  | .hbm, ⟨26, _⟩ => ⟨S64x256x353280, .f32⟩
  | .hbm, ⟨27, _⟩ => ⟨S64x353280x256, .f32⟩
  | .hbm, ⟨28, _⟩ => ⟨S64x353280x256, .f32⟩
  | .hbm, ⟨29, _⟩ => ⟨S64x353280x256, .f32⟩
  | .hbm, ⟨30, _⟩ => ⟨S_, .f32⟩
  | .hbm, ⟨31, _⟩ => ⟨S64x353280x256, .f32⟩
  | .hbm, ⟨32, _⟩ => ⟨S64x353280x256, .f32⟩
  | .hbm, ⟨33, _⟩ => ⟨S_, .f32⟩
  | .hbm, ⟨34, _⟩ => ⟨S64x353280x256, .f32⟩
  | .hbm, ⟨35, _⟩ => ⟨S64x353280x256, .f32⟩
  | .hbm, ⟨36, _⟩ => ⟨S64x353280x256, .f32⟩
  | .hbm, ⟨37, _⟩ => ⟨S64x353280x256, .f32⟩
  | .hbm, ⟨38, _⟩ => ⟨S64x353280x1024, .f32⟩
  | .hbm, ⟨39, _⟩ => ⟨S64x353280x1024, .f32⟩
  | .hbm, ⟨40, _⟩ => ⟨S64x353280x1024, .f32⟩
  | .hbm, ⟨41, _⟩ => ⟨S_, .f32⟩
  | .hbm, ⟨42, _⟩ => ⟨S353280x1024, .f32⟩
  | .hbm, ⟨43, _⟩ => ⟨S353280x1024, .bf16⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Prompt.lean ====
abbrev S32x256x1024 : Shape := ⟨3, ![32, 256, 1024]⟩
abbrev S4x1024 : Shape := ⟨2, ![4, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1x1024x2048 : Shape := ⟨3, ![1, 1024, 2048]⟩
abbrev S_ : Shape := ⟨0, ![]⟩
abbrev S8x1024 : Shape := ⟨2, ![8, 1024]⟩
abbrev S1 : Shape := ⟨1, ![1]⟩
abbrev S1024x6144 : Shape := ⟨2, ![1024, 6144]⟩
abbrev S6144 : Shape := ⟨1, ![6144]⟩
abbrev S8x6144 : Shape := ⟨2, ![8, 6144]⟩
abbrev S1024x1536 : Shape := ⟨2, ![1024, 1536]⟩
abbrev S1x1536 : Shape := ⟨2, ![1, 1536]⟩
abbrev S8x1536 : Shape := ⟨2, ![8, 1536]⟩
abbrev S1x1x6144 : Shape := ⟨3, ![1, 1, 6144]⟩
abbrev S1024x2048 : Shape := ⟨2, ![1024, 2048]⟩
abbrev S8192x1024 : Shape := ⟨2, ![8192, 1024]⟩
abbrev S8192x512 : Shape := ⟨2, ![8192, 512]⟩
abbrev S1024x1024 : Shape := ⟨2, ![1024, 1024]⟩
abbrev S1024x512 : Shape := ⟨2, ![1024, 512]⟩
abbrev S1024x1 : Shape := ⟨2, ![1024, 1]⟩
abbrev S32x1x256x4x128 : Shape := ⟨5, ![32, 1, 256, 4, 128]⟩

abbrev nBuf : Space → Nat
  | .hbm => 32
  | .vmem => 21
  | .smem => 0
  | _ => 0

abbrev bufTy : (tb : Table) → Fin (tcTables nBuf tb) → BufTy
  | .hbm, ⟨0, _⟩ => ⟨S32x256x1024, .f32⟩
  | .hbm, ⟨1, _⟩ => ⟨S4x1024, .f32⟩
  | .hbm, ⟨2, _⟩ => ⟨S1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x2048, .f32⟩
  | .hbm, ⟨7, _⟩ => ⟨S_, .f32⟩
  | .hbm, ⟨8, _⟩ => ⟨S8x1024, .f32⟩
  | .hbm, ⟨9, _⟩ => ⟨S_, .i32⟩
  | .hbm, ⟨10, _⟩ => ⟨S1, .i32⟩
  | .hbm, ⟨11, _⟩ => ⟨S8x1024, .f32⟩
  | .hbm, ⟨12, _⟩ => ⟨S_, .i32⟩
  | .hbm, ⟨13, _⟩ => ⟨S1, .i32⟩
  | .hbm, ⟨14, _⟩ => ⟨S8x1024, .f32⟩
  | .hbm, ⟨15, _⟩ => ⟨S1024x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S1x6144, .f32⟩
  | .hbm, ⟨20, _⟩ => ⟨S1x1x6144, .f32⟩
  | .hbm, ⟨21, _⟩ => ⟨S1024x2048, .f32⟩
  | .hbm, ⟨22, _⟩ => ⟨S1024x2048, .bf16⟩
  | .hbm, ⟨23, _⟩ => ⟨S8192x1024, .f32⟩
  | .hbm, ⟨24, _⟩ => ⟨S1024, .f32⟩
  | .hbm, ⟨25, _⟩ => ⟨S1x1024, .f32⟩
  | .hbm, ⟨26, _⟩ => ⟨S8192x512, .f32⟩
  | .hbm, ⟨27, _⟩ => ⟨S8192x512, .bf16⟩
  | .hbm, ⟨28, _⟩ => ⟨S8192x512, .f32⟩
  | .hbm, ⟨29, _⟩ => ⟨S8192x512, .f32⟩
  | .hbm, ⟨30, _⟩ => ⟨S32x1x256x4x128, .f32⟩
  | .hbm, ⟨31, _⟩ => ⟨S32x1x256x4x128, .f32⟩
  | .local _ .vmem, ⟨0, _⟩ => ⟨S8x1024, .f32⟩
  | .local _ .vmem, ⟨1, _⟩ => ⟨S1024x1536, .f32⟩
  | .local _ .vmem, ⟨2, _⟩ => ⟨S1024x1536, .f32⟩
  | .local _ .vmem, ⟨3, _⟩ => ⟨S1x1536, .f32⟩
  | .local _ .vmem, ⟨4, _⟩ => ⟨S1x1536, .f32⟩
  | .local _ .vmem, ⟨5, _⟩ => ⟨S8x1536, .f32⟩
  | .local _ .vmem, ⟨6, _⟩ => ⟨S8x1536, .f32⟩
  | .local _ .vmem, ⟨7, _⟩ => ⟨S1024x1024, .f32⟩
  | .local _ .vmem, ⟨8, _⟩ => ⟨S1024x1024, .f32⟩
  | .local _ .vmem, ⟨9, _⟩ => ⟨S1x1x6144, .f32⟩
  | .local _ .vmem, ⟨10, _⟩ => ⟨S1x1x6144, .f32⟩
  | .local _ .vmem, ⟨11, _⟩ => ⟨S1x1024, .f32⟩
  | .local _ .vmem, ⟨12, _⟩ => ⟨S1024x2048, .bf16⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S1024x512, .f32⟩
  | .local _ .vmem, ⟨18, _⟩ => ⟨S1024x512, .f32⟩
  | .local _ .vmem, ⟨19, _⟩ => ⟨S1024x512, .f32⟩
  | .local _ .vmem, ⟨20, _⟩ => ⟨S1024x512, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x6144 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1024x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1024x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== Reference3Ideal.lean ====
abbrev S32x256x1024 : Shape := ⟨3, ![32, 256, 1024]⟩
abbrev S4x1024 : Shape := ⟨2, ![4, 1024]⟩
abbrev S1024 : Shape := ⟨1, ![1024]⟩
abbrev S1x1024x6144 : Shape := ⟨3, ![1, 1024, 6144]⟩
abbrev S1x6144 : Shape := ⟨2, ![1, 6144]⟩
abbrev S1x1024 : Shape := ⟨2, ![1, 1024]⟩
abbrev S1x1024x2048 : Shape := ⟨3, ![1, 1024, 2048]⟩
abbrev S_ : Shape := ⟨0, ![]⟩
abbrev S1024x6144 : Shape := ⟨2, ![1024, 6144]⟩
abbrev S6144 : Shape := ⟨1, ![6144]⟩
abbrev S1x1x6144 : Shape := ⟨3, ![1, 1, 6144]⟩
abbrev S1x1x1024 : Shape := ⟨3, ![1, 1, 1024]⟩
abbrev S32x256 : Shape := ⟨2, ![32, 256]⟩
abbrev S32x256x1 : Shape := ⟨3, ![32, 256, 1]⟩
abbrev S1024x2048 : Shape := ⟨2, ![1024, 2048]⟩
abbrev S32x256x2048 : Shape := ⟨3, ![32, 256, 2048]⟩
abbrev S32x256x512 : Shape := ⟨3, ![32, 256, 512]⟩
abbrev S32x256x4x128 : Shape := ⟨4, ![32, 256, 4, 128]⟩
abbrev S8192x512 : Shape := ⟨2, ![8192, 512]⟩
abbrev S32x1x256x4x128 : Shape := ⟨5, ![32, 1, 256, 4, 128]⟩

abbrev nBuf : Space → Nat
  | .hbm => 69
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S4x1024, .f32⟩
  | .hbm, ⟨2, _⟩ => ⟨S1024, .f32⟩
  | .hbm, ⟨3, _⟩ => ⟨S1x1024x6144, .f32⟩
  | .hbm, ⟨4, _⟩ => ⟨S1x6144, .f32⟩
  | .hbm, ⟨5, _⟩ => ⟨S1x1024, .f32⟩
  | .hbm, ⟨6, _⟩ => ⟨S1x1024x2048, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1024x6144, .f32⟩
  | .hbm, ⟨18, _⟩ => ⟨S1x6144, .f32⟩
  | .hbm, ⟨19, _⟩ => ⟨S6144, .f32⟩
  | .hbm, ⟨20, _⟩ => ⟨S1x6144, .f32⟩
  | .hbm, ⟨21, _⟩ => ⟨S1x6144, .f32⟩
  | .hbm, ⟨22, _⟩ => ⟨S1x1x6144, .f32⟩
  | .hbm, ⟨23, _⟩ => ⟨S1x1x1024, .f32⟩
  | .hbm, ⟨24, _⟩ => ⟨S1x1x1024, .f32⟩
  | .hbm, ⟨25, _⟩ => ⟨S1x1x1024, .f32⟩
  | .hbm, ⟨26, _⟩ => ⟨S1x1x1024, .f32⟩
  | .hbm, ⟨27, _⟩ => ⟨S1x1x1024, .f32⟩
  | .hbm, ⟨28, _⟩ => ⟨S1x1x1024, .f32⟩
  | .hbm, ⟨29, _⟩ => ⟨S1024, .f32⟩
  | .hbm, ⟨30, _⟩ => ⟨S32x256x1024, .f32⟩
  | .hbm, ⟨31, _⟩ => ⟨S_, .f32⟩
  | .hbm, ⟨32, _⟩ => ⟨S32x256, .f32⟩
  | .hbm, ⟨33, _⟩ => ⟨S32x256x1, .f32⟩
  | .hbm, ⟨34, _⟩ => ⟨S_, .f32⟩
  | .hbm, ⟨35, _⟩ => ⟨S32x256x1, .f32⟩
  | .hbm, ⟨36, _⟩ => ⟨S32x256x1, .f32⟩
  | .hbm, ⟨37, _⟩ => ⟨S_, .f32⟩
  | .hbm, ⟨38, _⟩ => ⟨S32x256x1, .f32⟩
  | .hbm, ⟨39, _⟩ => ⟨S32x256x1, .f32⟩
  | .hbm, ⟨40, _⟩ => ⟨S32x256x1, .f32⟩
  | .hbm, ⟨41, _⟩ => ⟨S32x256x1024, .f32⟩
  | .hbm, ⟨42, _⟩ => ⟨S32x256x1024, .f32⟩
  | .hbm, ⟨43, _⟩ => ⟨S1x1x1024, .f32⟩
  | .hbm, ⟨44, _⟩ => ⟨S32x256x1024, .f32⟩
  | .hbm, ⟨45, _⟩ => ⟨S32x256x1024, .f32⟩
  | .hbm, ⟨46, _⟩ => ⟨S_, .f32⟩
  | .hbm, ⟨47, _⟩ => ⟨S1x1x1024, .f32⟩
  | .hbm, ⟨48, _⟩ => ⟨S1x1x1024, .f32⟩
  | .hbm, ⟨49, _⟩ => ⟨S32x256x1024, .f32⟩
  | .hbm, ⟨50, _⟩ => ⟨S32x256x1024, .f32⟩
  | .hbm, ⟨51, _⟩ => ⟨S32x256x1024, .f32⟩
  | .hbm, ⟨52, _⟩ => ⟨S32x256x1024, .f32⟩
  | .hbm, ⟨53, _⟩ => ⟨S1024x2048, .f32⟩
  | .hbm, ⟨54, _⟩ => ⟨S32x256x2048, .f32⟩
  | .hbm, ⟨55, _⟩ => ⟨S32x256x512, .f32⟩
  | .hbm, ⟨56, _⟩ => ⟨S32x256x512, .f32⟩
  | .hbm, ⟨57, _⟩ => ⟨S32x256x512, .f32⟩
  | .hbm, ⟨58, _⟩ => ⟨S32x256x512, .f32⟩
  | .hbm, ⟨59, _⟩ => ⟨S_, .f32⟩
  | .hbm, ⟨60, _⟩ => ⟨S32x256x512, .f32⟩
  | .hbm, ⟨61, _⟩ => ⟨S32x256x512, .f32⟩
  | .hbm, ⟨62, _⟩ => ⟨S32x256x512, .bf16⟩
  | .hbm, ⟨63, _⟩ => ⟨S32x256x4x128, .f32⟩
  | .hbm, ⟨64, _⟩ => ⟨S32x256x4x128, .f32⟩
  | .hbm, ⟨65, _⟩ => ⟨S8192x512, .f32⟩
  | .hbm, ⟨66, _⟩ => ⟨S8192x512, .bf16⟩
  | .hbm, ⟨67, _⟩ => ⟨S32x1x256x4x128, .f32⟩
  | .hbm, ⟨68, _⟩ => ⟨S32x1x256x4x128, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩

abbrev nD : Nat := 1
abbrev τ : Topo := Topo.v7x

variable {F : FTy → Type} [FloatOps F]
-- ==== Post.lean ====
abbrev S4x4096x1024 : Shape := ⟨3, ![4, 4096, 1024]⟩
abbrev S16384x512 : Shape := ⟨2, ![16384, 512]⟩
abbrev S2x4x4096x512 : Shape := ⟨4, ![2, 4, 4096, 512]⟩
abbrev S4x4096x512 : Shape := ⟨3, ![4, 4096, 512]⟩
abbrev S4x6144 : Shape := ⟨2, ![4, 6144]⟩
abbrev S1x512 : Shape := ⟨2, ![1, 512]⟩
abbrev S1x512x512 : Shape := ⟨3, ![1, 512, 512]⟩
abbrev S1x1024x1024 : Shape := ⟨3, ![1, 1024, 1024]⟩
abbrev S1x1024 : Shape := ⟨2, ![1, 1024]⟩
abbrev S1x1024x64 : Shape := ⟨3, ![1, 1024, 64]⟩
abbrev S1x64 : Shape := ⟨2, ![1, 64]⟩
abbrev S16384x1024 : Shape := ⟨2, ![16384, 1024]⟩
abbrev S4x1x6144 : Shape := ⟨3, ![4, 1, 6144]⟩
abbrev S512x512 : Shape := ⟨2, ![512, 512]⟩
abbrev S1024x1024 : Shape := ⟨2, ![1024, 1024]⟩
abbrev S1024x64 : Shape := ⟨2, ![1024, 64]⟩
abbrev S64x1024 : Shape := ⟨2, ![64, 1024]⟩
abbrev S64 : Shape := ⟨1, ![64]⟩
abbrev S8x8x1 : Shape := ⟨3, ![8, 8, 1]⟩
abbrev S512 : Shape := ⟨1, ![512]⟩
abbrev S1024 : Shape := ⟨1, ![1024]⟩
abbrev S2x16384x512 : Shape := ⟨3, ![2, 16384, 512]⟩
abbrev S64x16384 : Shape := ⟨2, ![64, 16384]⟩
abbrev S512x1024 : Shape := ⟨2, ![512, 1024]⟩
abbrev S1x1x6144 : Shape := ⟨3, ![1, 1, 6144]⟩
abbrev S64x512 : Shape := ⟨2, ![64, 512]⟩
abbrev S1x6144 : Shape := ⟨2, ![1, 6144]⟩
abbrev S512x1 : Shape := ⟨2, ![512, 1]⟩
abbrev S8x8x512 : Shape := ⟨3, ![8, 8, 512]⟩
abbrev S8x512 : Shape := ⟨2, ![8, 512]⟩
abbrev S8x1x512 : Shape := ⟨3, ![8, 1, 512]⟩
abbrev S1x8x512 : Shape := ⟨3, ![1, 8, 512]⟩
abbrev S1x1x512 : Shape := ⟨3, ![1, 1, 512]⟩

abbrev nBuf : Space → Nat
  | .hbm => 30
  | .vmem => 24
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .f32⟩
  | .hbm, ⟨2, _⟩ => ⟨S2x4x4096x512, .f32⟩
  | .hbm, ⟨3, _⟩ => ⟨S4x4096x512, .bf16⟩
  | .hbm, ⟨4, _⟩ => ⟨S4x6144, .f32⟩
  | .hbm, ⟨5, _⟩ => ⟨S1x512, .f32⟩
  | .hbm, ⟨6, _⟩ => ⟨S1x512x512, .f32⟩
  | .hbm, ⟨7, _⟩ => ⟨S1x1024x1024, .f32⟩
  | .hbm, ⟨8, _⟩ => ⟨S1x1024, .f32⟩
  | .hbm, ⟨9, _⟩ => ⟨S1x1024x64, .f32⟩
  | .hbm, ⟨10, _⟩ => ⟨S1x64, .f32⟩
  | .hbm, ⟨11, _⟩ => ⟨S16384x1024, .f32⟩
  | .hbm, ⟨12, _⟩ => ⟨S4x1x6144, .f32⟩
  | .hbm, ⟨13, _⟩ => ⟨S512x512, .f32⟩
  | .hbm, ⟨14, _⟩ => ⟨S512x512, .bf16⟩
  | .hbm, ⟨15, _⟩ => ⟨S1024x1024, .f32⟩
  | .hbm, ⟨16, _⟩ => ⟨S1024x1024, .bf16⟩
  | .hbm, ⟨17, _⟩ => ⟨S1024x64, .f32⟩
  | .hbm, ⟨18, _⟩ => ⟨S64x1024, .f32⟩
  | .hbm, ⟨19, _⟩ => ⟨S64, .f32⟩
  | .hbm, ⟨20, _⟩ => ⟨S8x8x1, .f32⟩
  | .hbm, ⟨21, _⟩ => ⟨S16384x512, .bf16⟩
  | .hbm, ⟨22, _⟩ => ⟨S512, .f32⟩
  | .hbm, ⟨23, _⟩ => ⟨S1024, .f32⟩
  | .hbm, ⟨24, _⟩ => ⟨S2x16384x512, .f32⟩
  | .hbm, ⟨25, _⟩ => ⟨S1x512, .f32⟩
  | .hbm, ⟨26, _⟩ => ⟨S1x1024, .f32⟩
  | .hbm, ⟨27, _⟩ => ⟨S16384x1024, .f32⟩
  | .hbm, ⟨28, _⟩ => ⟨S16384x1024, .bf16⟩
  | .hbm, ⟨29, _⟩ => ⟨S64x16384, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S512x512, .bf16⟩
  | .local _ .vmem, ⟨9, _⟩ => ⟨S512x512, .bf16⟩
  | .local _ .vmem, ⟨10, _⟩ => ⟨S1x1x6144, .f32⟩
  | .local _ .vmem, ⟨11, _⟩ => ⟨S1x1x6144, .f32⟩
  | .local _ .vmem, ⟨12, _⟩ => ⟨S1x512, .f32⟩
  | .local _ .vmem, ⟨13, _⟩ => ⟨S512x512, .bf16⟩
  | .local _ .vmem, ⟨14, _⟩ => ⟨S1024x1024, .bf16⟩
  | .local _ .vmem, ⟨15, _⟩ => ⟨S1x1024, .f32⟩
  | .local _ .vmem, ⟨16, _⟩ => ⟨S64x1024, .f32⟩
  | .local _ .vmem, ⟨17, _⟩ => ⟨S8x8x1, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S64x512, .f32⟩
  | .local _ .vmem, ⟨23, _⟩ => ⟨S64x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6144 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x8x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S4x4096x1024 : Shape := ⟨3, ![4, 4096, 1024]⟩
abbrev S16384x512 : Shape := ⟨2, ![16384, 512]⟩
abbrev S2x4x4096x512 : Shape := ⟨4, ![2, 4, 4096, 512]⟩
abbrev S4x4096x512 : Shape := ⟨3, ![4, 4096, 512]⟩
abbrev S4x6144 : Shape := ⟨2, ![4, 6144]⟩
abbrev S1x512 : Shape := ⟨2, ![1, 512]⟩
abbrev S1x512x512 : Shape := ⟨3, ![1, 512, 512]⟩
abbrev S1x1024x1024 : Shape := ⟨3, ![1, 1024, 1024]⟩
abbrev S1x1024 : Shape := ⟨2, ![1, 1024]⟩
abbrev S1x1024x64 : Shape := ⟨3, ![1, 1024, 64]⟩
abbrev S1x64 : Shape := ⟨2, ![1, 64]⟩
abbrev S4x1x6144 : Shape := ⟨3, ![4, 1, 6144]⟩
abbrev S4x1x1024 : Shape := ⟨3, ![4, 1, 1024]⟩
abbrev S512 : Shape := ⟨1, ![512]⟩
abbrev S1x1x512 : Shape := ⟨3, ![1, 1, 512]⟩
abbrev S1x4x4096x512 : Shape := ⟨4, ![1, 4, 4096, 512]⟩
abbrev S_ : Shape := ⟨0, ![]⟩
abbrev S512x512 : Shape := ⟨2, ![512, 512]⟩
abbrev S1024x1024 : Shape := ⟨2, ![1024, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S16384x1024 : Shape := ⟨2, ![16384, 1024]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .f32⟩
  | .hbm, ⟨2, _⟩ => ⟨S2x4x4096x512, .f32⟩
  | .hbm, ⟨3, _⟩ => ⟨S4x4096x512, .bf16⟩
  | .hbm, ⟨4, _⟩ => ⟨S4x6144, .f32⟩
  | .hbm, ⟨5, _⟩ => ⟨S1x512, .f32⟩
  | .hbm, ⟨6, _⟩ => ⟨S1x512x512, .f32⟩
  | .hbm, ⟨7, _⟩ => ⟨S1x1024x1024, .f32⟩
  | .hbm, ⟨8, _⟩ => ⟨S1x1024, .f32⟩
  | .hbm, ⟨9, _⟩ => ⟨S1x1024x64, .f32⟩
  | .hbm, ⟨10, _⟩ => ⟨S1x64, .f32⟩
  | .hbm, ⟨11, _⟩ => ⟨S4x1x6144, .f32⟩
  | .hbm, ⟨12, _⟩ => ⟨S4x1x1024, .f32⟩
  | .hbm, ⟨13, _⟩ => ⟨S4x1x1024, .f32⟩
  | .hbm, ⟨14, _⟩ => ⟨S4x1x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x4096x512, .f32⟩
  | .hbm, ⟨19, _⟩ => ⟨S512, .f32⟩
  | .hbm, ⟨20, _⟩ => ⟨S1x1x512, .f32⟩
  | .hbm, ⟨21, _⟩ => ⟨S4x4096x512, .f32⟩
  | .hbm, ⟨22, _⟩ => ⟨S4x4096x512, .f32⟩
  | .hbm, ⟨23, _⟩ => ⟨S1x4x4096x512, .f32⟩
  | .hbm, ⟨24, _⟩ => ⟨S4x4096x512, .f32⟩
  | .hbm, ⟨25, _⟩ => ⟨S4x4096x512, .f32⟩
  | .hbm, ⟨26, _⟩ => ⟨S1x4x4096x512, .f32⟩
  | .hbm, ⟨27, _⟩ => ⟨S4x4096x512, .f32⟩
  | .hbm, ⟨28, _⟩ => ⟨S4x4096x512, .f32⟩
  | .hbm, ⟨29, _⟩ => ⟨S4x4096x512, .f32⟩
  | .hbm, ⟨30, _⟩ => ⟨S4x4096x512, .f32⟩
  | .hbm, ⟨31, _⟩ => ⟨S_, .f32⟩
  | .hbm, ⟨32, _⟩ => ⟨S4x4096x512, .f32⟩
  | .hbm, ⟨33, _⟩ => ⟨S4x4096x512, .f32⟩
  | .hbm, ⟨34, _⟩ => ⟨S4x4096x512, .f32⟩
  | .hbm, ⟨35, _⟩ => ⟨S_, .f32⟩
  | .hbm, ⟨36, _⟩ => ⟨S4x4096x512, .f32⟩
  | .hbm, ⟨37, _⟩ => ⟨S4x4096x512, .f32⟩
  | .hbm, ⟨38, _⟩ => ⟨S4x4096x512, .f32⟩
  | .hbm, ⟨39, _⟩ => ⟨S_, .f32⟩
  | .hbm, ⟨40, _⟩ => ⟨S4x4096x512, .f32⟩
  | .hbm, ⟨41, _⟩ => ⟨S4x4096x512, .f32⟩
  | .hbm, ⟨42, _⟩ => ⟨S_, .f32⟩
  | .hbm, ⟨43, _⟩ => ⟨S4x4096x512, .f32⟩
  | .hbm, ⟨44, _⟩ => ⟨S4x4096x512, .f32⟩
  | .hbm, ⟨45, _⟩ => ⟨S4x4096x512, .f32⟩
  | .hbm, ⟨46, _⟩ => ⟨S512x512, .f32⟩
  | .hbm, ⟨47, _⟩ => ⟨S4x4096x512, .f32⟩
  | .hbm, ⟨48, _⟩ => ⟨S4x4096x512, .f32⟩
  | .hbm, ⟨49, _⟩ => ⟨S4x4096x512, .f32⟩
  | .hbm, ⟨50, _⟩ => ⟨S_, .f32⟩
  | .hbm, ⟨51, _⟩ => ⟨S4x4096x512, .f32⟩
  | .hbm, ⟨52, _⟩ => ⟨S4x4096x512, .f32⟩
  | .hbm, ⟨53, _⟩ => ⟨S_, .f32⟩
  | .hbm, ⟨54, _⟩ => ⟨S4x4096x512, .f32⟩
  | .hbm, ⟨55, _⟩ => ⟨S4x4096x512, .f32⟩
  | .hbm, ⟨56, _⟩ => ⟨S4x4096x512, .f32⟩
  | .hbm, ⟨57, _⟩ => ⟨S4x4096x512, .f32⟩
  | .hbm, ⟨58, _⟩ => ⟨S4x4096x1024, .f32⟩
  | .hbm, ⟨59, _⟩ => ⟨S1024x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S4x4096x1024, .f32⟩
  | .hbm, ⟨64, _⟩ => ⟨S1024, .f32⟩
  | .hbm, ⟨65, _⟩ => ⟨S4x4096x1024, .f32⟩
  | .hbm, ⟨66, _⟩ => ⟨S_, .f32⟩
  | .hbm, ⟨67, _⟩ => ⟨S4x4096, .f32⟩
  | .hbm, ⟨68, _⟩ => ⟨S4x4096x1, .f32⟩
  | .hbm, ⟨69, _⟩ => ⟨S_, .f32⟩
  | .hbm, ⟨70, _⟩ => ⟨S4x4096x1, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S4x4096x1, .f32⟩
  | .hbm, ⟨76, _⟩ => ⟨S4x4096x1024, .f32⟩
  | .hbm, ⟨77, _⟩ => ⟨S4x4096x1024, .f32⟩
  | .hbm, ⟨78, _⟩ => ⟨S1x1x1024, .f32⟩
  | .hbm, ⟨79, _⟩ => ⟨S4x4096x1024, .f32⟩
  | .hbm, ⟨80, _⟩ => ⟨S4x4096x1024, .f32⟩
  | .hbm, ⟨81, _⟩ => ⟨S_, .f32⟩
  | .hbm, ⟨82, _⟩ => ⟨S4x1x1024, .f32⟩
  | .hbm, ⟨83, _⟩ => ⟨S4x1x1024, .f32⟩
  | .hbm, ⟨84, _⟩ => ⟨S4x4096x1024, .f32⟩
  | .hbm, ⟨85, _⟩ => ⟨S4x4096x1024, .f32⟩
  | .hbm, ⟨86, _⟩ => ⟨S4x4096x1024, .f32⟩
  | .hbm, ⟨87, _⟩ => ⟨S4x4096x1024, .f32⟩
  | .hbm, ⟨88, _⟩ => ⟨S16384x1024, .f32⟩
  | .hbm, ⟨89, _⟩ => ⟨S16384x1024, .f32⟩
  | .hbm, ⟨90, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_1 : Ref sig .tc := ⟨.hbm, 39, rfl⟩
abbrev main_v26 : Ref sig .tc := ⟨.hbm, 40, rfl⟩
abbrev main_v27 : Ref sig .tc := ⟨.hbm, 41, rfl⟩
abbrev main_cst_2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_cst_7 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]
-- ==== Latent.lean ====
abbrev S4x4096x1024 : Shape := ⟨3, ![4, 4096, 1024]⟩
abbrev S4x6144 : Shape := ⟨2, ![4, 6144]⟩
abbrev S1x1024 : Shape := ⟨2, ![1, 1024]⟩
abbrev S1x1024x2048 : Shape := ⟨3, ![1, 1024, 2048]⟩
abbrev S4x1x6144 : Shape := ⟨3, ![4, 1, 6144]⟩
abbrev S1024x2048 : Shape := ⟨2, ![1024, 2048]⟩
abbrev S16384x1024 : Shape := ⟨2, ![16384, 1024]⟩
abbrev S1024 : Shape := ⟨1, ![1024]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S16384x512 : Shape := ⟨2, ![16384, 512]⟩
abbrev S1024x1024 : Shape := ⟨2, ![1024, 1024]⟩
abbrev S1x1x6144 : Shape := ⟨3, ![1, 1, 6144]⟩
abbrev S1024x128 : Shape := ⟨2, ![1024, 128]⟩
abbrev S1024x512 : Shape := ⟨2, ![1024, 512]⟩
abbrev S1024x1 : Shape := ⟨2, ![1024, 1]⟩
abbrev S1x6144 : Shape := ⟨2, ![1, 6144]⟩

abbrev nBuf : Space → Nat
  | .hbm => 57
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x6144, .f32⟩
  | .hbm, ⟨2, _⟩ => ⟨S1x1024, .f32⟩
  | .hbm, ⟨3, _⟩ => ⟨S1x1024x2048, .f32⟩
  | .hbm, ⟨4, _⟩ => ⟨S4x1x6144, .f32⟩
  | .hbm, ⟨5, _⟩ => ⟨S1024x2048, .f32⟩
  | .hbm, ⟨6, _⟩ => ⟨S1024x2048, .bf16⟩
  | .hbm, ⟨7, _⟩ => ⟨S16384x1024, .f32⟩
  | .hbm, ⟨8, _⟩ => ⟨S1024, .f32⟩
  | .hbm, ⟨9, _⟩ => ⟨S64, .f32⟩
  | .hbm, ⟨10, _⟩ => ⟨S64x64, .f32⟩
  | .hbm, ⟨11, _⟩ => ⟨S4096, .f32⟩
  | .hbm, ⟨12, _⟩ => ⟨S64, .f32⟩
  | .hbm, ⟨13, _⟩ => ⟨S1x64, .f32⟩
  | .hbm, ⟨14, _⟩ => ⟨S64x64, .f32⟩
  | .hbm, ⟨15, _⟩ => ⟨S4096, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S4096x1, .f32⟩
  | .hbm, ⟨25, _⟩ => ⟨S1x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S4096x1, .f32⟩
  | .hbm, ⟨30, _⟩ => ⟨S1x16, .f32⟩
  | .hbm, ⟨31, _⟩ => ⟨S4096x16, .f32⟩
  | .hbm, ⟨32, _⟩ => ⟨S4096x16, .f32⟩
  | .hbm, ⟨33, _⟩ => ⟨S4096x16, .f32⟩
  | .hbm, ⟨34, _⟩ => ⟨S4096x16, .f32⟩
  | .hbm, ⟨35, _⟩ => ⟨S4096x16, .f32⟩
  | .hbm, ⟨36, _⟩ => ⟨S4096x16, .f32⟩
  | .hbm, ⟨37, _⟩ => ⟨S4096x16, .f32⟩
  | .hbm, ⟨38, _⟩ => ⟨S4096x64, .f32⟩
  | .hbm, ⟨39, _⟩ => ⟨S4096x16, .f32⟩
  | .hbm, ⟨40, _⟩ => ⟨S4096x16, .f32⟩
  | .hbm, ⟨41, _⟩ => ⟨S4096x16, .f32⟩
  | .hbm, ⟨42, _⟩ => ⟨S4096x16, .f32⟩
  | .hbm, ⟨43, _⟩ => ⟨S4096x16, .f32⟩
  | .hbm, ⟨44, _⟩ => ⟨S4096x16, .f32⟩
  | .hbm, ⟨45, _⟩ => ⟨S4096x64, .f32⟩
  | .hbm, ⟨46, _⟩ => ⟨S1x4096x1x64, .f32⟩
  | .hbm, ⟨47, _⟩ => ⟨S1x4096x2x64, .f32⟩
  | .hbm, ⟨48, _⟩ => ⟨S4096x128, .f32⟩
  | .hbm, ⟨49, _⟩ => ⟨S1x4096x1x64, .f32⟩
  | .hbm, ⟨50, _⟩ => ⟨S1x4096x2x64, .f32⟩
  | .hbm, ⟨51, _⟩ => ⟨S4096x128, .f32⟩
  | .hbm, ⟨52, _⟩ => ⟨S1x1024, .f32⟩
  | .hbm, ⟨53, _⟩ => ⟨S16384x512, .f32⟩
  | .hbm, ⟨54, _⟩ => ⟨S16384x512, .bf16⟩
  | .hbm, ⟨55, _⟩ => ⟨S16384x512, .bf16⟩
  | .hbm, ⟨56, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x2048, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47_0 : Ref sig .tc := ⟨.hbm, 53, rfl⟩
abbrev main_v47_1 : Ref sig .tc := ⟨.hbm, 54, rfl⟩
abbrev main_v47_2 : Ref sig .tc := ⟨.hbm, 55, rfl⟩
abbrev main_v47_3 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S4x4096x1024 : Shape := ⟨3, ![4, 4096, 1024]⟩
abbrev S4x6144 : Shape := ⟨2, ![4, 6144]⟩
abbrev S1x1024 : Shape := ⟨2, ![1, 1024]⟩
abbrev S1x1024x2048 : Shape := ⟨3, ![1, 1024, 2048]⟩
abbrev S4x1x6144 : Shape := ⟨3, ![4, 1, 6144]⟩
abbrev S4x1x1024 : Shape := ⟨3, ![4, 1, 1024]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x2048 : Shape := ⟨2, ![1024, 2048]⟩
abbrev S4x4096x2048 : Shape := ⟨3, ![4, 4096, 2048]⟩
abbrev S4x4096x512 : Shape := ⟨3, ![4, 4096, 512]⟩
abbrev S4x4096x4x2x64 : Shape := ⟨5, ![4, 4096, 4, 2, 64]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4x4096x4x2x32 : Shape := ⟨5, ![4, 4096, 4, 2, 32]⟩
abbrev S4096x1x1x16 : Shape := ⟨4, ![4096, 1, 1, 16]⟩
abbrev S4x4096x4x2x16 : Shape := ⟨5, ![4, 4096, 4, 2, 16]⟩
abbrev S1x4096x1x1x16 : Shape := ⟨5, ![1, 4096, 1, 1, 16]⟩
abbrev S16384x512 : Shape := ⟨2, ![16384, 512]⟩

abbrev nBuf : Space → Nat
  | .hbm => 168
  | .vmem => 0
  | .smem => 0
  | _ => 0

abbrev hbmTy0_0 (i : Nat) : BufTy := match i % 128 with
  | 0 => ⟨S4x4096x1024, .f32⟩
  | 1 => ⟨S4x6144, .f32⟩
  | 2 => ⟨S1x1024, .f32⟩
  | 3 => ⟨S1x1024x2048, .f32⟩
  | 4 => ⟨S4x1x6144, .f32⟩
  | 5 => ⟨S4x1x1024, .f32⟩
  | 6 => ⟨S4x1x1024, .f32⟩
  | 7 => ⟨S4x1x1024, .f32⟩
  | 8 => ⟨S4x1x1024, .f32⟩
  | 9 => ⟨S4x1x1024, .f32⟩
  | 10 => ⟨S4x1x1024, .f32⟩
  | 11 => ⟨S1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S_, .f32⟩
  | 29 => ⟨S4x1x1024, .f32⟩
  | 30 => ⟨S4x1x1024, .f32⟩
  | 31 => ⟨S4x4096x1024, .f32⟩
  | 32 => ⟨S4x4096x1024, .f32⟩
  | 33 => ⟨S4x4096x1024, .f32⟩
  | 34 => ⟨S4x4096x1024, .f32⟩
  | 35 => ⟨S1024x2048, .f32⟩
  | 36 => ⟨S4x4096x2048, .f32⟩
  | 37 => ⟨S4x4096x512, .f32⟩
  | 38 => ⟨S4x4096x512, .f32⟩
  | 39 => ⟨S4x4096x512, .f32⟩
  | 40 => ⟨S4x4096x512, .f32⟩
  | 41 => ⟨S4x4096x4x2x64, .f32⟩
  | 42 => ⟨S4x4096x4x2x64, .f32⟩
  | 43 => ⟨S64, .f32⟩
  | 44 => ⟨S64x64, .f32⟩
  | 45 => ⟨S4096, .f32⟩
  | 46 => ⟨S64, .f32⟩
  | 47 => ⟨S1x64, .f32⟩
  | 48 => ⟨S64x64, .f32⟩
  | 49 => ⟨S4096, .f32⟩
  | 50 => ⟨S16, .f32⟩
  | 51 => ⟨S16, .f32⟩
  | 52 => ⟨S_, .f32⟩
  | 53 => ⟨S16, .f32⟩
  | 54 => ⟨S16, .f32⟩
  | 55 => ⟨S_, .f32⟩
  | 56 => ⟨S16, .f32⟩
  | 57 => ⟨S16, .f32⟩
  | 58 => ⟨S4096x1, .f32⟩
  | 59 => ⟨S1x16, .f32⟩
  | 60 => ⟨S4096x16, .f32⟩
  | 61 => ⟨S4096x16, .f32⟩
  | 62 => ⟨S4096x16, .f32⟩
  | 63 => ⟨S4096x1, .f32⟩
  | 64 => ⟨S1x16, .f32⟩
  | 65 => ⟨S4096x16, .f32⟩
  | 66 => ⟨S4096x16, .f32⟩
  | 67 => ⟨S4096x16, .f32⟩
  | 68 => ⟨S4x4096x4x2x32, .f32⟩
  | 69 => ⟨S4096x16, .f32⟩
  | 70 => ⟨S4096x1x1x16, .f32⟩
  | 71 => ⟨S4096x16, .f32⟩
  | 72 => ⟨S4096x1x1x16, .f32⟩
  | 73 => ⟨S4x4096x4x2x16, .f32⟩
  | 74 => ⟨S4x4096x4x2x16, .f32⟩
  | 75 => ⟨S1x4096x1x1x16, .f32⟩
  | 76 => ⟨S4x4096x4x2x16, .f32⟩
  | 77 => ⟨S4x4096x4x2x16, .f32⟩
  | 78 => ⟨S1x4096x1x1x16, .f32⟩
  | 79 => ⟨S4x4096x4x2x16, .f32⟩
  | 80 => ⟨S4x4096x4x2x16, .f32⟩
  | 81 => ⟨S4x4096x4x2x16, .f32⟩
  | 82 => ⟨S1x4096x1x1x16, .f32⟩
  | 83 => ⟨S4x4096x4x2x16, .f32⟩
  | 84 => ⟨S4x4096x4x2x16, .f32⟩
  | 85 => ⟨S1x4096x1x1x16, .f32⟩
  | 86 => ⟨S4x4096x4x2x16, .f32⟩
  | 87 => ⟨S4x4096x4x2x16, .f32⟩
  | 88 => ⟨S4x4096x4x2x16, .f32⟩
  | 89 => ⟨S4x4096x4x2x32, .f32⟩
  | 90 => ⟨S4x4096x4x2x32, .f32⟩
  | 91 => ⟨S4096x16, .f32⟩
  | 92 => ⟨S4096x1x1x16, .f32⟩
  | 93 => ⟨S4096x16, .f32⟩
  | 94 => ⟨S4096x1x1x16, .f32⟩
  | 95 => ⟨S4x4096x4x2x16, .f32⟩
  | 96 => ⟨S4x4096x4x2x16, .f32⟩
  | 97 => ⟨S1x4096x1x1x16, .f32⟩
  | 98 => ⟨S4x4096x4x2x16, .f32⟩
  | 99 => ⟨S4x4096x4x2x16, .f32⟩
  | 100 => ⟨S1x4096x1x1x16, .f32⟩
  | 101 => ⟨S4x4096x4x2x16, .f32⟩
  | 102 => ⟨S4x4096x4x2x16, .f32⟩
  | 103 => ⟨S4x4096x4x2x16, .f32⟩
  | 104 => ⟨S1x4096x1x1x16, .f32⟩
  | 105 => ⟨S4x4096x4x2x16, .f32⟩
  | 106 => ⟨S4x4096x4x2x16, .f32⟩
  | 107 => ⟨S1x4096x1x1x16, .f32⟩
  | 108 => ⟨S4x4096x4x2x16, .f32⟩
  | 109 => ⟨S4x4096x4x2x16, .f32⟩
  | 110 => ⟨S4x4096x4x2x16, .f32⟩
  | 111 => ⟨S4x4096x4x2x32, .f32⟩
  | 112 => ⟨S4x4096x4x2x64, .f32⟩
  | 113 => ⟨S4x4096x4x2x32, .f32⟩
  | 114 => ⟨S4096x16, .f32⟩
  | 115 => ⟨S4096x1x1x16, .f32⟩
  | 116 => ⟨S4096x16, .f32⟩
  | 117 => ⟨S4096x1x1x16, .f32⟩
  | 118 => ⟨S4x4096x4x2x16, .f32⟩
  | 119 => ⟨S4x4096x4x2x16, .f32⟩
  | 120 => ⟨S1x4096x1x1x16, .f32⟩
  | 121 => ⟨S4x4096x4x2x16, .f32⟩
  | 122 => ⟨S4x4096x4x2x16, .f32⟩
  | 123 => ⟨S1x4096x1x1x16, .f32⟩
  | 124 => ⟨S4x4096x4x2x16, .f32⟩
  | 125 => ⟨S4x4096x4x2x16, .f32⟩
  | 126 => ⟨S4x4096x4x2x16, .f32⟩
  | 127 => ⟨S1x4096x1x1x16, .f32⟩
  | _ => ⟨S4x4096x1024, .f32⟩

abbrev hbmTy0_1 (i : Nat) : BufTy := match i % 128 with
  | 0 => ⟨S4x4096x4x2x16, .f32⟩
  | 1 => ⟨S4x4096x4x2x16, .f32⟩
  | 2 => ⟨S1x4096x1x1x16, .f32⟩
  | 3 => ⟨S4x4096x4x2x16, .f32⟩
  | 4 => ⟨S4x4096x4x2x16, .f32⟩
  | 5 => ⟨S4x4096x4x2x16, .f32⟩
  | 6 => ⟨S4x4096x4x2x32, .f32⟩
  | 7 => ⟨S4x4096x4x2x32, .f32⟩
  | 8 => ⟨S4096x16, .f32⟩
  | 9 => ⟨S4096x1x1x16, .f32⟩
  | 10 => ⟨S4096x16, .f32⟩
  | 11 => ⟨S4096x1x1x16, .f32⟩
  | 12 => ⟨S4x4096x4x2x16, .f32⟩
  | 13 => ⟨S4x4096x4x2x16, .f32⟩
  | 14 => ⟨S1x4096x1x1x16, .f32⟩
  | 15 => ⟨S4x4096x4x2x16, .f32⟩
  | 16 => ⟨S4x4096x4x2x16, .f32⟩
  | 17 => ⟨S1x4096x1x1x16, .f32⟩
  | 18 => ⟨S4x4096x4x2x16, .f32⟩
  | 19 => ⟨S4x4096x4x2x16, .f32⟩
  | 20 => ⟨S4x4096x4x2x16, .f32⟩
  | 21 => ⟨S1x4096x1x1x16, .f32⟩
  | 22 => ⟨S4x4096x4x2x16, .f32⟩
  | 23 => ⟨S4x4096x4x2x16, .f32⟩
  | 24 => ⟨S1x4096x1x1x16, .f32⟩
  | 25 => ⟨S4x4096x4x2x16, .f32⟩
  | 26 => ⟨S4x4096x4x2x16, .f32⟩
  | 27 => ⟨S4x4096x4x2x16, .f32⟩
  | 28 => ⟨S4x4096x4x2x32, .f32⟩
  | 29 => ⟨S4x4096x4x2x64, .f32⟩
  | 30 => ⟨S_, .f32⟩
  | 31 => ⟨S4x4096x4x2x64, .f32⟩
  | 32 => ⟨S4x4096x4x2x64, .f32⟩
  | 33 => ⟨S16384x512, .f32⟩
  | 34 => ⟨S16384x512, .f32⟩
  | 35 => ⟨S16384x512, .bf16⟩
  | 36 => ⟨S16384x512, .f32⟩
  | 37 => ⟨S16384x512, .bf16⟩
  | 38 => ⟨S16384x512, .f32⟩
  | 39 => ⟨S16384x512, .bf16⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_cst_5 : Ref sig .tc := ⟨.hbm, 158, rfl⟩
abbrev main_v148 : Ref sig .tc := ⟨.hbm, 159, rfl⟩
abbrev main_v149 : Ref sig .tc := ⟨.hbm, 160, rfl⟩
abbrev main_v150 : Ref sig .tc := ⟨.hbm, 161, rfl⟩
abbrev main_v151 : Ref sig .tc := ⟨.hbm, 162, rfl⟩
abbrev main_v152 : Ref sig .tc := ⟨.hbm, 163, rfl⟩
abbrev main_v153 : Ref sig .tc := ⟨.hbm, 164, rfl⟩
abbrev main_v154 : Ref sig .tc := ⟨.hbm, 165, rfl⟩
abbrev main_v155 : Ref sig .tc := ⟨.hbm, 166, rfl⟩
abbrev main_v156 : Ref sig .tc := ⟨.hbm, 167, rfl⟩

abbrev nD : Nat := 1
abbrev τ : Topo := Topo.v7x

variable {F : FTy → Type} [FloatOps F]
-- ==== Ctx.lean ====
abbrev S32x256x512 : Shape := ⟨3, ![32, 256, 512]⟩
abbrev S1x2x64 : Shape := ⟨3, ![1, 2, 64]⟩
abbrev S1x128 : Shape := ⟨2, ![1, 128]⟩
abbrev S2x64 : Shape := ⟨2, ![2, 64]⟩
abbrev S1x64 : Shape := ⟨2, ![1, 64]⟩
abbrev S64 : Shape := ⟨1, ![64]⟩
abbrev S_ : Shape := ⟨0, ![]⟩
abbrev S1 : Shape := ⟨1, ![1]⟩
abbrev S128 : Shape := ⟨1, ![128]⟩
abbrev S1x256x512 : Shape := ⟨3, ![1, 256, 512]⟩
abbrev S4x2x256x256 : Shape := ⟨4, ![4, 2, 256, 256]⟩
abbrev S1x256x128 : Shape := ⟨3, ![1, 256, 128]⟩
abbrev S256x128 : Shape := ⟨2, ![256, 128]⟩
abbrev S256x256 : Shape := ⟨2, ![256, 256]⟩
abbrev S1x2x256x256 : Shape := ⟨4, ![1, 2, 256, 256]⟩
abbrev S2x256x256 : Shape := ⟨3, ![2, 256, 256]⟩
abbrev S1x256x256 : Shape := ⟨3, ![1, 256, 256]⟩
abbrev S256 : Shape := ⟨1, ![256]⟩
abbrev S256x1 : Shape := ⟨2, ![256, 1]⟩

abbrev nBuf : Space → Nat
  | .hbm => 31
  | .vmem => 10
  | .smem => 1
  | _ => 0

abbrev bufTy : (tb : Table) → Fin (tcTables nBuf tb) → BufTy
  | .hbm, ⟨0, _⟩ => ⟨S32x256x512, .bf16⟩
  | .hbm, ⟨1, _⟩ => ⟨S32x256x512, .f32⟩
  | .hbm, ⟨2, _⟩ => ⟨S32x256x512, .f32⟩
  | .hbm, ⟨3, _⟩ => ⟨S1x2x64, .f32⟩
  | .hbm, ⟨4, _⟩ => ⟨S1x2x64, .f32⟩
  | .hbm, ⟨5, _⟩ => ⟨S1x128, .f32⟩
  | .hbm, ⟨6, _⟩ => ⟨S2x64, .f32⟩
  | .hbm, ⟨7, _⟩ => ⟨S2x64, .f32⟩
  | .hbm, ⟨8, _⟩ => ⟨S1x64, .f32⟩
  | .hbm, ⟨9, _⟩ => ⟨S64, .f32⟩
  | .hbm, ⟨10, _⟩ => ⟨S1x64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x64, .f32⟩
  | .hbm, ⟨17, _⟩ => ⟨S64, .f32⟩
  | .hbm, ⟨18, _⟩ => ⟨S1x64, .f32⟩
  | .hbm, ⟨19, _⟩ => ⟨S64, .f32⟩
  | .hbm, ⟨20, _⟩ => ⟨S64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S128, .f32⟩
  | .hbm, ⟨29, _⟩ => ⟨S1x128, .f32⟩
  | .hbm, ⟨30, _⟩ => ⟨S32x256x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x128, .f32⟩
  | .local _ .vmem, ⟨7, _⟩ => ⟨S1x256x512, .bf16⟩
  | .local _ .vmem, ⟨8, _⟩ => ⟨S1x256x512, .bf16⟩
  | .local _ .vmem, ⟨9, _⟩ => ⟨S4x2x256x256, .f32⟩
  | .local _ .smem, ⟨0, _⟩ => ⟨S1, .f32⟩
  | _, _ => ⟨S32x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S32x256x512 : Shape := ⟨3, ![32, 256, 512]⟩
abbrev S1x2x64 : Shape := ⟨3, ![1, 2, 64]⟩
abbrev S1x128 : Shape := ⟨2, ![1, 128]⟩
abbrev S32x256x4x2x64 : Shape := ⟨5, ![32, 256, 4, 2, 64]⟩
abbrev S32x256x4x128 : Shape := ⟨4, ![32, 256, 4, 128]⟩
abbrev S2x64 : Shape := ⟨2, ![2, 64]⟩
abbrev S1x64 : Shape := ⟨2, ![1, 64]⟩
abbrev S64 : Shape := ⟨1, ![64]⟩
abbrev S_ : Shape := ⟨0, ![]⟩
abbrev S32x4x2x256x256 : Shape := ⟨5, ![32, 4, 2, 256, 256]⟩
abbrev S32x4x2x256 : Shape := ⟨4, ![32, 4, 2, 256]⟩
abbrev S32x4x2x256x1 : Shape := ⟨5, ![32, 4, 2, 256, 1]⟩
abbrev S32x4x1x256x256 : Shape := ⟨5, ![32, 4, 1, 256, 256]⟩
abbrev S32x4x256x256 : Shape := ⟨4, ![32, 4, 256, 256]⟩
abbrev S32x4x128x256 : Shape := ⟨4, ![32, 4, 128, 256]⟩
abbrev S128 : Shape := ⟨1, ![128]⟩
abbrev S32x256x4 : Shape := ⟨3, ![32, 256, 4]⟩
abbrev S32x256x4x1 : Shape := ⟨4, ![32, 256, 4, 1]⟩
abbrev S1x1x1x128 : Shape := ⟨4, ![1, 1, 1, 128]⟩

abbrev nBuf : Space → Nat
  | .hbm => 77
  | .vmem => 0
  | .smem => 0
  | _ => 0

abbrev bufTy : (tb : Table) → Fin (tcTables nBuf tb) → BufTy
  | .hbm, ⟨0, _⟩ => ⟨S32x256x512, .bf16⟩
  | .hbm, ⟨1, _⟩ => ⟨S32x256x512, .f32⟩
  | .hbm, ⟨2, _⟩ => ⟨S32x256x512, .f32⟩
  | .hbm, ⟨3, _⟩ => ⟨S1x2x64, .f32⟩
  | .hbm, ⟨4, _⟩ => ⟨S1x2x64, .f32⟩
  | .hbm, ⟨5, _⟩ => ⟨S1x128, .f32⟩
  | .hbm, ⟨6, _⟩ => ⟨S32x256x512, .f32⟩
  | .hbm, ⟨7, _⟩ => ⟨S32x256x4x2x64, .f32⟩
  | .hbm, ⟨8, _⟩ => ⟨S32x256x4x2x64, .f32⟩
  | .hbm, ⟨9, _⟩ => ⟨S32x256x4x128, .f32⟩
  | .hbm, ⟨10, _⟩ => ⟨S2x64, .f32⟩
  | .hbm, ⟨11, _⟩ => ⟨S2x64, .f32⟩
  | .hbm, ⟨12, _⟩ => ⟨S1x64, .f32⟩
  | .hbm, ⟨13, _⟩ => ⟨S64, .f32⟩
  | .hbm, ⟨14, _⟩ => ⟨S1x64, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S32x4x2x256x256, .f32⟩
  | .hbm, ⟨32, _⟩ => ⟨S_, .f32⟩
  | .hbm, ⟨33, _⟩ => ⟨S32x4x2x256, .f32⟩
  | .hbm, ⟨34, _⟩ => ⟨S_, .f32⟩
  | .hbm, ⟨35, _⟩ => ⟨S32x4x2x256, .f32⟩
  | .hbm, ⟨36, _⟩ => ⟨S32x4x2x256, .f32⟩
  | .hbm, ⟨37, _⟩ => ⟨S32x4x2x256x1, .f32⟩
  | .hbm, ⟨38, _⟩ => ⟨S32x4x2x256x256, .f32⟩
  | .hbm, ⟨39, _⟩ => ⟨S32x4x2x256x256, .f32⟩
  | .hbm, ⟨40, _⟩ => ⟨S32x4x2x256x256, .f32⟩
  | .hbm, ⟨41, _⟩ => ⟨S_, .f32⟩
  | .hbm, ⟨42, _⟩ => ⟨S32x4x2x256, .f32⟩
  | .hbm, ⟨43, _⟩ => ⟨S32x4x2x256x1, .f32⟩
  | .hbm, ⟨44, _⟩ => ⟨S32x4x2x256x256, .f32⟩
  | .hbm, ⟨45, _⟩ => ⟨S32x4x2x256x256, .f32⟩
  | .hbm, ⟨46, _⟩ => ⟨S32x4x1x256x256, .f32⟩
  | .hbm, ⟨47, _⟩ => ⟨S32x4x256x256, .f32⟩
  | .hbm, ⟨48, _⟩ => ⟨S32x4x1x256x256, .f32⟩
  | .hbm, ⟨49, _⟩ => ⟨S32x4x256x256, .f32⟩
  | .hbm, ⟨50, _⟩ => ⟨S32x4x256x256, .f32⟩
  | .hbm, ⟨51, _⟩ => ⟨S32x4x256x256, .f32⟩
  | .hbm, ⟨52, _⟩ => ⟨S32x4x256x256, .f32⟩
  | .hbm, ⟨53, _⟩ => ⟨S32x4x128x256, .f32⟩
  | .hbm, ⟨54, _⟩ => ⟨S32x256x4x128, .f32⟩
  | .hbm, ⟨55, _⟩ => ⟨S128, .f32⟩
  | .hbm, ⟨56, _⟩ => ⟨S32x256x4x128, .f32⟩
  | .hbm, ⟨57, _⟩ => ⟨S_, .f32⟩
  | .hbm, ⟨58, _⟩ => ⟨S32x256x4, .f32⟩
  | .hbm, ⟨59, _⟩ => ⟨S32x256x4x1, .f32⟩
  | .hbm, ⟨60, _⟩ => ⟨S_, .f32⟩
  | .hbm, ⟨61, _⟩ => ⟨S32x256x4x1, .f32⟩
  | .hbm, ⟨62, _⟩ => ⟨S32x256x4x1, .f32⟩
  | .hbm, ⟨63, _⟩ => ⟨S_, .f32⟩
  | .hbm, ⟨64, _⟩ => ⟨S32x256x4x1, .f32⟩
  | .hbm, ⟨65, _⟩ => ⟨S32x256x4x1, .f32⟩
  | .hbm, ⟨66, _⟩ => ⟨S32x256x4x1, .f32⟩
  | .hbm, ⟨67, _⟩ => ⟨S32x256x4x128, .f32⟩
  | .hbm, ⟨68, _⟩ => ⟨S32x256x4x128, .f32⟩
  | .hbm, ⟨69, _⟩ => ⟨S1x1x1x128, .f32⟩
  | .hbm, ⟨70, _⟩ => ⟨S32x256x4x128, .f32⟩
  | .hbm, ⟨71, _⟩ => ⟨S32x256x4x128, .f32⟩
  | .hbm, ⟨72, _⟩ => ⟨S_, .f32⟩
  | .hbm, ⟨73, _⟩ => ⟨S32x256x4x128, .f32⟩
  | .hbm, ⟨74, _⟩ => ⟨S32x256x4x128, .f32⟩
  | .hbm, ⟨75, _⟩ => ⟨S32x256x512, .f32⟩
  | .hbm, ⟨76, _⟩ => ⟨S32x256x512, .bf16⟩
  | _, _ => ⟨S32x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_5 : Ref sig .tc := ⟨.hbm, 57, rfl⟩
abbrev main_v45 : Ref sig .tc := ⟨.hbm, 58, rfl⟩
abbrev main_v46 : Ref sig .tc := ⟨.hbm, 59, rfl⟩
abbrev main_cst_6 : Ref sig .tc := ⟨.hbm, 60, rfl⟩
abbrev main_v47 : Ref sig .tc := ⟨.hbm, 61, rfl⟩
abbrev main_v48 : Ref sig .tc := ⟨.hbm, 62, rfl⟩
abbrev main_cst_7 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Proof.Attn.Body.lean ====
/-
  WHAT ONE GRID POINT OF THE ATTENTION KERNEL STORES, written with a few vector functions: the two masked copies of the
  query block, the scores of one chunk of 512 keys, the running row maximum, the weighted sum of one chunk of values
  (with a second half of ones, whose sums are the softmax denominators), and the last step (the two normalized sums, their
  difference, the norm over the head). `out_eq` says that the run's stored block is the composition of these.
-/
module

public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section
set_option maxRecDepth 16384
noncomputable section
namespace Cert.KernelIdeal.Attn
open Cert.KernelIdeal Cert.KernelIdeal.Gen Idealize.ShloMosaic Idealize.ShloMosaic.TcCoe Idealize.SL.Sem

variable {F : FTy → Type} [FloatOps F]

/-- The query block with lanes 64 to 127 set to zero: the queries of the first softmax map. -/
def maskLo (q : Vec F S1x1024x128 .bf16) : FVec F S1024x128 .bf16 :=
  select (cmpi .slt (iota .tc S1024x128 32 [1] iota_S1024x128_d1_w32) (broadcast S1024x128 64#32))
    (shapeCast S1024x128 q shapeCasts_S1x1024x128_S1024x128) (broadcast S1024x128 (Scalar.ofBits .bf16 0x0000#16))

/-- The query block with lanes 0 to 63 set to zero: the queries of the second softmax map. -/
def maskHi (q : Vec F S1x1024x128 .bf16) : FVec F S1024x128 .bf16 :=
  select (cmpi .sge (iota .tc S1024x128 32 [1] iota_S1024x128_d1_w32) (broadcast S1024x128 64#32))
    (shapeCast S1024x128 q shapeCasts_S1x1024x128_S1024x128) (broadcast S1024x128 (Scalar.ofBits .bf16 0x0000#16))

/-- The scores of 1024 masked queries against one chunk of 512 keys. -/
def score (q : FVec F S1024x128 .bf16) (k : Vec F S1x512x128 .bf16) : FVec F S1024x512 .f32 :=
  matmul dot_S1024x128_S512x128_S1024x512_1_1_0_0_n_n none q
    (shapeCast S512x128 k shapeCasts_S1x512x128_S512x128) (constant S1024x512 .f32 0x00000000#32)

/-- The largest of the four lane groups of a chunk of scores. -/
def fold4 (s : FVec F S1024x512 .f32) : FVec F S1024x128 .f32 :=
  maximumf (maximumf (maximumf (extractStridedSlice S1024x128 ![0, 0] s slices_S1024x512_o0_0_S1024x128)
    (extractStridedSlice S1024x128 ![0, 128] s slices_S1024x512_o0_128_S1024x128))
    (extractStridedSlice S1024x128 ![0, 256] s slices_S1024x512_o0_256_S1024x128))
    (extractStridedSlice S1024x128 ![0, 384] s slices_S1024x512_o0_384_S1024x128)

/-- The row maximum over the nine chunks of scores. -/
def rowMax (s : Fin 9 → FVec F S1024x512 .f32) : FVec F S1024x1 .f32 :=
  shapeCast S1024x1 (multiReduction .maximumf [1] S1024
    (maximumf (maximumf (maximumf (maximumf (maximumf (maximumf (maximumf (maximumf (fold4 (s 0)) (fold4 (s 1)))
      (fold4 (s 2))) (fold4 (s 3))) (fold4 (s 4))) (fold4 (s 5))) (fold4 (s 6))) (fold4 (s 7))) (fold4 (s 8)))
    0xFF800000#32 reduces_S1024x128_S1024 (.inl rfl) rfl) shapeCasts_S1024_S1024x1

/-- One chunk's part of the weighted value sum: the weights are the exponentials of the scores (read back from the
buffer they were stored in) less the row maximum; the right operand holds the values and then 128 columns of ones. -/
def term (mx : FVec F S1024x1 .f32) (s : FVec F S1024x512 .f32) (v : Vec F S1x512x128 .bf16) : FVec F S1024x256 .f32 :=
  matmul dot_S1024x512_S512x256_S1024x256_1_0_0_1_n_n none
    (truncf .bf16 (exp (subf
      (shapeCast S1024x512 (shapeCast S1x1024x512 s shapeCasts_S1024x512_S1x1024x512) shapeCasts_S1x1024x512_S1024x512)
      (broadcastTo S1024x512 mx broadcasts_S1024x1_S1024x512))) bitsLt_bf16_f32)
    (concatenate S512x256 1 [⟨S512x128, shapeCast S512x128 v shapeCasts_S1x512x128_S512x128⟩,
      ⟨S512x128, broadcast S512x128 (Scalar.ofBits .bf16 0x3F80#16 : F .bf16)⟩] concatenates_S512x128_S512x128_S512x256_d1)
    (constant S1024x256 .f32 0x00000000#32)

/-- The weighted value sum over the nine chunks, added in order. -/
def accum (mx : FVec F S1024x1 .f32) (s : Fin 9 → FVec F S1024x512 .f32) (v : Fin 9 → Vec F S1x512x128 .bf16) :
    FVec F S1024x256 .f32 :=
  addf (addf (addf (addf (addf (addf (addf (addf (term mx (s 0) (v 0)) (term mx (s 1) (v 1))) (term mx (s 2) (v 2)))
    (term mx (s 3) (v 3))) (term mx (s 4) (v 4))) (term mx (s 5) (v 5))) (term mx (s 6) (v 6))) (term mx (s 7) (v 7)))
    (term mx (s 8) (v 8))

/-- The weighted value sums of masked queries against nine chunks of keys and values. -/
def attend (q : FVec F S1024x128 .bf16) (k v : Fin 9 → Vec F S1x512x128 .bf16) : FVec F S1024x256 .f32 :=
  accum (rowMax fun n => score q (k n)) (fun n => score q (k n)) v

/-- The nine chunks of 512 rows: eight of the latent tokens' block, then the cached block. -/
def chunks (x : Vec F S1x4096x128 .bf16) (y : Vec F S1x512x128 .bf16) : Fin 9 → Vec F S1x512x128 .bf16 :=
  ![View.ld x (Rect.unit ![0, 0, 0] ![1, 512, 128] inb_S1x4096x128_S1x512x128_0_0_0),
    View.ld x (Rect.unit ![0, 512, 0] ![1, 512, 128] inb_S1x4096x128_S1x512x128_0_512_0),
    View.ld x (Rect.unit ![0, 1024, 0] ![1, 512, 128] inb_S1x4096x128_S1x512x128_0_1024_0),
    View.ld x (Rect.unit ![0, 1536, 0] ![1, 512, 128] inb_S1x4096x128_S1x512x128_0_1536_0),
    View.ld x (Rect.unit ![0, 2048, 0] ![1, 512, 128] inb_S1x4096x128_S1x512x128_0_2048_0),
    View.ld x (Rect.unit ![0, 2560, 0] ![1, 512, 128] inb_S1x4096x128_S1x512x128_0_2560_0),
    View.ld x (Rect.unit ![0, 3072, 0] ![1, 512, 128] inb_S1x4096x128_S1x512x128_0_3072_0),
    View.ld x (Rect.unit ![0, 3584, 0] ![1, 512, 128] inb_S1x4096x128_S1x512x128_0_3584_0),
    y]

/-- The stored block as a function of the point's input blocks. -/
def block (x0 : Vec F S1 .f32) (x1 : Vec F S1x1024x128 .bf16) (x2 x3 : Vec F S1x4096x128 .bf16)
    (x4 x5 : Vec F S1x512x128 .bf16) (x6 : Vec F S1x128 .f32) : FVec F S1x1024x128 .bf16 :=
  k0_pay69 (attend (maskLo x1) (chunks x2 x4) (chunks x3 x5)) (attend (maskHi x1) (chunks x2 x4) (chunks x3 x5))
    (k0_pay68 (attend (maskLo x1) (chunks x2 x4) (chunks x3 x5)))
    (x0 (ix1 0)) x6

/-- The only element of a one-element block, whatever the index that names it. -/
theorem ld_one (x0 : Vec F S1 .f32) (y : S1.Idx) : View.ld x0 (Rect.unit ![0] ![1] inb_S1_S1_0) y = x0 (ix1 0) := by
  refine congrArg x0 (funext fun a => ?_)
  have : a = 0 := Subsingleton.elim _ _
  subst this
  exact Subsingleton.elim (α := Fin 1) _ _

set_option maxHeartbeats 4000000 in
/-- The block that the body's run stores is `block` of the point's input blocks, on whatever staging memory. -/
theorem out_eq (c : Dev nD) (i : grid0.Coords) (arg3 : Memref sig .tc .smem S1 .f32) (harg3 : arg3.IsWhole) (arg4 : Memref sig .tc .vmem S1x1024x128 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S1x512x128 .bf16) (harg7 : arg7.IsWhole) (arg8 : Memref sig .tc .vmem S1x512x128 .bf16) (harg8 : arg8.IsWhole) (arg9 : Memref sig .tc .vmem S1x128 .f32) (harg9 : arg9.IsWhole) (arg10 : Memref sig .tc .vmem S1x1024x128 .bf16) (harg10 : arg10.IsWhole) (arg11 : Memref sig .tc .vmem S2x1024x4608 .f32) (harg11 : arg11.IsWhole)
    (x0 : Vec F S1 .f32) (x1 : Vec F S1x1024x128 .bf16) (x2 : Vec F S1x4096x128 .bf16) (x3 : Vec F S1x4096x128 .bf16) (x4 : Vec F S1x512x128 .bf16) (x5 : Vec F S1x512x128 .bf16) (x6 : Vec F S1x128 .f32) :
    out0_A_7 c i arg3 harg3 arg4 harg4 arg5 harg5 arg6 harg6 arg7 harg7 arg8 harg8 arg9 harg9 arg10 harg10 arg11 harg11
      x0 x1 x2 x3 x4 x5 x6 = block x0 x1 x2 x3 x4 x5 x6 := by
  frame_open
  simp (disch := decide) only [↓ View.readCov_skip, ↓ View.readCov_cons_toLoadRect, ↓ View.readCov_fill]
  frame_out
  rw [ld_one]
  rfl

end Cert.KernelIdeal.Attn
-- ==== Proof.Attn.Softmax.lean ====
/-
  THE MATHEMATICS OF THE DIFFERENTIAL ATTENTION over real numbers, with no program in it. A softmax average does not change
  when a number is taken from every score, whatever the number is; so the kernel's weights (less the row maximum it found)
  and the reference's (less its own) give the same average. The rest carries this to the extended reals, where every
  element here is a real number.
-/
module

public import Idealize.ShloMosaic.PureOps.Ideal
public import Idealize.ShloMosaic.Lib.Pointwise

@[expose] public section
noncomputable section
namespace Cert.Attn
open Idealize.ShloMosaic
open scoped BigOperators

/-- The average of `v` with the softmax weights of the scores `s`. -/
def softAvg {n : ℕ} (s v : Fin n → ℝ) : ℝ := (∑ j, Real.exp (s j) * v j) / ∑ j, Real.exp (s j)

/-- A sum of exponentials over a nonempty range is positive. -/
theorem sum_exp_pos {n : ℕ} [NeZero n] (s : Fin n → ℝ) : 0 < ∑ j, Real.exp (s j) :=
  Finset.sum_pos (fun _ _ => Real.exp_pos _) ⟨0, Finset.mem_univ _⟩

/-- Taking a number from every score leaves the softmax average as it was. -/
theorem softAvg_shift {n : ℕ} (s v : Fin n → ℝ) (M : ℝ) :
    (∑ j, Real.exp (s j - M) * v j) * (1 / ∑ j, Real.exp (s j - M)) = softAvg s v := by
  unfold softAvg
  simp only [Real.exp_sub]
  rw [← Finset.sum_div]
  have h : ∑ j, Real.exp (s j) / Real.exp M * v j = (∑ j, Real.exp (s j) * v j) / Real.exp M := by
    rw [Finset.sum_div]; exact Finset.sum_congr rfl fun j _ => by ring
  rw [h, one_div, inv_div, div_mul_div_comm, mul_comm _ (Real.exp M), mul_div_mul_left _ _ (Real.exp_pos M).ne']

/-- The difference of two softmax averages as one sum with the differences of the weights. -/
theorem sum_diff {n : ℕ} (s t v : Fin n → ℝ) (M N lam : ℝ) :
    ∑ j, v j * (Real.exp (s j - M) * (1 / ∑ i, Real.exp (s i - M))
      - lam * (Real.exp (t j - N) * (1 / ∑ i, Real.exp (t i - N)))) = softAvg s v - lam * softAvg t v := by
  rw [← softAvg_shift s v M, ← softAvg_shift t v N, Finset.sum_mul, Finset.sum_mul, Finset.mul_sum,
    ← Finset.sum_sub_distrib]
  exact Finset.sum_congr rfl fun j _ => by ring

/-- A sum of reals read in the extended reals. -/
theorem coe_sum {ι : Type} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

/-- The larger of two reals read in the extended reals. -/
theorem coe_max (a b : ℝ) : ((max a b : ℝ) : EReal) = max (a : EReal) b := EReal.coe_strictMono.monotone.map_max

/-- The largest of finitely many (at least one) reals, folded from minus infinity, is a real. -/
theorem fold_max_real {ι : Type} [DecidableEq ι] (S : Finset ι) (hS : S.Nonempty) (f : ι → EReal) (hf : ∀ i, ∃ r : ℝ, f i = r) :
    ∃ r : ℝ, Finset.fold max (⊥ : EReal) f S = r := by
  induction hS using Finset.Nonempty.cons_induction with
  | singleton a => obtain ⟨r, hr⟩ := hf a; exact ⟨r, by simp [hr]⟩
  | cons a S h _ ih =>
    obtain ⟨r, hr⟩ := hf a; obtain ⟨q, hq⟩ := ih
    exact ⟨max r q, by rw [Finset.fold_cons, hr, hq, coe_max]⟩

/-- The f32 pattern of minus infinity. -/
theorem ofBits_negInf : Ideal.ofBits .f32 0xFF800000#32 = ⊥ := by simp [Ideal.ofBits, Ideal.ieee]

/-- The f32 pattern of plus infinity. -/
theorem ofBits_posInf : Ideal.ofBits .f32 0x7F800000#32 = ⊤ := by simp [Ideal.ofBits, Ideal.ieee]

/-- Key `r` of chunk `n`, of nine chunks of 512. -/
def key (n : Fin 9) (r : Fin 512) : Fin 4608 := ⟨512 * n.val + r.val, by omega⟩

/-- A sum over the keys, chunk by chunk. -/
theorem sum_key (f : Fin 4608 → ℝ) : ∑ j, f j = ∑ n : Fin 9, ∑ r : Fin 512, f (key n r) := by
  rw [← Fintype.sum_prod_type' (fun n r => f (key n r))]
  refine (Fintype.sum_equiv (finProdFinEquiv (m := 9) (n := 512)) _ _ fun x => ?_).symm
  exact congrArg f (Fin.ext (by simp [key, finProdFinEquiv, Nat.add_comm]))

/-- A sum over nine terms, written out in order. -/
theorem sum_nine {α : Type} [AddCommMonoid α] (g : Fin 9 → α) :
    ∑ n, g n = g 0 + g 1 + g 2 + g 3 + g 4 + g 5 + g 6 + g 7 + g 8 := by
  rw [Fin.sum_univ_castSucc, Fin.sum_univ_eight]; rfl

/-- The output of one head at lane `e`: the vector `o` over the head's lanes, divided by its root mean square, times the
weight and the constant. -/
def headNorm (o : Fin 128 → EReal) (w : Fin 128 → EReal) (e : Fin 128) : EReal :=
  o e * Ideal.rsqrt (Ideal.div (∑ x, o x * o x) (Ideal.ofBits .f32 0x43000000#32) + Ideal.ofBits .f32 0x358637BD#32)
    * w e * Ideal.ofBits .f32 0x3F4CCCCD#32

end Cert.Attn
-- ==== Proof.Attn.BodyValue.lean ====
/-
  THE VECTOR FUNCTIONS OF ONE GRID POINT, READ AT AN INDEX in the extended reals, and what they come to where the point's
  inputs are real numbers: the difference of two softmax averages, normed over the head.
-/
module

public import proofs.«01_k».proof.Proof.Attn.Body
public import proofs.«01_k».proof.Proof.Attn.Softmax
public import Idealize.ShloMosaic.Lib.WordCmp

@[expose] public section
set_option maxRecDepth 16384
noncomputable section
namespace Cert.KernelIdeal.Attn
open Cert.KernelIdeal Cert.KernelIdeal.Gen Cert.Attn Idealize.ShloMosaic Idealize.ShloMosaic.TcCoe Idealize.SL.Sem
open scoped BigOperators

/-- A masked query of the first map: the query below lane 64, zero from there on. -/
theorem maskLo_apply (q : Vec Ideal S1x1024x128 .bf16) (r : Fin 1024) (d : Fin 128) :
    maskLo q (ix2 r d) = if d.val < 64 then q (ix3 0 r d) else 0 := by
  pointwise [maskLo]
  rw [WordCmp.cmpi_slt_ofNat (by omega) (by omega)]
  by_cases h : d.val < 64 <;> simp [h, Scalar.select]

/-- A masked query of the second map: the query from lane 64 on, zero below. -/
theorem maskHi_apply (q : Vec Ideal S1x1024x128 .bf16) (r : Fin 1024) (d : Fin 128) :
    maskHi q (ix2 r d) = if 64 ≤ d.val then q (ix3 0 r d) else 0 := by
  pointwise [maskHi]
  rw [WordCmp.cmpi_sge_ofNat (by omega) (by omega)]
  by_cases h : 64 ≤ d.val <;> simp [h, Scalar.select]

/-- A score is the sum of the products over the 128 lanes. -/
theorem score_apply (q : FVec Ideal S1024x128 .bf16) (k : Vec Ideal S1x512x128 .bf16) (r : Fin 1024) (j : Fin 512) :
    score q k (ix2 r j) = ∑ d : Fin 128, q (ix2 r d) * k (ix3 0 j d) := by
  pointwise [score]

/-- The largest of four scores that lie 128 apart. -/
theorem fold4_apply (s : FVec Ideal S1024x512 .f32) (r : Fin 1024) (l : Fin 128) :
    fold4 s (ix2 r l) = max (max (max (s (ix2 r ⟨l.val, by omega⟩)) (s (ix2 r ⟨128 + l.val, by omega⟩)))
      (s (ix2 r ⟨256 + l.val, by omega⟩))) (s (ix2 r ⟨384 + l.val, by omega⟩)) := by
  pointwise [fold4]

/-- One chunk's weighted sum: the weights times the values in the first 128 columns, the weights alone in the rest. -/
theorem term_apply (mx : FVec Ideal S1024x1 .f32) (s : FVec Ideal S1024x512 .f32) (v : Vec Ideal S1x512x128 .bf16)
    (r : Fin 1024) (e : Fin 256) :
    term mx s v (ix2 r e) = ∑ j : Fin 512, Ideal.exp (s (ix2 r j) - mx (ix2 r 0))
      * (if h : e.val < 128 then v (ix3 0 j ⟨e.val, h⟩) else 1) := by
  pointwise [term]

/-- Where the scores of a row are real numbers, so is the row's maximum. -/
theorem rowMax_real (s : Fin 9 → FVec Ideal S1024x512 .f32) (r : Fin 1024) (sr : Fin 9 → Fin 512 → ℝ)
    (hs : ∀ n j, s n (ix2 r j) = (sr n j : EReal)) : ∃ M : ℝ, rowMax s (ix2 r 0) = (M : EReal) := by
  pointwise [rowMax]
  rw [ofBits_negInf]
  refine fold_max_real _ ⟨0, Finset.mem_univ _⟩ _ fun l => ?_
  simp only [fold4_apply, hs, ← coe_max]
  exact ⟨_, rfl⟩

/-- One chunk's weighted sum where scores, maximum and values are real numbers. -/
theorem term_real (mx : FVec Ideal S1024x1 .f32) (s : FVec Ideal S1024x512 .f32) (v : Vec Ideal S1x512x128 .bf16)
    (r : Fin 1024) (e : Fin 256) (M : ℝ) (sr : Fin 512 → ℝ) (vr : Fin 512 → Fin 128 → ℝ)
    (hM : mx (ix2 r 0) = (M : EReal)) (hs : ∀ j, s (ix2 r j) = (sr j : EReal))
    (hv : ∀ j d, v (ix3 0 j d) = (vr j d : EReal)) :
    term mx s v (ix2 r e) = ((∑ j : Fin 512, Real.exp (sr j - M) * (if h : e.val < 128 then vr j ⟨e.val, h⟩ else 1) : ℝ) : EReal) := by
  rw [term_apply, coe_sum]
  refine Finset.sum_congr rfl fun j _ => ?_
  rw [hM, hs, ← EReal.coe_sub, Ideal.exp_coe, EReal.coe_mul]
  by_cases h : e.val < 128 <;> simp [h, hv]

/-- The weighted sums of a row over all nine chunks, where the row's scores and the values are real numbers: for some
real number `M` taken from every score, the columns below 128 hold the weighted values and column 128 the sum of the
weights. -/
theorem attend_real (q : FVec Ideal S1024x128 .bf16) (k v : Fin 9 → Vec Ideal S1x512x128 .bf16) (r : Fin 1024)
    (sr : Fin 4608 → ℝ) (vr : Fin 4608 → Fin 128 → ℝ)
    (hs : ∀ n j, score q (k n) (ix2 r j) = (sr (key n j) : EReal))
    (hv : ∀ n j d, v n (ix3 0 j d) = (vr (key n j) d : EReal)) :
    ∃ M : ℝ, ∀ e : Fin 256, attend q k v (ix2 r e)
      = ((∑ j, Real.exp (sr j - M) * (if h : e.val < 128 then vr j ⟨e.val, h⟩ else 1) : ℝ) : EReal) := by
  obtain ⟨M, hM⟩ := rowMax_real (fun n => score q (k n)) r (fun n j => sr (key n j)) hs
  refine ⟨M, fun e => ?_⟩
  have ht : ∀ n, term (rowMax fun n => score q (k n)) (score q (k n)) (v n) (ix2 r e) = _ := fun n =>
    term_real _ _ _ r e M (fun j => sr (key n j)) (fun j => vr (key n j)) hM (hs n) (hv n)
  unfold attend accum
  pointwise
  simp only [ht, ← EReal.coe_add]
  rw [sum_key, sum_nine]

/-- The last step of the body at one element: the two normalized sums, the second times lambda, and the norm. -/
theorem final_apply (a b : FVec Ideal S1024x256 .f32) (lam : EReal) (w : FVec Ideal S1x128 .f32) (r : Fin 1024) (e : Fin 128) :
    k0_pay69 (F := Ideal) a b (k0_pay68 a) lam w (ix3 0 r e)
      = headNorm (fun d => a (ix2 r ⟨d.val, by omega⟩) * Ideal.div 1 (a (ix2 r 128))
          - lam * (b (ix2 r ⟨d.val, by omega⟩) * Ideal.div 1 (b (ix2 r 128)))) (fun d => w (ix2 0 d)) e := by
  pointwise [k0_pay69, k0_pay68, headNorm]

/-- The weighted values times the reciprocal of the sum of the weights are the softmax average. -/
theorem normalized_real (a : FVec Ideal S1024x256 .f32) (r : Fin 1024) (M : ℝ) (sr : Fin 4608 → ℝ)
    (vr : Fin 4608 → Fin 128 → ℝ)
    (ha : ∀ e : Fin 256, a (ix2 r e)
      = ((∑ j, Real.exp (sr j - M) * (if h : e.val < 128 then vr j ⟨e.val, h⟩ else 1) : ℝ) : EReal)) (d : Fin 128) :
    a (ix2 r ⟨d.val, by omega⟩) * Ideal.div 1 (a (ix2 r 128)) = ((softAvg sr (fun j => vr j d) : ℝ) : EReal) := by
  have h1 : a (ix2 r 128) = ((∑ j, Real.exp (sr j - M) : ℝ) : EReal) := by
    rw [ha 128]; congr 1; exact Finset.sum_congr rfl fun j _ => by simp
  have h0 : a (ix2 r ⟨d.val, by omega⟩) = ((∑ j, Real.exp (sr j - M) * vr j d : ℝ) : EReal) := by
    rw [ha ⟨d.val, by omega⟩]; congr 1; exact Finset.sum_congr rfl fun j _ => by simp
  rw [h1, h0, Ideal.div_coe (sum_exp_pos _).ne', one_mul, ← EReal.coe_mul, softAvg_shift]

/-- The score of a masked query of the first map and a key, both real. -/
theorem score_lo (x1 : Vec Ideal S1x1024x128 .bf16) (k : Vec Ideal S1x512x128 .bf16) (r : Fin 1024) (j : Fin 512)
    (qr kr : Fin 128 → ℝ) (hq : ∀ d, x1 (ix3 0 r d) = (qr d : EReal)) (hk : ∀ d, k (ix3 0 j d) = (kr d : EReal)) :
    score (maskLo x1) k (ix2 r j) = ((∑ d : Fin 64, qr ⟨d.val, by omega⟩ * kr ⟨d.val, by omega⟩ : ℝ) : EReal) := by
  rw [score_apply, coe_sum, Fin.sum_univ_add (a := 64) (b := 64)]
  have h2 : ∀ d : Fin 64, maskLo x1 (ix2 r (Fin.natAdd 64 d)) * k (ix3 0 j (Fin.natAdd 64 d)) = 0 := fun d => by
    rw [maskLo_apply, if_neg (by simp), zero_mul]
  simp only [h2, Finset.sum_const_zero, add_zero]
  refine Finset.sum_congr rfl fun d _ => ?_
  rw [maskLo_apply, if_pos (by simp), hq, hk, ← EReal.coe_mul]
  rfl

/-- The score of a masked query of the second map and a key, both real. -/
theorem score_hi (x1 : Vec Ideal S1x1024x128 .bf16) (k : Vec Ideal S1x512x128 .bf16) (r : Fin 1024) (j : Fin 512)
    (qr kr : Fin 128 → ℝ) (hq : ∀ d, x1 (ix3 0 r d) = (qr d : EReal)) (hk : ∀ d, k (ix3 0 j d) = (kr d : EReal)) :
    score (maskHi x1) k (ix2 r j)
      = ((∑ d : Fin 64, qr ⟨64 + d.val, by omega⟩ * kr ⟨64 + d.val, by omega⟩ : ℝ) : EReal) := by
  rw [score_apply, coe_sum, Fin.sum_univ_add (a := 64) (b := 64)]
  have h1 : ∀ d : Fin 64, maskHi x1 (ix2 r (Fin.castAdd 64 d)) * k (ix3 0 j (Fin.castAdd 64 d)) = 0 := fun d => by
    rw [maskHi_apply, if_neg (by simp), zero_mul]
  simp only [h1, Finset.sum_const_zero, zero_add]
  refine Finset.sum_congr rfl fun d _ => ?_
  rw [maskHi_apply, if_pos (by simp), hq, hk, ← EReal.coe_mul]
  rfl

/-- The chunks of a block read at an index: key `key n j` of the 4096 latent rows followed by the 512 cached rows. -/
theorem chunks_apply (x : Vec Ideal S1x4096x128 .bf16) (y : Vec Ideal S1x512x128 .bf16) (n : Fin 9) (j : Fin 512) (d : Fin 128) :
    chunks x y n (ix3 0 j d) = if h : (key n j).val < 4096 then x (ix3 0 ⟨(key n j).val, h⟩ d)
      else y (ix3 0 ⟨(key n j).val - 4096, by omega⟩ d) := by
  fin_cases n <;> (unfold chunks key; pointwise) <;> rw [dif_pos (by omega)]

/-- One element of the stored block where queries, keys, values and lambda are real numbers: the difference of the two
softmax averages over the 4608 keys, normed over the head's lanes. -/
theorem block_real (x0 : Vec Ideal S1 .f32) (x1 : Vec Ideal S1x1024x128 .bf16) (x2 x3 : Vec Ideal S1x4096x128 .bf16)
    (x4 x5 : Vec Ideal S1x512x128 .bf16) (x6 : Vec Ideal S1x128 .f32) (r : Fin 1024) (e : Fin 128)
    (lam : ℝ) (qr : Fin 128 → ℝ) (kr vr : Fin 4608 → Fin 128 → ℝ)
    (hl : x0 (ix1 0) = (lam : EReal)) (hq : ∀ d, x1 (ix3 0 r d) = (qr d : EReal))
    (hk : ∀ n j d, chunks x2 x4 n (ix3 0 j d) = (kr (key n j) d : EReal))
    (hv : ∀ n j d, chunks x3 x5 n (ix3 0 j d) = (vr (key n j) d : EReal)) :
    block x0 x1 x2 x3 x4 x5 x6 (ix3 0 r e)
      = headNorm (fun x => ((softAvg (fun j => ∑ d : Fin 64, qr ⟨d.val, by omega⟩ * kr j ⟨d.val, by omega⟩) (fun j => vr j x)
          - lam * softAvg (fun j => ∑ d : Fin 64, qr ⟨64 + d.val, by omega⟩ * kr j ⟨64 + d.val, by omega⟩) (fun j => vr j x) : ℝ) : EReal))
          (fun d => x6 (ix2 0 d)) e := by
  obtain ⟨M, hM⟩ := attend_real (maskLo x1) (chunks x2 x4) (chunks x3 x5) r
    (fun j => ∑ d : Fin 64, qr ⟨d.val, by omega⟩ * kr j ⟨d.val, by omega⟩) vr
    (fun n j => score_lo x1 _ r j qr (kr (key n j)) hq (hk n j)) hv
  obtain ⟨N, hN⟩ := attend_real (maskHi x1) (chunks x2 x4) (chunks x3 x5) r
    (fun j => ∑ d : Fin 64, qr ⟨64 + d.val, by omega⟩ * kr j ⟨64 + d.val, by omega⟩) vr
    (fun n j => score_hi x1 _ r j qr (kr (key n j)) hq (hk n j)) hv
  unfold block
  rw [final_apply, hl]
  congr 1
  funext x
  rw [normalized_real _ r M _ vr hM x, normalized_real _ r N _ vr hN x, ← EReal.coe_mul, ← EReal.coe_sub]

end Cert.KernelIdeal.Attn
-- ==== Proof.Attn.Spec.lean ====
/-
  THE DIFFERENTIAL ATTENTION AS A FUNCTION OF THE ARGUMENT ARRAYS, element by element: what both programs are shown to
  compute. Queries, keys and values are read with lane `128 h + d` as lane `d` of head `h`; the first 64 lanes of a head are
  those of the first softmax map, the other 64 those of the second.
-/
module

public import proofs.«01_k».proof.Proof.Attn.Softmax

@[expose] public section
noncomputable section
namespace Cert.Attn
open Idealize.ShloMosaic
open scoped BigOperators

/-- An array of 4 sequences of 4096 rows of 512 lanes. -/
abbrev SQ : Shape := ⟨3, ![4, 4096, 512]⟩
/-- A cache: 4 sequences, one layer, 512 rows of four heads of 128 lanes. -/
abbrev SC : Shape := ⟨5, ![4, 1, 512, 4, 128]⟩
/-- A pair of vectors of 64 numbers. -/
abbrev SL : Shape := ⟨3, ![1, 2, 64]⟩

/-- Lane `d` of head `h`. -/
def lane (h : Fin 4) (d : Fin 128) : Fin 512 := ⟨128 * h.val + d.val, by omega⟩

/-- Row `j` of the keys (or values) a query of sequence `b` sees: the sequence's own 4096 rows, then the 512 cached rows. -/
def allRows (k : SQ.Idx → ℝ) (ck : SC.Idx → ℝ) (b h : Fin 4) (j : Fin 4608) (d : Fin 128) : ℝ :=
  if hj : j.val < 4096 then k (ix3 b ⟨j.val, hj⟩ (lane h d)) else ck (ix5 b 0 ⟨j.val - 4096, by omega⟩ h d)

/-- The score of a query row and key `j` in softmax map `μ`. -/
def dotMap (q : SQ.Idx → ℝ) (kr : Fin 4608 → Fin 128 → ℝ) (b : Fin 4) (i : Fin 4096) (h : Fin 4) (μ : Fin 2) (j : Fin 4608) : ℝ :=
  ∑ d : Fin 64, q (ix3 b i (lane h ⟨64 * μ.val + d.val, by omega⟩)) * kr j ⟨64 * μ.val + d.val, by omega⟩

/-- The mixing factor: the exponentials of the two dot products of the lambda vectors, their difference, plus the constant. -/
def lambda (lq lk : SL.Idx → EReal) : EReal :=
  Ideal.exp (∑ d : Fin 64, lq (ix3 0 0 d) * lk (ix3 0 0 d)) - Ideal.exp (∑ d : Fin 64, lq (ix3 0 1 d) * lk (ix3 0 1 d))
    + Ideal.ofBits .f32 0x3E4CCCCD#32

/-- One head's output vector before the norm: the difference of the two softmax averages of the values. -/
def headOut (lam : ℝ) (q k v : SQ.Idx → ℝ) (ck cv : SC.Idx → ℝ) (b : Fin 4) (i : Fin 4096) (h : Fin 4) (x : Fin 128) : ℝ :=
  softAvg (dotMap q (allRows k ck b h) b i h 0) (fun j => allRows v cv b h j x)
    - lam * softAvg (dotMap q (allRows k ck b h) b i h 1) (fun j => allRows v cv b h j x)

/-- The attention's result at sequence `b`, row `i`, head `h`, lane `e`. -/
def attn (lam : ℝ) (q k v : SQ.Idx → ℝ) (ck cv : SC.Idx → ℝ) (w : Fin 128 → EReal) (b : Fin 4) (i : Fin 4096)
    (h : Fin 4) (e : Fin 128) : EReal :=
  headNorm (fun x => (headOut lam q k v ck cv b i h x : EReal)) w e

/-- Element `(b, i, l)` of the result as a function of real arguments: head `l / 128`, lane `l % 128`. -/
def result (lam : ℝ) (q k v : SQ.Idx → ℝ) (ck cv : SC.Idx → ℝ) (w : Fin 128 → EReal) (y : SQ.Idx) : EReal :=
  attn lam q k v ck cv w (y 0) (y 1) ⟨(y 2).val / 128, by have : (y 2).val < 512 := (y 2).isLt; omega⟩
    ⟨(y 2).val % 128, Nat.mod_lt _ (by decide)⟩

/-- Where the lambda vectors are real numbers, so is the mixing factor. -/
theorem lambda_real (lq lk : SL.Idx → EReal) (hq : ∀ i, ∃ r : ℝ, lq i = r) (hk : ∀ i, ∃ r : ℝ, lk i = r) :
    ∃ r : ℝ, lambda lq lk = r := by
  choose f hf using hq
  choose g hg using hk
  have h2 : ∃ r : ℝ, Ideal.ofBits .f32 0x3E4CCCCD#32 = r := by
    simp only [Ideal.ofBits, Ideal.ieee]
    rw [if_neg (by decide), if_neg (by decide)]
    exact ⟨_, rfl⟩
  obtain ⟨c, hc⟩ := h2
  unfold lambda
  simp only [hf, hg, hc, ← EReal.coe_mul, ← coe_sum, Ideal.exp_coe, ← EReal.coe_sub, ← EReal.coe_add]
  exact ⟨_, rfl⟩

end Cert.Attn
-- ==== Proof.Attn.Reads.lean ====
/-
  THE BLOCKS OF A GRID POINT, READ FROM THE ARGUMENT ARRAYS: which element of which argument each element of a block is.
-/
module

public import proofs.«01_k».proof.Proof.Attn.Body
public import proofs.«01_k».proof.Proof.Attn.Spec

@[expose] public section
set_option maxRecDepth 16384
noncomputable section
namespace Cert.KernelIdeal.Attn
open Cert.KernelIdeal Cert.KernelIdeal.Gen Cert.Attn Idealize.ShloMosaic Idealize.ShloMosaic.TcCoe Idealize.SL.Sem
open scoped BigOperators

variable (m : (ℓ : Loc nD τ sig) → Buf (Elt Ideal) ℓ) (c : Dev nD)

/-- The windows' block indices at a grid point, in the coordinates (sequence, head, block of 1024 rows). -/
theorem idx : ∀ t : Fin cfg0.N,
    win0_1.index t = ![(grid0.coords t 0).val, (grid0.coords t 2).val, (grid0.coords t 1).val]
    ∧ win0_2.index t = ![(grid0.coords t 0).val, 0, (grid0.coords t 1).val]
    ∧ win0_3.index t = ![(grid0.coords t 0).val, 0, (grid0.coords t 1).val]
    ∧ win0_4.index t = ![(grid0.coords t 0).val, 0, (grid0.coords t 1).val]
    ∧ win0_5.index t = ![(grid0.coords t 0).val, 0, (grid0.coords t 1).val]
    ∧ win0_6.index t = ![0, 0]
    ∧ win0_7.index t = ![(grid0.coords t 0).val, (grid0.coords t 2).val, (grid0.coords t 1).val] :=
  (by decide +kernel : ∀ t : Fin grid0.N, _)

/-- The sequence of a grid point. -/
def ptB (t : Fin cfg0.N) : Fin 4 := grid0.coords t 0
/-- The head of a grid point. -/
def ptH (t : Fin cfg0.N) : Fin 4 := grid0.coords t 1
/-- Row `r` of a grid point's block of 1024 query rows, as a row of the sequence. -/
def ptI (t : Fin cfg0.N) (r : Fin 1024) : Fin 4096 := ⟨1024 * (grid0.coords t 2).val + r.val, by
  have : (grid0.coords t 2).val < 4 := (grid0.coords t 2).isLt
  omega⟩

/-- The query block, read from the argument array. -/
theorem q_read (t : Fin cfg0.N) (r : Fin 1024) (d : Fin 128) :
    iblk m c 1 t (ix3 0 r d) = m ((c : Thread nD τ).loc main_arg0) (ix3 (ptB t) (ptI t r) (lane (ptH t) d)) := by
  blk_ext! [iblk, V, idx t, ptB, ptI, ptH, lane]

/-- The block of keys, read from the argument array. -/
theorem k_read (t : Fin cfg0.N) (r : Fin 4096) (d : Fin 128) :
    iblk m c 2 t (ix3 0 r d) = m ((c : Thread nD τ).loc main_arg1) (ix3 (ptB t) r (lane (ptH t) d)) := by
  blk_ext! [iblk, V, idx t, ptB, ptI, ptH, lane]

/-- The block of values, read from the argument array. -/
theorem v_read (t : Fin cfg0.N) (r : Fin 4096) (d : Fin 128) :
    iblk m c 3 t (ix3 0 r d) = m ((c : Thread nD τ).loc main_arg2) (ix3 (ptB t) r (lane (ptH t) d)) := by
  blk_ext! [iblk, V, idx t, ptB, ptI, ptH, lane]

/-- The block of cached keys, read from the argument array. -/
theorem ck_read (t : Fin cfg0.N) (r : Fin 512) (d : Fin 128) :
    iblk m c 4 t (ix3 0 r d) = m ((c : Thread nD τ).loc main_arg3) (ix5 (ptB t) 0 r (ptH t) d) := by
  have h0 : (((((cfg0.win 4).blk t).view.emb (ix3 0 r d)) 0 : Fin 4) : ℕ) = (grid0.coords t 0).val := by
    blk_simp [idx t]; rfl
  have h1 : (((((cfg0.win 4).blk t).view.emb (ix3 0 r d)) 1 : Fin 512) : ℕ) = r.val := by
    blk_simp [idx t]
  have h2 : (((((cfg0.win 4).blk t).view.emb (ix3 0 r d)) 2 : Fin 512) : ℕ) = (grid0.coords t 1).val * 128 + d.val := by
    blk_simp [idx t]
  blk_simp [iblk]
  entry_read
  pointwise
  refine congrArg (m _) ?_
  congr 1
  · exact Fin.ext h0
  · exact Fin.ext h1
  · exact Fin.ext ((congrArg (· / 128) h2).trans (by simp only [ptH]; omega))
  · exact Fin.ext ((congrArg (· % 128) h2).trans (by simp only []; omega))

/-- The block of cached values, read from the argument array. -/
theorem cv_read (t : Fin cfg0.N) (r : Fin 512) (d : Fin 128) :
    iblk m c 5 t (ix3 0 r d) = m ((c : Thread nD τ).loc main_arg4) (ix5 (ptB t) 0 r (ptH t) d) := by
  have h0 : (((((cfg0.win 5).blk t).view.emb (ix3 0 r d)) 0 : Fin 4) : ℕ) = (grid0.coords t 0).val := by
    blk_simp [idx t]; rfl
  have h1 : (((((cfg0.win 5).blk t).view.emb (ix3 0 r d)) 1 : Fin 512) : ℕ) = r.val := by
    blk_simp [idx t]
  have h2 : (((((cfg0.win 5).blk t).view.emb (ix3 0 r d)) 2 : Fin 512) : ℕ) = (grid0.coords t 1).val * 128 + d.val := by
    blk_simp [idx t]
  blk_simp [iblk]
  entry_read
  pointwise
  refine congrArg (m _) ?_
  congr 1
  · exact Fin.ext h0
  · exact Fin.ext h1
  · exact Fin.ext ((congrArg (· / 128) h2).trans (by simp only [ptH]; omega))
  · exact Fin.ext ((congrArg (· % 128) h2).trans (by simp only []; omega))

/-- The one number in the small memory: the mixing factor, of the lambda vectors. -/
theorem lam_read (t : Fin cfg0.N) :
    iblk m c 0 t (ix1 0) = lambda (m ((c : Thread nD τ).loc main_arg5)) (m ((c : Thread nD τ).loc main_arg6)) := by
  blk_simp [iblk, idx t]
  entry_read
  pointwise
  rfl

/-- The weight of the norm, read from the argument array. -/
theorem w_read (t : Fin cfg0.N) (d : Fin 128) :
    iblk m c 6 t (ix2 0 d) = m ((c : Thread nD τ).loc main_arg7) (ix2 0 d) := by
  blk_ext! [iblk, V, idx t, ptB, ptI, ptH, lane]

end Cert.KernelIdeal.Attn
-- ==== Proof.Attn.Array.lean ====
/-
  THE KERNEL'S RESULT ARRAY: every element is the differential attention of the argument arrays at that element.
-/
module

public import proofs.«01_k».proof.Proof.Attn.BodyValue
public import proofs.«01_k».proof.Proof.Attn.Reads

@[expose] public section
set_option maxRecDepth 16384
noncomputable section
namespace Cert.KernelIdeal.Attn
open Cert.KernelIdeal Cert.KernelIdeal.Gen Cert.Attn Idealize.ShloMosaic Idealize.ShloMosaic.TcCoe Idealize.SL.Sem
open scoped BigOperators

variable (m : (ℓ : Loc nD τ sig) → Buf (Elt Ideal) ℓ) (c : Dev nD)

/-- The result at an index with given sequence, row, head and lane. -/
theorem result_at (lam : ℝ) (q k v : SQ.Idx → ℝ) (ck cv : SC.Idx → ℝ) (w : Fin 128 → EReal) (y : SQ.Idx)
    (b : Fin 4) (i : Fin 4096) (h : Fin 4) (e : Fin 128) (h0 : (y 0).val = b.val) (h1 : (y 1).val = i.val)
    (h2 : (y 2).val = 128 * h.val + e.val) :
    result lam q k v ck cv w y = attn lam q k v ck cv w b i h e := by
  have e0 : y 0 = b := Fin.ext h0
  have e1 : y 1 = i := Fin.ext h1
  unfold result
  rw [e0, e1]
  congr 1 <;> refine Fin.ext ?_ <;> simp only [h2] <;> omega

/-- The array that the run leaves in the result buffer, where the arguments are real numbers. -/
theorem array (lam : ℝ) (q k v : SQ.Idx → ℝ) (ck cv : SC.Idx → ℝ)
    (hl : lambda (m ((c : Thread nD τ).loc main_arg5)) (m ((c : Thread nD τ).loc main_arg6)) = lam)
    (hq : ∀ i, m ((c : Thread nD τ).loc main_arg0) i = (q i : EReal))
    (hk : ∀ i, m ((c : Thread nD τ).loc main_arg1) i = (k i : EReal))
    (hv : ∀ i, m ((c : Thread nD τ).loc main_arg2) i = (v i : EReal))
    (hck : ∀ i, m ((c : Thread nD τ).loc main_arg3) i = (ck i : EReal))
    (hcv : ∀ i, m ((c : Thread nD τ).loc main_arg4) i = (cv i : EReal)) :
    (dats m 0 c).arrAt 7 cfg0.N
      = result lam q k v ck cv (fun d => m ((c : Thread nD τ).loc main_arg7) (ix2 0 d)) := by
  refine (dats m 0 c).arrAt_eq_of_covers 7 _ (by decide +kernel) fun t hf y => ?_
  blk_simp
  rw [after0_7]
  unfold outsAt0
  rw [out_eq]
  obtain ⟨r, e, rfl⟩ : ∃ (r : Fin 1024) (e : Fin 128), y = ix3 0 r e :=
    ⟨y 1, y 2, (eq_ix3 y).trans (congrArg (ix3 · (y 1) (y 2)) (Subsingleton.elim (α := Fin 1) _ _))⟩
  rw [block_real (iblk m c 0 t) (iblk m c 1 t) (iblk m c 2 t) (iblk m c 3 t) (iblk m c 4 t) (iblk m c 5 t) (iblk m c 6 t)
    r e lam (fun d => q (ix3 (ptB t) (ptI t r) (lane (ptH t) d))) (allRows k ck (ptB t) (ptH t)) (allRows v cv (ptB t) (ptH t))
    ((lam_read m c t).trans hl) (fun d => (q_read m c t r d).trans (hq _))
    (fun n j d => by
      rw [chunks_apply]; unfold allRows
      split
      · exact (k_read m c t _ d).trans (hk _)
      · exact (ck_read m c t _ d).trans (hck _))
    (fun n j d => by
      rw [chunks_apply]; unfold allRows
      split
      · exact (v_read m c t _ d).trans (hv _)
      · exact (cv_read m c t _ d).trans (hcv _))]
  rw [result_at lam q k v ck cv _ ((win0_7.blk t).view.emb (ix3 0 r e)) (ptB t) (ptI t r) (ptH t) e
    (by blk_simp [idx t]; rfl) (by blk_simp [idx t]; simp only [ptI]; omega) (by blk_simp [idx t]; simp only [ptH]; omega)]
  unfold attn headOut
  have hw : (fun d => iblk m c 6 t (ix2 0 d)) = fun d : Fin 128 => m ((c : Thread nD τ).loc main_arg7) (ix2 0 d) :=
    funext fun d => w_read m c t d
  rw [hw]
  congr 1

end Cert.KernelIdeal.Attn
-- ==== Proof.Attn.Reference.lean ====
/-
  THE REFERENCE'S RESULT, stage by stage: scores, softmax weights, the mixed weights, the heads' outputs and the norm.
-/
module

public import proofs.«01_k».proof.Proof.Gen.ReferenceIdeal.Run
public import proofs.«01_k».proof.Proof.Attn.Softmax
public import proofs.«01_k».proof.Proof.Attn.Spec
public import Idealize.ShloMosaic.Lib.Pointwise
public import Idealize.ShloMosaic.Lib.ValueIdx

@[expose] public section
set_option maxRecDepth 16384
noncomputable section
namespace Cert.ReferenceIdeal.Attn
open Cert.ReferenceIdeal Cert.ReferenceIdeal.Gen Cert.Attn Idealize.ShloMosaic Idealize.ShloMosaic.TcCoe
open scoped BigOperators

/-- The scores of every query against every key, in both maps. -/
def scores (q k : FVec Ideal S4x4096x512 .bf16) (ck : FVec Ideal S4x1x512x4x128 .f32) : FVec Ideal S4x4x2x4096x4608 .f32 :=
  Host.dotGeneral dot_S4x4096x4x2x64_S4x4608x4x2x64_S4x4x2x4096x4608_4_4_1_1_023_023 none
    (shapeCast _ (extf .f32 q bitsLt_bf16_f32) shapeCasts_S4x4096x512_S4x4096x4x2x64)
    (concatenate S4x4608x4x2x64 1 [⟨S4x4096x4x2x64, (shapeCast _ (extf .f32 k bitsLt_bf16_f32) shapeCasts_S4x4096x512_S4x4096x4x2x64)⟩,
      ⟨S4x512x4x2x64, (shapeCast _ (shapeCast _ ck shapeCasts_S4x1x512x4x128_S4x512x4x128) shapeCasts_S4x512x4x128_S4x512x4x2x64)⟩]
      concatenates_S4x4096x4x2x64_S4x512x4x2x64_S4x4608x4x2x64_d1)

/-- The largest score of each row. -/
def rowTop (s : FVec Ideal S4x4x2x4096x4608 .f32) : FVec Ideal S4x4x2x4096 .f32 :=
  maximumf (broadcastInDim S4x4x2x4096 ![] bcast_S_S4x4x2x4096 (constant S_ .f32 0xFF800000#32))
    (Host.reduce FloatOps.maximumf s (constant S_ .f32 0xFF800000#32) reducesTo_S4x4x2x4096x4608_S4x4x2x4096_d4 h_S_)

/-- The exponentials of the scores less their row's largest. -/
def exps (s : FVec Ideal S4x4x2x4096x4608 .f32) : FVec Ideal S4x4x2x4096x4608 .f32 :=
  Host.exp (subf s (broadcastInDim S4x4x2x4096x4608 ![0, 1, 2, 3, 4] bcast_S4x4x2x4096x1_S4x4x2x4096x4608_0_1_2_3_4
    (broadcastInDim S4x4x2x4096x1 ![0, 1, 2, 3] bcast_S4x4x2x4096_S4x4x2x4096x1_0_1_2_3 (rowTop s))))

/-- The softmax weights. -/
def weights (s : FVec Ideal S4x4x2x4096x4608 .f32) : FVec Ideal S4x4x2x4096x4608 .f32 :=
  Host.divf (exps s) (broadcastInDim S4x4x2x4096x4608 ![0, 1, 2, 3, 4] bcast_S4x4x2x4096x1_S4x4x2x4096x4608_0_1_2_3_4
    (broadcastInDim S4x4x2x4096x1 ![0, 1, 2, 3] bcast_S4x4x2x4096_S4x4x2x4096x1_0_1_2_3
      (Host.reduceAdd (exps s) (constant S_ .f32 0x00000000#32) reducesTo_S4x4x2x4096x4608_S4x4x2x4096_d4 h_S_)))

/-- The mixing factor. -/
def mixing (lq lk : FVec Ideal S1x2x64 .f32) : FVec Ideal S_ .f32 :=
  addf (subf
    (Host.exp (Host.reduceAdd (mulf
      (shapeCast _ (extractStridedSlice S1x64 ![0, 0] (shapeCast _ lq shapeCasts_S1x2x64_S2x64) slices_S2x64_S1x64_0_0) shapeCasts_S1x64_S64)
      (shapeCast _ (extractStridedSlice S1x64 ![0, 0] (shapeCast _ lk shapeCasts_S1x2x64_S2x64) slices_S2x64_S1x64_0_0) shapeCasts_S1x64_S64))
      (constant S_ .f32 0x00000000#32) reducesTo_S64_S_d0 h_S_))
    (Host.exp (Host.reduceAdd (mulf
      (shapeCast _ (extractStridedSlice S1x64 ![1, 0] (shapeCast _ lq shapeCasts_S1x2x64_S2x64) slices_S2x64_S1x64_1_0) shapeCasts_S1x64_S64)
      (shapeCast _ (extractStridedSlice S1x64 ![1, 0] (shapeCast _ lk shapeCasts_S1x2x64_S2x64) slices_S2x64_S1x64_1_0) shapeCasts_S1x64_S64))
      (constant S_ .f32 0x00000000#32) reducesTo_S64_S_d0 h_S_)))
    (constant S_ .f32 0x3E4CCCCD#32)

/-- The first map's weights less the mixing factor times the second map's. -/
def mixed (p : FVec Ideal S4x4x2x4096x4608 .f32) (lam : FVec Ideal S_ .f32) : FVec Ideal S4x4x4096x4608 .f32 :=
  subf (shapeCast _ (extractStridedSlice S4x4x1x4096x4608 ![0, 0, 0, 0, 0] p slices_S4x4x2x4096x4608_S4x4x1x4096x4608_0_0_0_0_0)
      shapeCasts_S4x4x1x4096x4608_S4x4x4096x4608)
    (mulf (broadcastInDim S4x4x4096x4608 ![] bcast_S_S4x4x4096x4608 lam)
      (shapeCast _ (extractStridedSlice S4x4x1x4096x4608 ![0, 0, 1, 0, 0] p slices_S4x4x2x4096x4608_S4x4x1x4096x4608_0_0_1_0_0)
        shapeCasts_S4x4x1x4096x4608_S4x4x4096x4608))

/-- The heads' outputs: the mixed weights times the values. -/
def heads (v : FVec Ideal S4x4096x512 .bf16) (cv : FVec Ideal S4x1x512x4x128 .f32) (w : FVec Ideal S4x4x4096x4608 .f32) :
    FVec Ideal S4x4096x4x128 .f32 :=
  transpose S4x4096x4x128 [0, 3, 1, 2] (Host.dotGeneral dot_S4x4608x4x128_S4x4x4096x4608_S4x4x128x4096_1_3_3_2_02_01 none
    (concatenate S4x4608x4x128 1 [⟨S4x4096x4x128, (shapeCast _ (extf .f32 v bitsLt_bf16_f32) shapeCasts_S4x4096x512_S4x4096x4x128)⟩,
      ⟨S4x512x4x128, (shapeCast _ cv shapeCasts_S4x1x512x4x128_S4x512x4x128)⟩] concatenates_S4x4096x4x128_S4x512x4x128_S4x4608x4x128_d1)
    w) transposes_S4x4x128x4096_S4x4096x4x128_0_3_1_2

/-- The norm over a head's lanes, its weight and the constant, laid out as the result. -/
def normed (o : FVec Ideal S4x4096x4x128 .f32) (w : FVec Ideal S1x128 .f32) : FVec Ideal S4x4096x512 .bf16 :=
  truncf .bf16 (shapeCast _ (mulf (mulf (mulf o
      (broadcastInDim S4x4096x4x128 ![0, 1, 2, 3] bcast_S4x4096x4x1_S4x4096x4x128_0_1_2_3 (Host.rsqrt (addf (Host.divf
        (broadcastInDim S4x4096x4x1 ![0, 1, 2] bcast_S4x4096x4_S4x4096x4x1_0_1_2
          (Host.reduceAdd (mulf o o) (constant S_ .f32 0x00000000#32) reducesTo_S4x4096x4x128_S4x4096x4_d3 h_S_))
        (broadcastInDim S4x4096x4x1 ![] bcast_S_S4x4096x4x1 (constant S_ .f32 0x43000000#32)))
        (broadcastInDim S4x4096x4x1 ![] bcast_S_S4x4096x4x1 (constant S_ .f32 0x358637BD#32))))))
      (broadcastInDim S4x4096x4x128 ![0, 1, 2, 3] bcast_S1x1x1x128_S4x4096x4x128_0_1_2_3
        (broadcastInDim S1x1x1x128 ![3] bcast_S128_S1x1x1x128_3 (shapeCast _ w shapeCasts_S1x128_S128))))
      (broadcastInDim S4x4096x4x128 ![] bcast_S_S4x4096x4x128 (constant S_ .f32 0x3F4CCCCD#32)))
    shapeCasts_S4x4096x4x128_S4x4096x512) bitsLt_bf16_f32

/-- The reference's result is its stages one after the other. -/
theorem result_stages (m : (ℓ : Loc nD τ sig) → Buf (Elt Ideal) ℓ) (c : Dev nD) :
    Value.res_out0 m c
      = normed (heads (m ((c : Thread nD τ).loc main_arg2)) (m ((c : Thread nD τ).loc main_arg4))
          (mixed (weights (scores (m ((c : Thread nD τ).loc main_arg0)) (m ((c : Thread nD τ).loc main_arg1)) (m ((c : Thread nD τ).loc main_arg3))))
            (mixing (m ((c : Thread nD τ).loc main_arg5)) (m ((c : Thread nD τ).loc main_arg6)))))
          (m ((c : Thread nD τ).loc main_arg7)) := rfl

/-- Where queries and keys are real numbers, a score is the map's dot product. -/
theorem scores_real (q k : FVec Ideal S4x4096x512 .bf16) (ck : FVec Ideal S4x1x512x4x128 .f32) (qR kR : SQ.Idx → ℝ) (ckR : SC.Idx → ℝ)
    (hq : ∀ i, q i = (qR i : EReal)) (hk : ∀ i, k i = (kR i : EReal)) (hck : ∀ i, ck i = (ckR i : EReal))
    (b h : Fin 4) (μ : Fin 2) (i : Fin 4096) (j : Fin 4608) :
    scores q k ck (ix5 b h μ i j) = (dotMap qR (allRows kR ckR b h) b i h μ j : EReal) := by
  pointwise [scores]
  unfold dotMap
  rw [coe_sum]
  refine Finset.sum_congr rfl fun d _ => ?_
  rw [hq, EReal.coe_mul]
  have hl : (⟨h.val * 128 + μ.val * 64 + d.val, by omega⟩ : Fin 512) = lane h ⟨64 * μ.val + d.val, by omega⟩ :=
    Fin.ext (by simp only [lane]; omega)
  have hd : (⟨μ.val * 64 + d.val, by omega⟩ : Fin 128) = ⟨64 * μ.val + d.val, by omega⟩ := Fin.ext (by simp only []; omega)
  rw [hl]
  congr 1
  unfold allRows
  split
  · exact hk _
  · rw [hd]; exact hck _

/-- A reduction by maximum over one axis, from minus infinity, of real numbers is a real number. -/
theorem reduceMax_real {s t u : Shape} {a : Fin s.rank} (x : FVec Ideal s .f32) (init : FVec Ideal u .f32) (h' : s.ReducesTo [a] t)
    (h : s.Reduces [a] t) (hu : 0 < u.numel) (y : t.Idx) (hn : 0 < s.size a) (hx : ∀ i, ∃ r : ℝ, x i = r)
    (hi : init (Shape.Idx.first hu) = (⊥ : EReal)) : ∃ r : ℝ, Host.reduce FloatOps.maximumf x init h' hu y = r := by
  rw [Host.reduce_eq_fold_single FloatOps.maximumf x init h' h hu y, hi]
  exact fold_max_real Finset.univ ⟨⟨0, hn⟩, Finset.mem_univ _⟩ (x ∘ h.lift y) fun k => hx _

/-- Where every score is a real number, so is a row's largest. -/
theorem rowTop_real (s : FVec Ideal S4x4x2x4096x4608 .f32) (hs : ∀ i, ∃ r : ℝ, s i = r) (y : S4x4x2x4096.Idx) :
    ∃ r : ℝ, rowTop s y = r := by
  obtain ⟨r, hr⟩ := reduceMax_real s (constant S_ .f32 0xFF800000#32) reducesTo_S4x4x2x4096x4608_S4x4x2x4096_d4 (by decide) h_S_ y
    (by decide) hs ofBits_negInf
  refine ⟨r, ?_⟩
  unfold rowTop
  refine (ValueIdx.maximumf_apply _ _ _).trans ?_
  rw [hr]
  refine (congrArg (fun z : EReal => max z (r : EReal)) ofBits_negInf).trans (max_eq_right bot_le)

/-- Where the scores are real numbers, the weights are the exponentials of the shifted scores over their sum. -/
theorem weights_real (s : FVec Ideal S4x4x2x4096x4608 .f32) (f : Fin 4 → Fin 4 → Fin 2 → Fin 4096 → Fin 4608 → ℝ)
    (hs : ∀ b h μ i j, s (ix5 b h μ i j) = (f b h μ i j : EReal)) (b h : Fin 4) (μ : Fin 2) (i : Fin 4096) :
    ∃ M : ℝ, ∀ j, weights s (ix5 b h μ i j)
      = ((Real.exp (f b h μ i j - M) * (1 / ∑ j, Real.exp (f b h μ i j - M)) : ℝ) : EReal) := by
  obtain ⟨M, hM⟩ := rowTop_real s (fun y => ⟨_, (congrArg s (eq_ix5 y)).trans (hs _ _ _ _ _)⟩) (ix4 b h μ i)
  refine ⟨M, fun j => ?_⟩
  pointwise [weights, exps]
  simp only [hs, hM, ← EReal.coe_sub, Ideal.exp_coe, ← coe_sum]
  rw [Ideal.div_coe (sum_exp_pos _).ne', EReal.coe_mul]

/-- The mixing factor is the one of the two lambda arrays. -/
theorem mixing_apply (lq lk : FVec Ideal S1x2x64 .f32) (y : S_.Idx) : mixing lq lk y = lambda lq lk := by
  pointwise [mixing]
  rfl

/-- A mixed weight. -/
theorem mixed_apply (p : FVec Ideal S4x4x2x4096x4608 .f32) (lam : FVec Ideal S_ .f32) (b h : Fin 4) (i : Fin 4096) (j : Fin 4608) :
    mixed p lam (ix4 b h i j) = p (ix5 b h 0 i j) - lam ix0 * p (ix5 b h 1 i j) := by
  pointwise [mixed]

/-- A sum over the keys: the sequence's own rows, then the cached rows. -/
theorem sum_rows (f : Fin 4608 → ℝ) :
    ∑ j, f j = ∑ x : Fin 4096, f ⟨x.val, by omega⟩ + ∑ x : Fin 512, f ⟨4096 + x.val, by omega⟩ :=
  Fin.sum_univ_add (a := 4096) (b := 512) f

/-- Where values and weights are real numbers, a head's output is the sum of the values times the weights. -/
theorem heads_real (v : FVec Ideal S4x4096x512 .bf16) (cv : FVec Ideal S4x1x512x4x128 .f32) (w : FVec Ideal S4x4x4096x4608 .f32)
    (vR : SQ.Idx → ℝ) (cvR : SC.Idx → ℝ) (g : Fin 4608 → ℝ) (hv : ∀ i, v i = (vR i : EReal)) (hcv : ∀ i, cv i = (cvR i : EReal))
    (b : Fin 4) (i : Fin 4096) (h : Fin 4) (e : Fin 128) (hw : ∀ j, w (ix4 b h i j) = (g j : EReal)) :
    heads v cv w (ix4 b i h e) = ((∑ j, allRows vR cvR b h j e * g j : ℝ) : EReal) := by
  pointwise [heads]
  have hl : (⟨h.val * 128 + e.val, by omega⟩ : Fin 512) = lane h e := Fin.ext (by simp only [lane]; omega)
  simp only [hv, hcv, hw, hl, ← EReal.coe_mul, ← coe_sum, ← EReal.coe_add]
  rw [sum_rows]
  congr 2

/-- The norm at an index: the head's vector normed at the lane. -/
theorem normed_apply (o : FVec Ideal S4x4096x4x128 .f32) (w : FVec Ideal S1x128 .f32) (b : Fin 4) (i : Fin 4096) (l : Fin 512) :
    normed o w (ix3 b i l)
      = headNorm (fun x => o (ix4 b i ⟨l.val / 128, by omega⟩ x)) (fun d => w (ix2 0 d)) ⟨l.val % 128, Nat.mod_lt _ (by decide)⟩ := by
  pointwise [normed]
  rfl

/-- The reference's result at an index, where the arguments are real numbers: the differential attention there. -/
theorem result_real (m : (ℓ : Loc nD τ sig) → Buf (Elt Ideal) ℓ) (c : Dev nD) (lam : ℝ) (q k v : SQ.Idx → ℝ) (ck cv : SC.Idx → ℝ)
    (hl : lambda (m ((c : Thread nD τ).loc main_arg5)) (m ((c : Thread nD τ).loc main_arg6)) = lam)
    (hq : ∀ i, m ((c : Thread nD τ).loc main_arg0) i = (q i : EReal))
    (hk : ∀ i, m ((c : Thread nD τ).loc main_arg1) i = (k i : EReal))
    (hv : ∀ i, m ((c : Thread nD τ).loc main_arg2) i = (v i : EReal))
    (hck : ∀ i, m ((c : Thread nD τ).loc main_arg3) i = (ck i : EReal))
    (hcv : ∀ i, m ((c : Thread nD τ).loc main_arg4) i = (cv i : EReal)) :
    Value.res_out0 m c = result lam q k v ck cv (fun d => m ((c : Thread nD τ).loc main_arg7) (ix2 0 d)) := by
  rw [result_stages]
  funext y
  obtain ⟨b, i, l, rfl⟩ : ∃ (b : Fin 4) (i : Fin 4096) (l : Fin 512), y = ix3 b i l := ⟨y 0, y 1, y 2, eq_ix3 y⟩
  refine (normed_apply _ _ b i l).trans ?_
  unfold result attn
  refine congrArg (fun o => headNorm o _ _) (funext fun x => ?_)
  obtain ⟨M, hM⟩ := weights_real _ _ (scores_real _ _ _ q k ck hq hk hck) b ⟨l.val / 128, by omega⟩ 0 i
  obtain ⟨N, hN⟩ := weights_real _ _ (scores_real _ _ _ q k ck hq hk hck) b ⟨l.val / 128, by omega⟩ 1 i
  rw [heads_real _ _ _ v cv _ hv hcv b i ⟨l.val / 128, by omega⟩ x (fun j => by
    rw [mixed_apply, hM, hN, mixing_apply, hl, ← EReal.coe_mul, ← EReal.coe_sub])]
  rw [sum_diff]
  rfl

end Cert.ReferenceIdeal.Attn
-- ==== Proof.Attn.Pre.lean ====
/-
  WHAT THE PRECONDITION SAYS: every element of the first seven arguments is a real number.
-/
module

public import proofs.«01_k».proof.Pre_finite
public import proofs.«01_k».proof.Proof.Gen.Pre_finite
public import proofs.«01_k».proof.Proof.Attn.Softmax
public import Idealize.ShloMosaic.Lib.ReduceAll
public import Idealize.ShloMosaic.Lib.Pointwise

@[expose] public section
noncomputable section
namespace Cert.Pre_finite
open Cert.Attn Idealize.ShloMosaic

/-- An extended real whose magnitude is below plus infinity is a real number. -/
theorem real_of_abs_lt (x : EReal) (h : max x (-x) < ⊤) : ∃ r : ℝ, x = r := by
  induction x with
  | bot => simp at h
  | top => simp at h
  | coe r => exact ⟨r, rfl⟩

/-- Both bits of a conjunction that is 1 are 1. -/
theorem and_one {x y : BitVec 1} (h : IntOp.andi x y = 1#1) : x = 1#1 ∧ y = 1#1 := by
  revert x y; decide

/-- The compare of a magnitude with plus infinity says, where it is 1, that the element is a real number. -/
theorem real_of_cmpf (x : Ideal .f32) (h : FloatOps.cmpf (F := Ideal) .olt (FloatOps.absf x) (FloatOps.ofBits .f32 0x7F800000#32) = 1#1) :
    ∃ r : ℝ, x = r := by
  refine real_of_abs_lt x ?_
  have h' : BitVec.ofBool (decide (max x (-x) < Ideal.ofBits .f32 0x7F800000#32)) = 1#1 := h
  rw [ofBits_posInf] at h'
  by_contra hn
  rw [decide_eq_false hn] at h'
  exact absurd h' (by decide)

/-- Where the precondition is true, every element of the first seven arguments is a real number. -/
theorem fn_real (a0 a1 a2 : FVec Ideal S4x4096x512 .bf16) (a3 a4 : FVec Ideal S4x1x512x4x128 .f32) (a5 a6 : FVec Ideal S1x2x64 .f32)
    (a7 : FVec Ideal S1x128 .f32) (h : fn a0 a1 a2 a3 a4 a5 a6 a7 = fun _ => 1#1) :
    (∀ i, ∃ r : ℝ, a0 i = r) ∧ (∀ i, ∃ r : ℝ, a1 i = r) ∧ (∀ i, ∃ r : ℝ, a2 i = r) ∧ (∀ i, ∃ r : ℝ, a3 i = r) ∧ (∀ i, ∃ r : ℝ, a4 i = r)
      ∧ (∀ i, ∃ r : ℝ, a5 i = r) ∧ (∀ i, ∃ r : ℝ, a6 i = r) := by
  have e := congrFun h ix0
  unfold fn fn_part1 fn_part2 at e
  obtain ⟨e, h6⟩ := and_one e
  obtain ⟨e, h5⟩ := and_one e
  obtain ⟨e, h4⟩ := and_one e
  obtain ⟨e, h3⟩ := and_one e
  obtain ⟨e, h2⟩ := and_one e
  obtain ⟨e, h1⟩ := and_one e
  obtain ⟨-, h0⟩ := and_one e
  exact ⟨fun i => real_of_cmpf _ (Host.reduce_andi_all _ _ _ _ _ h0 i), fun i => real_of_cmpf _ (Host.reduce_andi_all _ _ _ _ _ h1 i),
    fun i => real_of_cmpf _ (Host.reduce_andi_all _ _ _ _ _ h2 i), fun i => real_of_cmpf _ (Host.reduce_andi_all _ _ _ _ _ h3 i),
    fun i => real_of_cmpf _ (Host.reduce_andi_all _ _ _ _ _ h4 i), fun i => real_of_cmpf _ (Host.reduce_andi_all _ _ _ _ _ h5 i),
    fun i => real_of_cmpf _ (Host.reduce_andi_all _ _ _ _ _ h6 i)⟩

end Cert.Pre_finite
-- ==== Proof.Ffn.Kit.lean ====
/-
  THE EXPERTS' CALL, BEFORE ITS POINTS RUN: what the host operations leave in the buffers, the three tables the index maps read,
  the pipeline at those tables, and the block each window has at a point.
-/
module

public import proofs.«01_k».proof.Proof.Gen.FfnIdeal
public import proofs.«01_k».proof.Proof.Gen.FfnIdeal.Skeleton
public import proofs.«01_k».proof.Proof.Gen.FfnIdeal.Launch
public import Idealize.ShloMosaic.Lib.Pipeline.FrameBody
public import Idealize.ShloMosaic.Lib.Pipeline.ArrRel
public import Idealize.ShloMosaic.Lib.Ring
public import Idealize.ShloMosaic.Lib.Tactic
public import Idealize.ShloMosaic.Lib.WordCmp

@[expose] public section

set_option maxRecDepth 16384

noncomputable section

namespace Cert.FfnIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Gen

variable {F : FTy → Type} [FloatOps F]

local notation "𝕄" => MT nD τ sig Unit (Elt F) ℕ (UR sig nD τ) ℕ

variable (m : (ℓ : Loc nD τ sig) → Buf (Elt F) ℓ)

/-- The host operations before the call, in order. -/
abbrev opss : List (List (HloOp τ sig (Elt F))) := [hostOps0, hostOps0_1, hostOps0_2, hostOps0_3, hostOps0_4, hostOps0_5]

/-- A core's buffers when the call begins. -/
abbrev V (c : Dev nD) (b : Ref sig .tc) : Buf (Elt F) ((c : Thread nD τ).loc b) :=
  StableHlo.after (List.flatten opss) (fun b => m (c, b)) b

/-- No host operation before the call allocates. -/
theorem opss_fresh : (opss (F := F)).Forall fun ops => ops.Forall fun op => op.fresh = ∅ := by
  simp only [opss, List.Forall]; repeat' constructor

set_option maxHeartbeats 800000 in
/-- The program up to the call is its host operations in order. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss
    (by simp only [List.Forall]; exact ⟨hostOps0_sub, hostOps0_1_sub, hostOps0_2_sub, hostOps0_3_sub, hostOps0_4_sub, hostOps0_5_sub⟩)
    opss_fresh main_chain

/-- The argument arrays. -/
abbrev argRefs : List (Ref sig .tc) := [main_arg0, main_arg1, main_arg2, main_arg3, main_arg4]

/-- No host operation writes an argument array. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (by
    simp only [opss, hostOps0, hostOps0_1, hostOps0_2, hostOps0_3, hostOps0_4, hostOps0_5, List.flatten_cons, List.flatten_nil, List.append_nil,
      List.cons_append, List.nil_append, List.Forall, StableHlo.nullary_writes, StableHlo.unary_writes, StableHlo.binary_writes,
      StableHlo.ternary_writes, StableHlo.quaternary_writes, StableHlo.reshape_writes, StableHlo.binaryIndexed_writes, Finset.mem_singleton]
    fin_cases hb
    all_goals
      repeat' apply And.intro
      all_goals exact StableHlo.devRef_ne_of_ne (by decide)))

/-- The three tables when the call begins: the tile's expert, its block, its code. -/
def tbl : pre0.Contents (Elt F) := fun j => V m (0 : Dev nD) (pre0.ref j)

/-- There is one device, so every core's tables are these. -/
theorem V_pre (c : Dev nD) (j : Fin 3) : V m c (pre0.ref j) = tbl m j := by
  obtain rfl : c = 0 := Subsingleton.elim _ _; rfl

/-- Every window's block lies inside its array at every point. -/
abbrev Ok : Prop := ok0 (F := F) (tbl m)

/-- The tables as contents the pipeline admits. -/
abbrev adm (hO : Ok m) : (pcfg0 (F := F)).Adm := ⟨tbl m, hO⟩

/-- The pipeline at these tables. -/
abbrev cfgM (hO : Ok m) : Pipeline.Cfg sig Λ₀ := cfg0 (adm m hO)

/-- The table of the tiles' experts, as the body is handed it. -/
abbrev tb0 : Memref sig .tc .smem S345 .i32 := Memref.whole main_v21
/-- The table of the tiles' blocks. -/
abbrev tb1 : Memref sig .tc .smem S345 .i32 := Memref.whole main_v10
/-- The table of the tiles' codes. -/
abbrev tb2 : Memref sig .tc .smem S345 .i32 := Memref.whole main_v30

/-- What a table's buffer holds on a core. -/
abbrev TbBuf (c : Dev nD) (M : Memref sig .tc .smem S345 .i32) : Type := Buf (Elt F) (M.view.loc (c : Thread nD τ))

/-- A table's buffer held at half the share. -/
abbrev tbPt (c : Dev nD) (M : Memref sig .tc .smem S345 .i32) (f : TbBuf (F := F) c M) : sProp 𝕄 :=
  M.view.loc (c : Thread nD τ) ↦{fullShare.right} f

/-- The tables' halves, one by one. -/
theorem tables_eq (c : Dev nD) :
    (Pipeline.ΦT pre0 (tbl m) c : sProp 𝕄) = iprop(tbPt c tb0 (tbl m 0) ∗ tbPt c tb1 (tbl m 1) ∗ tbPt c tb2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The code word the body loads at a point. -/
abbrev codeOf {c : Dev nD} (x : TbBuf (F := F) c tb2) (i : grid0.Coords) : BitVec 32 :=
  tb2.view.readAt (Elt F) (Rect.unit (s := S345) (k0_off1 i) S1.size (k0_off1_inb i)).toLoadRect x (Shape.Idx.first (numel1_S1.symm ▸ Nat.one_pos))

/-- The code says that the tile is the first of its expert. -/
abbrev Fresh (w : BitVec 32) : Prop := (Scalar.cmpi .ne (Scalar.extui (Scalar.cmpi .eq w 2#32)) 0#32) = 1#1
/-- The code says that the tile holds rows. -/
abbrev Live (w : BitVec 32) : Prop := k0_cond2 w = 1#1

/-- A window's block at a point, read off its array. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The current staging buffer of each window. -/
abbrev st0 (hO : Ok m) (t : Fin (cfgM m hO).N) : Memref sig .tc .vmem S1024x1024 .bf16 := spec0_0.stage ((cfgM m hO).slots t 0)
/-- The gate projection's staging buffer at a point. -/
abbrev st1 (hO : Ok m) (t : Fin (cfgM m hO).N) : Memref sig .tc .vmem S1x1024x256 .f32 := spec0_1.stage ((cfgM m hO).slots t 1)
/-- The up projection's staging buffer at a point. -/
abbrev st2 (hO : Ok m) (t : Fin (cfgM m hO).N) : Memref sig .tc .vmem S1x1024x256 .f32 := spec0_2.stage ((cfgM m hO).slots t 2)
/-- The down projection's staging buffer at a point. -/
abbrev st3 (hO : Ok m) (t : Fin (cfgM m hO).N) : Memref sig .tc .vmem S1x256x1024 .f32 := spec0_3.stage ((cfgM m hO).slots t 3)
/-- The result's staging buffer at a point. -/
abbrev st4 (hO : Ok m) (t : Fin (cfgM m hO).N) : Memref sig .tc .vmem S1024x1024 .bf16 := spec0_4.stage ((cfgM m hO).slots t 4)
/-- The scratch that keeps the expert's two input projections. -/
abbrev sc0 : Memref sig .tc .vmem S1024x512 .bf16 := Memref.whole cc0_scratch0
/-- The scratch that keeps the expert's output projection. -/
abbrev sc1 : Memref sig .tc .vmem S256x1024 .bf16 := Memref.whole cc0_scratch1

/-- What the launch hands the call besides the tables: the two scratch buffers and the generator's register. -/
theorem rest_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The kernel's body at a point. -/
abbrev bodyAt (hO : Ok m) (t : Fin (cfgM m hO).N) : Prog (TpuEff nD τ sig (Elt F) Λ₀ .tc) PUnit :=
  cc0_moe_ffn (grid0.coords t) tb0 (Memref.isWhole_whole _) tb1 (Memref.isWhole_whole _) tb2 (Memref.isWhole_whole _)
    (st0 m hO t) (hstage0_0 (((cfgM m hO).slots t 0).cast nbuf0_0)) (st1 m hO t) (hstage0_1 (((cfgM m hO).slots t 1).cast nbuf0_1))
    (st2 m hO t) (hstage0_2 (((cfgM m hO).slots t 2).cast nbuf0_2)) (st3 m hO t) (hstage0_3 (((cfgM m hO).slots t 3).cast nbuf0_3))
    (st4 m hO t) (hstage0_4 (((cfgM m hO).slots t 4).cast nbuf0_4)) sc0 (Memref.isWhole_whole _) sc1 (Memref.isWhole_whole _)

/-- The body table's row at a point is the body. -/
theorem row_eq (hO : Ok m) (t : Fin (cfgM m hO).N) :
    defs₀ (F := F) .tc (cfgM m hO).body ((cfgM m hO).bodyArgs t ((cfgM m hO).slots t)) = bodyAt m hO t := by
  unfold defs₀; rw [Defs.onTc_tc]

end Cert.FfnIdeal.Moe

end
-- ==== Proof.Ffn.Run.lean ====
/-
  ONE POINT OF THE EXPERTS' CALL: what the body leaves where the tile is the first of its expert, where it is a later one, and where
  it holds no rows.
-/
module

public import proofs.«01_k».proof.Proof.Ffn.Kit
public import Idealize.ShloMosaic.Lib.VecWindow
public import Idealize.ShloMosaic.Lib.Writes

@[expose] public section

set_option maxRecDepth 16384

noncomputable section

namespace Cert.FfnIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Gen

variable {F : FTy → Type} [FloatOps F]

local notation "𝕄" => MT nD τ sig Unit (Elt F) ℕ (UR sig nD τ) ℕ

/-- The two input projections side by side, as the scratch keeps them. -/
def both (x1 x2 : Vec F S1x1024x256 .f32) : Vec F S1024x512 .bf16 := fun y =>
  if h : (y 1).val < 256 then k0_pay1 x1 (fun | 0 => y 0 | 1 => ⟨(y 1).val, h⟩)
  else k0_pay2 x2 (fun | 0 => y 0 | 1 => ⟨(y 1).val - 256, by have : (y 1).val < 512 := (y 1).isLt; show _ < 256; omega⟩)

/-- The two column halves, stored one after the other into a buffer of any contents, leave both projections side by side. -/
theorem read_both {κ : Kind} {sp : Space} (v : View sig κ sp S1024x512 .bf16) (f : v.ty.Contents (Elt F)) (x1 x2 : Vec F S1x1024x256 .f32) :
    v.read (Elt F) (v.writes (Elt F) f
      [⟨Rect.unit (s := S1024x512) ![0, 256] S1024x256.size inb_S1024x512_S1024x256_0_256, k0_pay2 x2⟩,
       ⟨Rect.unit (s := S1024x512) ![0, 0] S1024x256.size inb_S1024x512_S1024x256_0_0, k0_pay1 x1⟩]) = both x1 x2 := by
  funext y
  refine View.read_writes_apply_of_pieces v f (both x1 x2) _ ?_ y ?_
  · intro p hp x
    simp only [List.mem_cons, List.mem_nil_iff, or_false] at hp
    rcases hp with rfl | rfl
    · have h : ¬ (256 + 1 * (x 1).val < 256) := by omega
      unfold both
      rw [dif_neg (show ¬ (((Rect.unit (s := S1024x512) ![0, 256] S1024x256.size inb_S1024x512_S1024x256_0_256).emb x) 1).val < 256 from h)]
      refine congrArg (k0_pay2 x2) (funext fun a => Fin.ext ?_)
      fin_cases a
      · show (x 0).val = 0 + 1 * (x 0).val; omega
      · show (x 1).val = 256 + 1 * (x 1).val - 256; omega
    · have h : (0 + 1 * (x 1).val < 256) := by have : (x 1).val < 256 := (x 1).isLt; omega
      unfold both
      rw [dif_pos (show (((Rect.unit (s := S1024x512) ![0, 0] S1024x256.size inb_S1024x512_S1024x256_0_0).emb x) 1).val < 256 from h)]
      refine congrArg (k0_pay1 x1) (funext fun a => Fin.ext ?_)
      fin_cases a
      · show (x 0).val = 0 + 1 * (x 0).val; omega
      · show (x 1).val = 0 + 1 * (x 1).val; omega
  · by_cases h : (y 1).val < 256
    · refine ⟨_, List.mem_cons_of_mem _ List.mem_cons_self, (Rect.mem_set_unit (inb := inb_S1024x512_S1024x256_0_0)).mpr fun a => ?_⟩
      have h0 : (y 0).val < 1024 := (y 0).isLt
      fin_cases a
      · exact ⟨Nat.zero_le _, by show (y 0).val < 0 + 1024; omega⟩
      · exact ⟨Nat.zero_le _, by show (y 1).val < 0 + 256; omega⟩
    · refine ⟨_, List.mem_cons_self, (Rect.mem_set_unit (inb := inb_S1024x512_S1024x256_0_256)).mpr fun a => ?_⟩
      have h0 : (y 0).val < 1024 := (y 0).isLt
      have h1 : (y 1).val < 512 := (y 1).isLt
      fin_cases a
      · exact ⟨Nat.zero_le _, by show (y 0).val < 0 + 1024; omega⟩
      · exact ⟨by show 256 ≤ (y 1).val; omega, by show (y 1).val < 256 + 256; omega⟩

set_option maxHeartbeats 1000000 in
/-- Where the tile is the first of its expert the body keeps the projections and leaves the rows' values. -/
theorem run_fresh (c : Dev nD) (i : grid0.Coords) (a4 : Memref sig .tc .vmem S1024x1024 .bf16) (h4 : a4.IsWhole) (a5 : Memref sig .tc .vmem S1x1024x256 .f32) (h5 : a5.IsWhole)
    (a6 : Memref sig .tc .vmem S1x1024x256 .f32) (h6 : a6.IsWhole) (a7 : Memref sig .tc .vmem S1x256x1024 .f32) (h7 : a7.IsWhole) (a8 : Memref sig .tc .vmem S1024x1024 .bf16) (h8 : a8.IsWhole)
    (a9 : Memref sig .tc .vmem S1024x512 .bf16) (h9 : a9.IsWhole) (a10 : Memref sig .tc .vmem S256x1024 .bf16) (h10 : a10.IsWhole)
    (x0 : Vec F S1024x1024 .bf16) (x1 x2 : Vec F S1x1024x256 .f32) (x3 : Vec F S1x256x1024 .f32)
    (t0 : TbBuf (F := F) c tb0) (t1 : TbBuf (F := F) c tb1) (t2 : TbBuf (F := F) c tb2) (hf : Fresh (codeOf t2 i)) (hl : Live (codeOf t2 i))
    (E : Set ℕ) (K : PUnit → sProp 𝕄) :
    iprop(owns (c : Thread nD τ) a4 fullShare x0 ∗ owns (c : Thread nD τ) a5 fullShare x1 ∗ owns (c : Thread nD τ) a6 fullShare x2 ∗ owns (c : Thread nD τ) a7 fullShare x3
        ∗ (∃ d, owns (c : Thread nD τ) a8 fullShare d) ∗ (∃ d, owns (c : Thread nD τ) a9 fullShare d) ∗ (∃ d, owns (c : Thread nD τ) a10 fullShare d)
        ∗ tbPt c tb0 t0 ∗ tbPt c tb1 t1 ∗ tbPt c tb2 t2
        ∗ (iprop(owns (c : Thread nD τ) a4 fullShare x0 ∗ owns (c : Thread nD τ) a5 fullShare x1 ∗ owns (c : Thread nD τ) a6 fullShare x2 ∗ owns (c : Thread nD τ) a7 fullShare x3
          ∗ owns (c : Thread nD τ) a8 fullShare (k0_pay4 x0 (both x1 x2) (k0_pay3 x3)) ∗ owns (c : Thread nD τ) a9 fullShare (both x1 x2) ∗ owns (c : Thread nD τ) a10 fullShare (k0_pay3 x3)
          ∗ tbPt c tb0 t0 ∗ tbPt c tb1 t1 ∗ tbPt c tb2 t2) -∗ K ⟨⟩))
      ⊢ wp frame (wpE (defs₀ (F := F)) Variants.none c none) E (cc0_moe_ffn i tb0 (Memref.isWhole_whole _) tb1 (Memref.isWhole_whole _) tb2 (Memref.isWhole_whole _) a4 h4 a5 h5 a6 h6 a7 h7 a8 h8 a9 h9 a10 h10) K := by
  simp only [cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, HT0, HT1, HT2, Hk⟩
  obtain rfl := h4.eq_unread hf0; obtain rfl := h5.eq_unread hf1; obtain rfl := h6.eq_unread hf2; obtain rfl := h7.eq_unread hf3
  have hr4 := (View.readAt_full a4.view (h4.unread x0) inb_S1024x1024_S1024x1024_0_0).trans hf0
  have hr5 := (View.readAt_full a5.view (h5.unread x1) inb_S1x1024x256_S1x1024x256_0_0_0).trans hf1
  have hr6 := (View.readAt_full a6.view (h6.unread x2) inb_S1x1024x256_S1x1024x256_0_0_0).trans hf2
  have hr7 := (View.readAt_full a7.view (h7.unread x3) inb_S1x256x1024_S1x256x1024_0_0_0).trans hf3
  sl_exec (disch := first | sl_exact hf | sl_exact hl)
  sl_step
  iapply Hk
  isplitl [H0]
  · iexists _; isplitr; · ipureintro; exact h4.read_unread _
    iexact H0
  isplitl [H1]
  · iexists _; isplitr; · ipureintro; exact h5.read_unread _
    iexact H1
  isplitl [H2]
  · iexists _; isplitr; · ipureintro; exact h6.read_unread _
    iexact H2
  isplitl [H3]
  · iexists _; isplitr; · ipureintro; exact h7.read_unread _
    iexact H3
  isplitl [H4]
  · iexists _; isplitr
    swap; · iexact H4
    ipureintro
    sl_unfold_words
    refine (View.read_writes_full a8.view f4 _ _ []).trans ?_
    rw [View.readCov, View.readCov, View.readAt_full, View.readAt_full, read_both, View.read_writes_full]
  isplitl [HS0]
  · iexists _; isplitr
    swap; · iexact HS0
    ipureintro
    sl_unfold_words
    exact read_both _ _ _ _
  isplitl [HS1]
  · iexists _; isplitr
    swap; · iexact HS1
    ipureintro
    sl_unfold_words
    exact View.read_writes_full a10.view fs1 _ _ []
  isplitl [HT0]; · iexact HT0
  isplitl [HT1]; · iexact HT1
  iexact HT2

set_option maxHeartbeats 1000000 in
/-- Where the tile is a later one of its expert the body leaves the rows' values under the projections it kept. -/
theorem run_later (c : Dev nD) (i : grid0.Coords) (a4 : Memref sig .tc .vmem S1024x1024 .bf16) (h4 : a4.IsWhole) (a5 : Memref sig .tc .vmem S1x1024x256 .f32) (h5 : a5.IsWhole)
    (a6 : Memref sig .tc .vmem S1x1024x256 .f32) (h6 : a6.IsWhole) (a7 : Memref sig .tc .vmem S1x256x1024 .f32) (h7 : a7.IsWhole) (a8 : Memref sig .tc .vmem S1024x1024 .bf16) (h8 : a8.IsWhole)
    (a9 : Memref sig .tc .vmem S1024x512 .bf16) (h9 : a9.IsWhole) (a10 : Memref sig .tc .vmem S256x1024 .bf16) (h10 : a10.IsWhole)
    (x0 : Vec F S1024x1024 .bf16) (f : Vec F S1024x512 .bf16) (g : Vec F S256x1024 .bf16)
    (t0 : TbBuf (F := F) c tb0) (t1 : TbBuf (F := F) c tb1) (t2 : TbBuf (F := F) c tb2) (hf : ¬ Fresh (codeOf t2 i)) (hl : Live (codeOf t2 i))
    (E : Set ℕ) (K : PUnit → sProp 𝕄) :
    iprop(owns (c : Thread nD τ) a4 fullShare x0
        ∗ (∃ d, owns (c : Thread nD τ) a8 fullShare d) ∗ owns (c : Thread nD τ) a9 fullShare f ∗ owns (c : Thread nD τ) a10 fullShare g
        ∗ tbPt c tb2 t2
        ∗ (iprop(owns (c : Thread nD τ) a4 fullShare x0
          ∗ owns (c : Thread nD τ) a8 fullShare (k0_pay4 x0 f g) ∗ owns (c : Thread nD τ) a9 fullShare f ∗ owns (c : Thread nD τ) a10 fullShare g
          ∗ tbPt c tb2 t2) -∗ K ⟨⟩))
      ⊢ wp frame (wpE (defs₀ (F := F)) Variants.none c none) E (cc0_moe_ffn i tb0 (Memref.isWhole_whole _) tb1 (Memref.isWhole_whole _) tb2 (Memref.isWhole_whole _) a4 h4 a5 h5 a6 h6 a7 h7 a8 h8 a9 h9 a10 h10) K := by
  simp only [cc0_moe_ffn_eq_skeleton]; unfold cc0_moe_ffn_skel
  unfold owns
  iintro ⟨⟨%f0, %hf0, H0⟩, ⟨%d4, %f4, -, H4⟩, ⟨%fs0, %hs0, HS0⟩, ⟨%fs1, %hs1, HS1⟩, HT2, Hk⟩
  obtain rfl := h4.eq_unread hf0; obtain rfl := h9.eq_unread hs0; obtain rfl := h10.eq_unread hs1
  have hr4 := (View.readAt_full a4.view (h4.unread x0) inb_S1024x1024_S1024x1024_0_0).trans hf0
  have hr9 := (View.readAt_full a9.view (h9.unread f) inb_S1024x512_S1024x512_0_0).trans hs0
  have hr10 := (View.readAt_full a10.view (h10.unread g) inb_S256x1024_S256x1024_0_0).trans hs1
  sl_exec (disch := first | sl_exact hf | sl_exact hl)
  sl_step
  iapply Hk
  isplitl [H0]
  · iexists _; isplitr; · ipureintro; exact h4.read_unread _
    iexact H0
  isplitl [H4]
  · iexists _; isplitr
    swap; · iexact H4
    ipureintro
    sl_unfold_words
    refine (View.read_writes_full a8.view f4 _ _ []).trans ?_
    rfl
  isplitl [HS0]
  · iexists _; isplitr; · ipureintro; exact h9.read_unread _
    iexact HS0
  isplitl [HS1]
  · iexists _; isplitr; · ipureintro; exact h10.read_unread _
    iexact HS1
  iexact HT2

/-- Where the tile holds no rows the body only looks at its code. -/
theorem run_idle (c : Dev nD) (i : grid0.Coords) (a4 : Memref sig .tc .vmem S1024x1024 .bf16) (h4 : a4.IsWhole) (a5 : Memref sig .tc .vmem S1x1024x256 .f32) (h5 : a5.IsWhole)
    (a6 : Memref sig .tc .vmem S1x1024x256 .f32) (h6 : a6.IsWhole) (a7 : Memref sig .tc .vmem S1x256x1024 .f32) (h7 : a7.IsWhole) (a8 : Memref sig .tc .vmem S1024x1024 .bf16) (h8 : a8.IsWhole)
    (a9 : Memref sig .tc .vmem S1024x512 .bf16) (h9 : a9.IsWhole) (a10 : Memref sig .tc .vmem S256x1024 .bf16) (h10 : a10.IsWhole)
    (t2 : TbBuf (F := F) c tb2) (hf : ¬ Fresh (codeOf t2 i)) (hl : ¬ Live (codeOf t2 i))
    (E : Set ℕ) (K : PUnit → sProp 𝕄) :
    iprop(tbPt c tb2 t2 ∗ (tbPt c tb2 t2 -∗ K ⟨⟩))
      ⊢ wp frame (wpE (defs₀ (F := F)) Variants.none c none) E (cc0_moe_ffn i tb0 (Memref.isWhole_whole _) tb1 (Memref.isWhole_whole _) tb2 (Memref.isWhole_whole _) a4 h4 a5 h5 a6 h6 a7 h7 a8 h8 a9 h9 a10 h10) K := by
  simp only [cc0_moe_ffn_eq_skeleton]; unfold cc0_moe_ffn_skel
  iintro ⟨HT2, Hk⟩
  sl_exec (disch := first | sl_exact hf | sl_exact hl)
  sl_step
  iapply Hk
  iexact HT2

end Cert.FfnIdeal.Moe

end
-- ==== Proof.Ffn.Data.lean ====
/-
  THE EXPERTS' CALL, POINT AFTER POINT: what each staging buffer may hold, what the two scratch buffers carry from a tile to the next
  one of the same expert, and that the body keeps it so.
-/
module

public import proofs.«01_k».proof.Proof.Ffn.Run

@[expose] public section

set_option maxRecDepth 16384

noncomputable section

namespace Cert.FfnIdeal.Moe

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnIdeal.Gen
open Pipeline

variable {F : FTy → Type} [FloatOps F]

local notation "𝕄" => MT nD τ sig Unit (Elt F) ℕ (UR sig nD τ) ℕ

variable (m : (ℓ : Loc nD τ sig) → Buf (Elt F) ℓ)

/-- The code of the tile a point works on. -/
abbrev code (hO : Ok m) (t : Fin (cfgM m hO).N) : BitVec 32 := codeOf (c := (0 : Dev nD)) (tbl m 2) (grid0.coords t)

/-- A later tile of an expert comes after a tile of the same expert: the point before holds rows too, and has the same weights. -/
def Steps (hO : Ok m) : Prop :=
  ∀ t : Fin (cfgM m hO).N, Live (code m hO t) → ¬ Fresh (code m hO t) →
    ∃ t' : Fin (cfgM m hO).N, t'.val + 1 = t.val ∧ Live (code m hO t')
      ∧ ((cfgM m hO).win 1).index t' = ((cfgM m hO).win 1).index t ∧ ((cfgM m hO).win 2).index t' = ((cfgM m hO).win 2).index t
      ∧ ((cfgM m hO).win 3).index t' = ((cfgM m hO).win 3).index t

/-- The code two, and no other, marks the first tile of an expert. -/
theorem fresh_iff (w : BitVec 32) : Fresh w ↔ w = 2#32 := by
  by_cases h : w = 2#32
  · subst h; exact ⟨fun _ => rfl, fun _ => by decide⟩
  · refine ⟨fun hw => absurd hw ?_, fun hw => absurd hw h⟩
    have : Scalar.cmpi .eq w 2#32 = 0#1 := (WordCmp.cmpi_eq_eq w 2#32).trans (by rw [decide_eq_false h]; rfl)
    show ¬ (Scalar.cmpi .ne (Scalar.extui (Scalar.cmpi .eq w 2#32)) 0#32) = 1#1
    rw [this]; decide

/-- Every code but zero marks a tile that holds rows. -/
theorem live_iff (w : BitVec 32) : Live w ↔ w ≠ 0#32 := by
  by_cases h : w = 0#32
  · subst h; exact ⟨fun h => absurd h (by decide), fun h => absurd rfl h⟩
  · refine ⟨fun _ => h, fun _ => ?_⟩
    have : Scalar.cmpi .ne w 0#32 = 1#1 := (WordCmp.cmpi_ne_eq w 0#32).trans (by rw [decide_eq_true h]; rfl)
    show (Scalar.cmpi .ne (Scalar.extui (Scalar.cmpi .ne w 0#32)) 0#32) = 1#1
    rw [this]; decide

/-- The first tile of an expert holds rows. -/
theorem live_of_fresh (w : BitVec 32) (h : Fresh w) : Live w := by
  rw [fresh_iff] at h; rw [live_iff, h]; decide

/-- The value the body computes for a tile that holds rows. -/
def tileVal (hO : Ok m) (c : Dev nD) (t : Fin (cfgM m hO).N) : Vec F S1024x1024 .bf16 :=
  k0_pay4 (iblk m hO c 0 t) (both (iblk m hO c 1 t) (iblk m hO c 2 t)) (k0_pay3 (iblk m hO c 3 t))

/-- What the scratch buffers hold before a point: after a tile with rows, that tile's expert's projections. -/
def Carried (hO : Ok m) (c : Dev nD) (n : ℕ) (f : Vec F S1024x512 .bf16) (g : Vec F S256x1024 .bf16) : Prop :=
  ∀ t : Fin (cfgM m hO).N, t.val + 1 = n → Live (code m hO t) →
    f = both (iblk m hO c 1 t) (iblk m hO c 2 t) ∧ g = k0_pay3 (iblk m hO c 3 t)

/-- What the points hand on: the scratch buffers at what they carry, the generator's register, the tables' halves. -/
def Inv (hO : Ok m) (c : Dev nD) (n : ℕ) : sProp 𝕄 :=
  iprop((∃ f, ∃ g, ⌜Carried m hO c n f g⌝ ∗ owns (c : Thread nD τ) sc0 fullShare f ∗ owns (c : Thread nD τ) sc1 fullShare g)
    ∗ (∃ r, prngReg c r) ∗ Pipeline.ΦT pre0 (tbl m) c)

/-- What the body may leave in a window's buffer: an input as found, the output at the tile's value, or as found where there are no rows. -/
def Left (hO : Ok m) (c : Dev nD) (w : Fin (cfgM m hO).W) (t : Fin (cfgM m hO).N) :
    (Y X : ((cfgM m hO).win w).block.Idx → Elt F ((cfgM m hO).win w).elt) → Prop :=
  match w with
  | ⟨0, _⟩ => fun Y X => X = Y
  | ⟨1, _⟩ => fun Y X => X = Y
  | ⟨2, _⟩ => fun Y X => X = Y
  | ⟨3, _⟩ => fun Y X => X = Y
  | ⟨4, _⟩ => fun Y X => (Live (code m hO t) → X = tileVal m hO c t) ∧ (¬ Live (code m hO t) → X = Y)

/-- The pipeline's data on a core. -/
def rdat (hO : Ok m) (c : Dev nD) : RDat τ (Elt F) Unit ℕ (UR sig nD τ) ℕ (cfgM m hO) c where
  A w := V m c (Pipeline.arrRef spec0 w)
  after w t := Left m hO c w t
  Φ t := Inv m hO c t.val
  q _ := fullShare
  owed _ := 0

/-- The arrays are what the host operations left. -/
theorem A_eq (hO : Ok m) (c : Dev nD) (w : Fin (cfgM m hO).W) : (rdat m hO c).A w = V m c (Pipeline.arrRef spec0 w) := by
  dsimp only [rdat]

/-- What an input's buffer holds at a point is its block there. -/
theorem found0 (hO : Ok m) (c : Dev nD) (t : Fin (cfgM m hO).N) (Y) (h : (rdat m hO c).Finds 0 t Y) : Y = iblk m hO c 0 t := by
  obtain ⟨d, rfl⟩ := (rdat m hO c).finds_in_eq_fetched 0 rfl (fun _ _ _ => rfl) (fun _ _ _ h => h) t Y h
  unfold RDat.fetched RDat.blockOf iblk; rw [A_eq]; rfl
/-- The same for the gate projection. -/
theorem found1 (hO : Ok m) (c : Dev nD) (t : Fin (cfgM m hO).N) (Y) (h : (rdat m hO c).Finds 1 t Y) : Y = iblk m hO c 1 t := by
  obtain ⟨d, rfl⟩ := (rdat m hO c).finds_in_eq_fetched 1 rfl (fun _ _ _ => rfl) (fun _ _ _ h => h) t Y h
  unfold RDat.fetched RDat.blockOf iblk; rw [A_eq]; rfl
/-- The same for the up projection. -/
theorem found2 (hO : Ok m) (c : Dev nD) (t : Fin (cfgM m hO).N) (Y) (h : (rdat m hO c).Finds 2 t Y) : Y = iblk m hO c 2 t := by
  obtain ⟨d, rfl⟩ := (rdat m hO c).finds_in_eq_fetched 2 rfl (fun _ _ _ => rfl) (fun _ _ _ h => h) t Y h
  unfold RDat.fetched RDat.blockOf iblk; rw [A_eq]; rfl
/-- The same for the down projection. -/
theorem found3 (hO : Ok m) (c : Dev nD) (t : Fin (cfgM m hO).N) (Y) (h : (rdat m hO c).Finds 3 t Y) : Y = iblk m hO c 3 t := by
  obtain ⟨d, rfl⟩ := (rdat m hO c).finds_in_eq_fetched 3 rfl (fun _ _ _ => rfl) (fun _ _ _ h => h) t Y h
  unfold RDat.fetched RDat.blockOf iblk; rw [A_eq]; rfl

/-- Two points with one block index have one block. -/
theorem iblk_congr1 (hO : Ok m) (c : Dev nD) (t t' : Fin (cfgM m hO).N)
    (h : ((cfgM m hO).win 1).index t' = ((cfgM m hO).win 1).index t) : iblk m hO c 1 t' = iblk m hO c 1 t := by
  have e := (rdat m hO c).fetched_congr 1 h rfl (fun _ => Classical.arbitrary _)
  unfold RDat.fetched RDat.blockOf at e; rw [A_eq] at e
  exact e
/-- The same for the up projection. -/
theorem iblk_congr2 (hO : Ok m) (c : Dev nD) (t t' : Fin (cfgM m hO).N)
    (h : ((cfgM m hO).win 2).index t' = ((cfgM m hO).win 2).index t) : iblk m hO c 2 t' = iblk m hO c 2 t := by
  have e := (rdat m hO c).fetched_congr 2 h rfl (fun _ => Classical.arbitrary _)
  unfold RDat.fetched RDat.blockOf at e; rw [A_eq] at e
  exact e
/-- The same for the down projection. -/
theorem iblk_congr3 (hO : Ok m) (c : Dev nD) (t t' : Fin (cfgM m hO).N)
    (h : ((cfgM m hO).win 3).index t' = ((cfgM m hO).win 3).index t) : iblk m hO c 3 t' = iblk m hO c 3 t := by
  have e := (rdat m hO c).fetched_congr 3 h rfl (fun _ => Classical.arbitrary _)
  unfold RDat.fetched RDat.blockOf at e; rw [A_eq] at e
  exact e

/-- Under the tables' order, a later tile finds its expert's projections in the scratch. -/
theorem carried_later (hO : Ok m) (hS : Steps m hO) (c : Dev nD) (t : Fin (cfgM m hO).N) (hl : Live (code m hO t)) (hf : ¬ Fresh (code m hO t))
    (f : Vec F S1024x512 .bf16) (g : Vec F S256x1024 .bf16) (h : Carried m hO c t.val f g) :
    f = both (iblk m hO c 1 t) (iblk m hO c 2 t) ∧ g = k0_pay3 (iblk m hO c 3 t) := by
  obtain ⟨t', ht, hl', h1, h2, h3⟩ := hS t hl hf
  have := h t' ht hl'
  rw [iblk_congr1 m hO c t t' h1, iblk_congr2 m hO c t t' h2, iblk_congr3 m hO c t t' h3] at this
  exact this

set_option maxHeartbeats 1600000 in
/-- The body at a point, from what the buffers hold to what it may leave. -/
theorem sound (hO : Ok m) (hS : Steps m hO) (c : Dev nD) (t : Fin (cfgM m hO).N) (Y4 : Vec F S1024x1024 .bf16) :
    iprop(Inv m hO c t.val ∗ (rdat m hO c).owesAt () t.castSucc
      ∗ owns (c : Thread nD τ) (st0 m hO t) fullShare (iblk m hO c 0 t) ∗ owns (c : Thread nD τ) (st1 m hO t) fullShare (iblk m hO c 1 t)
      ∗ owns (c : Thread nD τ) (st2 m hO t) fullShare (iblk m hO c 2 t) ∗ owns (c : Thread nD τ) (st3 m hO t) fullShare (iblk m hO c 3 t)
      ∗ owns (c : Thread nD τ) (st4 m hO t) fullShare Y4)
    ⊢ wp frame (wpE (defs₀ (F := F)) Variants.none c none) Set.univ (bodyAt m hO t) (fun _ =>
      iprop(Inv m hO c (t.val + 1) ∗ (rdat m hO c).owesAt () t.castSucc
      ∗ (∃ X, ⌜X = iblk m hO c 0 t⌝ ∗ owns (c : Thread nD τ) (st0 m hO t) fullShare X) ∗ (∃ X, ⌜X = iblk m hO c 1 t⌝ ∗ owns (c : Thread nD τ) (st1 m hO t) fullShare X)
      ∗ (∃ X, ⌜X = iblk m hO c 2 t⌝ ∗ owns (c : Thread nD τ) (st2 m hO t) fullShare X) ∗ (∃ X, ⌜X = iblk m hO c 3 t⌝ ∗ owns (c : Thread nD τ) (st3 m hO t) fullShare X)
      ∗ (∃ X, ⌜(Live (code m hO t) → X = tileVal m hO c t) ∧ (¬ Live (code m hO t) → X = Y4)⌝ ∗ owns (c : Thread nD τ) (st4 m hO t) fullShare X))) := by
  obtain rfl : c = 0 := Subsingleton.elim _ _
  unfold Inv bodyAt
  rw [tables_eq]
  iintro ⟨⟨⟨%f, %g, %hc, HS0, HS1⟩, Hg, HT0, HT1, HT2⟩, Ho, H0, H1, H2, H3, H4⟩
  have fin : ∀ (t' : Fin (cfgM m hO).N), t'.val + 1 = t.val + 1 → t' = t := fun t' h => Fin.ext (by omega)
  by_cases hl : Live (code m hO t)
  · by_cases hf : Fresh (code m hO t)
    · iapply (run_fresh (0 : Dev nD) (grid0.coords t) _ _ _ _ _ _ _ _ _ _ _ _ _ _ (iblk m hO 0 0 t) (iblk m hO 0 1 t) (iblk m hO 0 2 t) (iblk m hO 0 3 t) (tbl m 0) (tbl m 1) (tbl m 2) hf hl Set.univ _)
      isplitl [H0]; · iexact H0
      isplitl [H1]; · iexact H1
      isplitl [H2]; · iexact H2
      isplitl [H3]; · iexact H3
      isplitl [H4]; · iexists _; iexact H4
      isplitl [HS0]; · iexists _; iexact HS0
      isplitl [HS1]; · iexists _; iexact HS1
      isplitl [HT0]; · iexact HT0
      isplitl [HT1]; · iexact HT1
      isplitl [HT2]; · iexact HT2
      iintro ⟨H0, H1, H2, H3, H4, HS0, HS1, HT0, HT1, HT2⟩
      isplitl [HS0 HS1 Hg HT0 HT1 HT2]
      · isplitl [HS0 HS1]
        · iexists _, _
          isplitr
          swap
          · isplitl [HS0]; · iexact HS0
            iexact HS1
          ipureintro
          intro t' ht' _
          obtain rfl := fin t' ht'
          exact ⟨rfl, rfl⟩
        isplitl [Hg]; · iexact Hg
        isplitl [HT0]; · iexact HT0
        isplitl [HT1]; · iexact HT1
        iexact HT2
      isplitl [Ho]; · iexact Ho
      isplitl [H0]; · iexists _; isplitr; · ipureintro; rfl
                      iexact H0
      isplitl [H1]; · iexists _; isplitr; · ipureintro; rfl
                      iexact H1
      isplitl [H2]; · iexists _; isplitr; · ipureintro; rfl
                      iexact H2
      isplitl [H3]; · iexists _; isplitr; · ipureintro; rfl
                      iexact H3
      iexists _; isplitr
      swap; · iexact H4
      ipureintro; exact ⟨fun _ => rfl, fun h => absurd hl h⟩
    · obtain ⟨rfl, rfl⟩ := carried_later m hO hS 0 t hl hf f g hc
      iapply (run_later (0 : Dev nD) (grid0.coords t) _ _ _ _ _ _ _ _ _ _ _ _ _ _ (iblk m hO 0 0 t) _ _ (tbl m 0) (tbl m 1) (tbl m 2) hf hl Set.univ _)
      isplitl [H0]; · iexact H0
      isplitl [H4]; · iexists _; iexact H4
      isplitl [HS0]; · iexact HS0
      isplitl [HS1]; · iexact HS1
      isplitl [HT2]; · iexact HT2
      iintro ⟨H0, H4, HS0, HS1, HT2⟩
      isplitl [HS0 HS1 Hg HT0 HT1 HT2]
      · isplitl [HS0 HS1]
        · iexists _, _
          isplitr
          swap
          · isplitl [HS0]; · iexact HS0
            iexact HS1
          ipureintro
          intro t' ht' _
          obtain rfl := fin t' ht'
          exact ⟨rfl, rfl⟩
        isplitl [Hg]; · iexact Hg
        isplitl [HT0]; · iexact HT0
        isplitl [HT1]; · iexact HT1
        iexact HT2
      isplitl [Ho]; · iexact Ho
      isplitl [H0]; · iexists _; isplitr; · ipureintro; rfl
                      iexact H0
      isplitl [H1]; · iexists _; isplitr; · ipureintro; rfl
                      iexact H1
      isplitl [H2]; · iexists _; isplitr; · ipureintro; rfl
                      iexact H2
      isplitl [H3]; · iexists _; isplitr; · ipureintro; rfl
                      iexact H3
      iexists _; isplitr
      swap; · iexact H4
      ipureintro; exact ⟨fun _ => rfl, fun h => absurd hl h⟩
  · have hf : ¬ Fresh (code m hO t) := fun h => hl (live_of_fresh _ h)
    iapply (run_idle (0 : Dev nD) (grid0.coords t) _ _ _ _ _ _ _ _ _ _ _ _ _ _ (tbl m 2) hf hl Set.univ _)
    isplitl [HT2]; · iexact HT2
    iintro HT2
    isplitl [HS0 HS1 Hg HT0 HT1 HT2]
    · isplitl [HS0 HS1]
      · iexists _, _
        isplitr
        swap
        · isplitl [HS0]; · iexact HS0
          iexact HS1
        ipureintro
        intro t' ht' h
        obtain rfl := fin t' ht'
        exact absurd h hl
      isplitl [Hg]; · iexact Hg
      isplitl [HT0]; · iexact HT0
      isplitl [HT1]; · iexact HT1
      iexact HT2
    isplitl [Ho]; · iexact Ho
    isplitl [H0]; · iexists _; isplitr; · ipureintro; rfl
                    iexact H0
    isplitl [H1]; · iexists _; isplitr; · ipureintro; rfl
                    iexact H1
    isplitl [H2]; · iexists _; isplitr; · ipureintro; rfl
                    iexact H2
    isplitl [H3]; · iexists _; isplitr; · ipureintro; rfl
                    iexact H3
    iexists _; isplitr
    swap; · iexact H4
    ipureintro; exact ⟨fun h => absurd h hl, fun _ => rfl⟩

/-- The library's obligation of the body, at every point. -/
theorem body_obligation (hO : Ok m) (hS : Steps m hO) (c : Dev nD) :
    (rdat m hO c).BodyObligation (defs₀ (F := F)) Variants.none () Set.univ := fun t Y hY => by
  have e0 := found0 m hO c t _ (hY 0)
  have e1 := found1 m hO c t _ (hY 1)
  have e2 := found2 m hO c t _ (hY 2)
  have e3 := found3 m hO c t _ (hY 3)
  rw [bigSep_W0, bigSep_W0, row_eq]
  rw [e0, e1, e2, e3]
  exact triple_restated (sound m hO hS c t (Y 4)) rfl .rfl fun _ => .rfl

/-- What the launch hands the call is what the first point takes. -/
theorem hin (hO : Ok m) (c : Dev nD) : iprop(Pipeline.ΦA spec0 c ∗ Pipeline.ΦT pre0 (tbl m) c) ⊢ (rdat m hO c).Φ 0 := by
  rw [show (rdat m hO c).Φ 0 = Inv m hO c 0 from rfl, rest_eq]
  unfold Inv
  iintro ⟨⟨⟨⟨%f, HS0⟩, ⟨%g, HS1⟩⟩, Hg⟩, HT⟩
  isplitl [HS0 HS1]
  · iexists f, g
    isplitr
    · ipureintro; intro t ht; omega
    isplitl [HS0]; · iexact HS0
    iexact HS1
  isplitl [Hg]; · iexact Hg
  iexact HT

/-- What the last point hands on gives the launch its part back. -/
theorem hout (hO : Ok m) (c : Dev nD) : (rdat m hO c).Φ (Fin.last (cfgM m hO).N) ⊢ Pipeline.ΦA spec0 c := by
  rw [show (rdat m hO c).Φ (Fin.last (cfgM m hO).N) = Inv m hO c (cfgM m hO).N from rfl, rest_eq]
  unfold Inv
  iintro ⟨⟨%f, %g, -, HS0, HS1⟩, Hg, -⟩
  isplitl [HS0 HS1]
  · isplitl [HS0]; · iexists _; iexact HS0
    iexists _; iexact HS1
  iexact Hg

end Cert.FfnIdeal.Moe

end
-- ==== Proof.Ffn.Launch.lean ====
/-
  THE EXPERTS' CALL, RUN: what the arrays hold at the end, and the frame.
-/
module

public import proofs.«01_k».proof.Proof.Ffn.Data

@[expose] public section

set_option maxRecDepth 16384

noncomputable section

namespace Cert.FfnIdeal.Moe

open Idealize.ShloMosaic Idealize.ShloMosaic.TcCoe Idealize.ShloMosaic.Tactic
open Idealize.SL Idealize.SL.RA Idealize.SL.BI Idealize.SL.Sem
open Cert.FfnIdeal.Gen
open Pipeline

variable {F : FTy → Type} [FloatOps F]

variable (m : (ℓ : Loc nD τ sig) → Buf (Elt F) ℓ) (ρ : Dev nD → PrngReg)

set_option backward.isDefEq.respectTransparency.types false in
/-- Every run ends, each array at what the points may have left in it, every other buffer as the host operations left it. -/
theorem run (hO : Ok m) (hS : Steps m hO) :
    θ_run defs (onTc (τ := τ) (main (F := F))) (s₀ m ρ) (fun r => RDat.FramePost (cfgM m hO) (rdat m hO) (V m) r ∧ r.2.sem = fun _ => 0) :=
  RDat.θ_run_frameP_track (Q' := _) pcfgs (fun _ => adm m hO) (0 : Fin 1) launch0 defs₀ Variants.none (rdat m hO) m ρ main
    (hbody := fun c => body_obligation m hO hS c) (hshare := fun c => (rdat m hO c).share_full fun _ => rfl)
    (howed := fun _ _ => rfl) (V := V m) (hmain := hmain m Variants.none) (hA := A_eq m hO) (hpf := V_pre m)
    (hin := hin m hO) (hout := hout m hO)

/-- The argument arrays end as they began. -/
theorem args_kept (hO : Ok m) (r : PUnit × MemSt nD τ sig (Elt F)) (h : RDat.FramePost (cfgM m hO) (rdat m hO) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (by decide : main_arg0 ∈ Pipeline.restRefs sig spec0)).trans (V_arg m c main_arg0 (by decide)),
    (h.arr_in c 0 rfl).trans ((A_eq m hO c 0).trans (V_arg m c main_arg1 (by decide))),
    (h.arr_in c 1 rfl).trans ((A_eq m hO c 1).trans (V_arg m c main_arg2 (by decide))),
    (h.arr_in c 2 rfl).trans ((A_eq m hO c 2).trans (V_arg m c main_arg3 (by decide))),
    (h.arr_in c 3 rfl).trans ((A_eq m hO c 3).trans (V_arg m c main_arg4 (by decide)))⟩

/-- The frame: every run ends, the argument arrays as they began and every counter at zero. -/
theorem frame (hO : Ok m) (hS : Steps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => args_kept m hO r h.1 c, h.2⟩) (run m ρ hO hS)

end Cert.FfnIdeal.Moe

end
-- ==== Proof.Ffn.Words.lean ====
/-
  THE WORDS OF THE EXPERTS' TABLES: the printed floor division by the tile's height, the last block in use, the capped count.
-/
module
public import Idealize.ShloMosaic.Lib.WordCmp
public import Idealize.ShloMosaic.Lib.IndicatorCount
import Mathlib.Tactic.NormNum
import Mathlib.Tactic.Ring
import Mathlib.Tactic.IntervalCases
@[expose] public section
namespace Cert.FfnIdeal.Moe
open Idealize.ShloMosaic

/-- A one-bit word chooses between two. -/
theorem select_one {α : Type} {b : BitVec 1} (h : b = 1#1) (x y : α) : Scalar.select b x y = x := by subst h; rfl

/-- A one-bit word other than one chooses the second. -/
theorem select_not {α : Type} {b : BitVec 1} (h : ¬ b = 1#1) (x y : α) : Scalar.select b x y = y := by
  have h0 : b = 0#1 := by revert h; revert b; decide
  subst h0; rfl

/-- A product of small numbers as words. -/
theorem mul_toInt (i : ℕ) (hi : i < 345) : (IntOp.muli (BitVec.ofNat 32 i) 1024#32).toInt = 1024 * (i : ℤ) := by
  show (BitVec.ofNat 32 i * 1024#32).toInt = _
  have h : (BitVec.ofNat 32 i * 1024#32) = BitVec.ofNat 32 (1024 * i) := by
    rw [Nat.mul_comm, BitVec.ofNat_mul]
  rw [h, WordCmp.toInt_ofNat_of_lt (by norm_num; omega)]
  push_cast; ring

/-- The printed floor division by 1024, as a word. -/
def quotW (x : BitVec 32) : BitVec 32 :=
  Scalar.select
    (IntOp.andi (IntOp.cmpi CmpIPredicate.ne (if x = 0 then 0 else if x.msb = true then -1 else 1 : BitVec 32)
        (if 1024#32 = 0 then 0 else if (1024#32 : BitVec 32).msb = true then -1 else 1))
      (IntOp.cmpi CmpIPredicate.ne (IntOp.remsi ArithUnit.host x 1024#32) 0#32))
    (IntOp.subi (IntOp.divsi ArithUnit.host x 1024#32) 1#32) (IntOp.divsi ArithUnit.host x 1024#32)

/-- A word read as a signed number lies in the signed range. -/
theorem toInt_bounds (x : BitVec 32) : -2147483648 ≤ x.toInt ∧ x.toInt < 2147483648 := by
  have h1 := BitVec.le_toInt x; have h2 := BitVec.toInt_lt (x := x)
  norm_num at h1 h2; exact ⟨h1, h2⟩

/-- The printed floor division is the floor division of the signed numbers. -/
theorem quotW_toInt (x : BitVec 32) : (quotW x).toInt = x.toInt / 1024 := by
  obtain ⟨hl, hu⟩ := toInt_bounds x
  have hc : ¬ IntOp.SDivCorner x 1024#32 := by
    rintro (h | ⟨_, h⟩) <;> exact absurd h (by decide)
  have hk : (1024#32 : BitVec 32).toInt = 1024 := by decide
  have hq : (IntOp.divsi ArithUnit.host x 1024#32).toInt = x.toInt.tdiv 1024 := by
    rw [IntOp.divsi, if_neg hc, BitVec.toInt_sdiv, hk]
    have : -2147483648 ≤ x.toInt.tdiv 1024 ∧ x.toInt.tdiv 1024 < 2147483648 := by
      rcases le_total 0 x.toInt with h | h
      · rw [Int.tdiv_eq_ediv_of_nonneg h]; omega
      · have := Int.neg_tdiv (a := -x.toInt) (b := 1024)
        rw [neg_neg, Int.tdiv_eq_ediv_of_nonneg (a := -x.toInt) (by omega)] at this
        omega
    exact Int.bmod_eq_of_le (by norm_num; omega) (by norm_num; omega)
  have hr : (IntOp.remsi ArithUnit.host x 1024#32).toInt = x.toInt - 1024 * x.toInt.tdiv 1024 := by
    rw [IntOp.remsi, if_neg hc, BitVec.toInt_srem, hk, Int.tmod_def]
  have hs : IntOp.cmpi CmpIPredicate.ne (if x = 0 then 0 else if x.msb = true then -1 else 1 : BitVec 32) (if 1024#32 = 0 then 0 else if (1024#32 : BitVec 32).msb = true then -1 else 1)
      = BitVec.ofBool (decide (x.toInt ≤ 0)) := by
    have h1 : (if (1024#32 : BitVec 32) = 0 then (0 : BitVec 32) else if (1024#32 : BitVec 32).msb = true then -1 else 1) = 1 := by decide
    rw [h1, WordCmp.cmpi_ne_eq]
    refine congrArg _ (decide_eq_decide.mpr ?_)
    by_cases h0 : x = 0
    · subst h0; simp
    · rw [if_neg h0]
      have hx0 : x.toInt ≠ 0 := fun h => h0 (BitVec.eq_of_toInt_eq (by rw [h]; rfl))
      by_cases hm : x.msb = true
      · rw [if_pos hm]
        have := (BitVec.msb_eq_toInt (x := x)).symm.trans hm
        simp only [decide_eq_true_eq] at this
        exact ⟨fun _ => by omega, fun _ => by decide⟩
      · rw [if_neg hm]
        have := (BitVec.msb_eq_toInt (x := x)).symm.trans (Bool.eq_false_iff.mpr hm)
        simp only [decide_eq_false_iff_not] at this
        exact ⟨fun h => absurd rfl h, fun h => absurd h (by omega)⟩
  have hn : IntOp.cmpi CmpIPredicate.ne (IntOp.remsi ArithUnit.host x 1024#32) 0#32 = BitVec.ofBool (decide (x.toInt - 1024 * x.toInt.tdiv 1024 ≠ 0)) := by
    rw [WordCmp.cmpi_ne_eq]
    refine congrArg _ (decide_eq_decide.mpr ?_)
    rw [← hr]
    exact not_congr ⟨fun h => by rw [h]; rfl, fun h => BitVec.eq_of_toInt_eq (by rw [h]; rfl)⟩
  rw [quotW, hs, hn, WordCmp.andi_ofBool]
  have hd : (0 ≤ x.toInt ∧ x.toInt.tdiv 1024 = x.toInt / 1024) ∨ (x.toInt ≤ 0 ∧ x.toInt.tdiv 1024 = -((-x.toInt) / 1024)) := by
    rcases le_total 0 x.toInt with h | h
    · exact .inl ⟨h, Int.tdiv_eq_ediv_of_nonneg h⟩
    · refine .inr ⟨h, ?_⟩
      have := Int.neg_tdiv (a := -x.toInt) (b := 1024)
      rwa [neg_neg, Int.tdiv_eq_ediv_of_nonneg (a := -x.toInt) (by omega)] at this
  by_cases hb : x.toInt ≤ 0 ∧ x.toInt - 1024 * x.toInt.tdiv 1024 ≠ 0
  · rw [select_one (by rw [WordCmp.ofBool_eq_one_iff]; simpa using hb)]
    show (IntOp.divsi ArithUnit.host x 1024#32 - 1#32).toInt = _
    rw [BitVec.toInt_sub, hq, show (1#32 : BitVec 32).toInt = 1 by decide]
    rw [Int.bmod_eq_of_le (by norm_num; omega) (by norm_num; omega)]
    omega
  · rw [select_not (by rw [WordCmp.ofBool_eq_one_iff]; simpa using hb), hq]
    omega

/-- The printed last block in use, as a word. -/
def lastW (x : BitVec 32) : BitVec 32 := IntOp.maxsi (IntOp.subi (quotW x) 1#32) 0#32

/-- The last block in use: one less than the quotient, and at least zero. -/
theorem lastW_toNat (x : BitVec 32) : ((lastW x).toNat : ℤ) = max (x.toInt / 1024 - 1) 0 := by
  obtain ⟨hl, hu⟩ := toInt_bounds x
  have hs : (quotW x - 1#32).toInt = x.toInt / 1024 - 1 := by
    rw [BitVec.toInt_sub, quotW_toInt, show (1#32 : BitVec 32).toInt = 1 by decide]
    exact Int.bmod_eq_of_le (by norm_num; omega) (by norm_num; omega)
  have hi : (lastW x).toInt = max (x.toInt / 1024 - 1) 0 := by
    show (if BitVec.slt 0#32 (quotW x - 1#32) then quotW x - 1#32 else 0#32).toInt = _
    have hb : (BitVec.slt 0#32 (quotW x - 1#32) = true) ↔ 0 < x.toInt / 1024 - 1 := by
      rw [BitVec.slt_iff_toInt_lt, hs]; rfl
    by_cases h : 0 < x.toInt / 1024 - 1
    · rw [if_pos (hb.mpr h), hs]; omega
    · rw [if_neg (fun h' => h (hb.mp h'))]
      show (0 : ℤ) = _
      omega
  rw [← hi]
  exact (WordCmp.toInt_eq_toNat_of_lt_half ((WordCmp.toInt_nonneg_iff_lt_half _).mp (by rw [hi]; omega))).symm

/-- A small count capped at 63. -/
theorem cap_toNat (n : ℕ) (hn : n ≤ 64) : (IntOp.minsi (BitVec.ofNat 32 n) 63#32).toNat = min n 63 := by
  interval_cases n <;> rfl
end Cert.FfnIdeal.Moe
-- ==== Proof.Ffn.Tables.lean ====
/-
  THE THREE TABLES: which block and which expert each tile is of, and its code, read off the host operations that make them of
  the experts' last rows; that every block lies inside its array, and that a later tile of an expert follows one of the same.
-/
module

public import proofs.«01_k».proof.Proof.Ffn.Data
public import proofs.«01_k».proof.Proof.Ffn.Words
public import Idealize.ShloMosaic.Lib.Claim
public import Idealize.ShloMosaic.Lib.Pointwise

@[expose] public section

set_option maxRecDepth 16384

noncomputable section

namespace Cert.FfnIdeal.Moe

open Idealize.ShloMosaic Idealize.ShloMosaic.TcCoe Idealize.ShloMosaic.Tactic
open Cert.FfnIdeal.Gen

section Stages

variable (e : S64.Idx → BitVec 32)

/-- One past the last row any expert owns, as printed. -/
def sUsed : S_.Idx → BitVec 32 := shapeCast S_ (extractStridedSlice S1 ![63] e slices_S64_S1_63) shapeCasts_S1_S_
/-- Whether a tile holds rows, as printed. -/
def sValid : S345.Idx → BitVec 1 :=
  cmpi .slt (muli (iotaInDim S345 32 0) (broadcastInDim S345 ![] bcast_S_S345 (constantI S_ 32 1024#32))) (broadcastInDim S345 ![] bcast_S_S345 (sUsed e))
/-- The number of whole tiles in use, as the printed floor division. -/
def sQuot : S_.Idx → BitVec 32 :=
  select (andi (cmpi .ne (signi (sUsed e)) (signi (constantI S_ 32 1024#32))) (cmpi .ne (Host.remsi (sUsed e) (constantI S_ 32 1024#32)) (constantI S_ 32 0#32)))
    (subi (Host.divsi (sUsed e) (constantI S_ 32 1024#32)) (constantI S_ 32 1#32)) (Host.divsi (sUsed e) (constantI S_ 32 1024#32))
/-- The block a tile works on, as printed. -/
def sTile : S345.Idx → BitVec 32 :=
  select (sValid e) (iotaInDim S345 32 0) (broadcastInDim S345 ![] bcast_S_S345 (maxsi (subi (sQuot e) (constantI S_ 32 1#32)) (constantI S_ 32 0#32)))
/-- Whether an expert's rows end before a tile, as printed. -/
def sBelow : S345x64.Idx → BitVec 32 :=
  extui 32 (cmpi .sle (broadcastInDim S345x64 ![0, 1] bcast_S1x64_S345x64_0_1 (broadcastInDim S1x64 ![1] bcast_S64_S1x64_1 e))
    (broadcastInDim S345x64 ![0, 1] bcast_S345x1_S345x64_0_1 (broadcastInDim S345x1 ![0] bcast_S345_S345x1_0
      (muli (sTile e) (broadcastInDim S345 ![] bcast_S_S345 (constantI S_ 32 1024#32)))))) natLt_1_32
/-- The expert of a tile, as printed. -/
def sOwner : S345.Idx → BitVec 32 :=
  minsi (Host.reduce IntOp.addi (sBelow e) (constantI S_ 32 0#32) reducesTo_S345x64_S345_d1 h_S_) (broadcastInDim S345 ![] bcast_S_S345 (constantI S_ 32 63#32))
/-- The code of a tile, as printed. -/
def sCode : S345.Idx → BitVec 32 :=
  select (sValid e)
    (addi (broadcastInDim S345 ![] bcast_S_S345 (constantI S_ 32 1#32))
      (extui 32 (concatenate S345 0 [⟨S1, broadcastInDim S1 ![] bcast_S_S1 (constantI S_ 1 1#1)⟩,
        ⟨S344, cmpi .ne (extractStridedSlice S344 ![1] (sOwner e) slices_S345_S344_1) (extractStridedSlice S344 ![0] (sOwner e) slices_S345_S344_0)⟩]
        concatenates_S1_S344_S345_d0) natLt_1_32))
    (broadcastInDim S345 ![] bcast_S_S345 (constantI S_ 32 0#32))

/-- A tile holds rows when it begins before the last row in use. -/
theorem sValid_iff (i : Fin 345) : sValid e (ix1 i) = 1#1 ↔ 1024 * (i.val : ℤ) < (e (ix1 63)).toInt := by
  have h : sValid e (ix1 i) = IntOp.cmpi .slt (IntOp.muli (BitVec.ofNat 32 i.val) 1024#32) (e (ix1 63)) := by
    pointwise [sValid, sUsed]
  rw [h, WordCmp.cmpi_slt_eq, WordCmp.ofBool_decide_eq_one_iff, mul_toInt _ i.isLt]

/-- The block of a tile: its own, or for a tile without rows the last one in use. -/
theorem sTile_eq (i : Fin 345) : sTile e (ix1 i) = Scalar.select (sValid e (ix1 i)) (BitVec.ofNat 32 i.val) (lastW (e (ix1 63))) := by
  pointwise [sTile, sQuot, sUsed, lastW, quotW]

/-- A tile with rows works on its own block. -/
theorem sTile_valid (i : Fin 345) (h : sValid e (ix1 i) = 1#1) : (sTile e (ix1 i)).toNat = i.val := by
  rw [sTile_eq, select_one h, WordCmp.toNat_ofNat_of_lt (by have := i.isLt; omega)]

/-- A tile without rows works on the last block in use. -/
theorem sTile_not (i : Fin 345) (h : ¬ sValid e (ix1 i) = 1#1) :
    ((sTile e (ix1 i)).toNat : ℤ) = max ((e (ix1 63)).toInt / 1024 - 1) 0 := by
  rw [sTile_eq, select_not h, lastW_toNat]

/-- Every tile works on a block of the array. -/
theorem sTile_lt (i : Fin 345) : (sTile e (ix1 i)).toNat < 345 := by
  have hi := i.isLt
  by_cases h : sValid e (ix1 i) = 1#1
  · rw [sTile_valid e i h]; exact hi
  · have h1 := sTile_not e i h
    rw [sValid_iff] at h
    omega

/-- How many experts' rows end at or before a row. -/
def below (r : ℤ) : ℕ := (Finset.univ.filter fun k : Fin 64 => (e (ix1 k)).toInt ≤ r).card

/-- There are 64 experts. -/
theorem below_le (r : ℤ) : below e r ≤ 64 := (Finset.card_filter_le _ _).trans (by simp)

/-- The shape of the printed count. -/
theorem reduces_exp : S345x64.Reduces [(1 : Fin 2)] S345 := by decide

/-- The expert of a tile: the number of experts whose rows end before its block, and 63 at most. -/
theorem sOwner_toNat (i : Fin 345) : (sOwner e (ix1 i)).toNat = min (below e (1024 * ((sTile e (ix1 i)).toNat : ℤ))) 63 := by
  have hf : Host.reduce IntOp.addi (sBelow e) (constantI S_ 32 0#32) reducesTo_S345x64_S345_d1 h_S_ (ix1 i)
      = BitVec.ofNat 32 (below e (1024 * ((sTile e (ix1 i)).toNat : ℤ))) := by
    rw [Host.reduce_eq_fold_single IntOp.addi (h := reduces_exp)]
    have hx : (sBelow e ∘ reduces_exp.lift (ix1 i))
        = fun k : Fin 64 => (IntOp.cmpi CmpIPredicate.sle (e (ix1 k)) (IntOp.muli (sTile e (ix1 i)) 1024#32)).setWidth 32 := by
      funext k
      have hl : reduces_exp.lift (ix1 i) k = ix2 i k := by
        funext a; fin_cases a <;> rfl
      rw [Function.comp, hl]
      pointwise [sBelow]
    rw [hx]
    refine (IndicatorCount.fold_addi_setWidth_eq_card (w := 32)
      (fun k : Fin 64 => IntOp.cmpi CmpIPredicate.sle (e (ix1 k)) (IntOp.muli (sTile e (ix1 i)) 1024#32)) Finset.univ).trans ?_
    refine congrArg (BitVec.ofNat 32) (congrArg Finset.card (Finset.filter_congr fun k _ => ?_))
    have ht : sTile e (ix1 i) = BitVec.ofNat 32 (sTile e (ix1 i)).toNat := BitVec.eq_of_toNat_eq (by rw [WordCmp.toNat_ofNat_of_lt (sTile e (ix1 i)).isLt])
    rw [WordCmp.cmpi_sle_eq, WordCmp.ofBool_decide_eq_one_iff]
    nth_rw 1 [ht]
    rw [mul_toInt _ (sTile_lt e i)]
  have hm : sOwner e (ix1 i) = IntOp.minsi (Host.reduce IntOp.addi (sBelow e) (constantI S_ 32 0#32) reducesTo_S345x64_S345_d1 h_S_ (ix1 i)) 63#32 := rfl
  rw [hm, hf, cap_toNat _ (below_le e _)]

/-- Every tile's expert is one of the 64. -/
theorem sOwner_lt (i : Fin 345) : (sOwner e (ix1 i)).toNat < 64 := by
  rw [sOwner_toNat]; omega

/-- The code of a tile that holds rows is not zero, and of one that holds none is. -/
theorem sCode_ne (i : Fin 345) : sCode e (ix1 i) ≠ 0#32 ↔ sValid e (ix1 i) = 1#1 := by
  have h : ∃ b : BitVec 1, sCode e (ix1 i) = Scalar.select (sValid e (ix1 i)) (IntOp.addi 1#32 (b.setWidth 32)) 0#32 := by
    refine ⟨?_, ?_⟩
    rotate_left
    · pointwise [sCode]
      rfl
  obtain ⟨b, hb⟩ := h
  rw [hb]
  by_cases hv : sValid e (ix1 i) = 1#1
  · rw [select_one hv]
    refine ⟨fun _ => hv, fun _ => ?_⟩
    clear hb; revert b; decide
  · rw [select_not hv]
    exact ⟨fun h => absurd rfl h, fun h => absurd h hv⟩

/-- A tile whose code is neither zero nor two has the expert of the tile before it. -/
theorem sCode_later (i : Fin 345) (hv : sValid e (ix1 i) = 1#1) (hc : sCode e (ix1 i) ≠ 2#32) :
    ∃ j : Fin 345, j.val + 1 = i.val ∧ sOwner e (ix1 j) = sOwner e (ix1 i) := by
  obtain ⟨i, hi⟩ := i
  cases i with
  | zero =>
    refine absurd ?_ hc
    have h : sCode e (ix1 ⟨0, hi⟩) = Scalar.select (sValid e (ix1 ⟨0, hi⟩)) (IntOp.addi 1#32 (BitVec.setWidth 32 1#1)) 0#32 := by
      pointwise [sCode]
    rw [h, select_one hv]; decide
  | succ i =>
    refine ⟨⟨i, by omega⟩, rfl, ?_⟩
    have h : sCode e (ix1 ⟨i + 1, hi⟩) = Scalar.select (sValid e (ix1 ⟨i + 1, hi⟩))
        (IntOp.addi 1#32 (BitVec.setWidth 32 (IntOp.cmpi CmpIPredicate.ne (sOwner e (ix1 ⟨i + 1, hi⟩)) (sOwner e (ix1 ⟨i, by omega⟩))))) 0#32 := by
      pointwise [sCode]
      rw [dif_neg (by omega)]
      simp only [Nat.add_sub_cancel, Nat.add_comm 1 i]
    rw [h, select_one hv] at hc
    by_contra hne
    apply hc
    have hd : IntOp.cmpi CmpIPredicate.ne (sOwner e (ix1 ⟨i + 1, hi⟩)) (sOwner e (ix1 ⟨i, by omega⟩)) = 1#1 := by
      rw [WordCmp.cmpi_ne_eq, WordCmp.ofBool_decide_eq_one_iff]; exact fun h => hne h.symm
    rw [hd]; decide

end Stages

variable {F : FTy → Type} [FloatOps F]
variable (m : (ℓ : Loc nD τ sig) → Buf (Elt F) ℓ)

/-- The experts' last rows, as the launch holds them. -/
abbrev ends : S64.Idx → BitVec 32 := m (((0 : Dev nD) : Thread nD τ).loc main_arg0)

/-- The table of the tiles' blocks. -/
theorem tbl_one : tbl m 1 = sTile (ends m) := by
  show V m 0 main_v10 = _
  simp only [V, opss, hostOps0, hostOps0_1, hostOps0_2, hostOps0_3, hostOps0_4, hostOps0_5, List.flatten_cons, List.flatten_nil, List.append_nil, List.cons_append, List.nil_append]
  entry_read
  rfl

/-- The table of the tiles' experts. -/
theorem tbl_zero : tbl m 0 = sOwner (ends m) := by
  show V m 0 main_v21 = _
  simp only [V, opss, hostOps0, hostOps0_1, hostOps0_2, hostOps0_3, hostOps0_4, hostOps0_5, List.flatten_cons, List.flatten_nil, List.append_nil, List.cons_append, List.nil_append]
  entry_read
  rfl

/-- The table of the tiles' codes. -/
theorem tbl_two : tbl m 2 = sCode (ends m) := by
  show V m 0 main_v30 = _
  simp only [V, opss, hostOps0, hostOps0_1, hostOps0_2, hostOps0_3, hostOps0_4, hostOps0_5, List.flatten_cons, List.flatten_nil, List.append_nil, List.cons_append, List.nil_append]
  entry_read
  rfl

/-- A point's coordinate as a tile. -/
abbrev tileAt (i : grid0.Coords) : Fin 345 := i 0

/-- The element of a table a point reads is that of its tile. -/
theorem at_eq (i : grid0.Coords) :
    (Rect.unit (s := S345) (k0_off1 i) S1.size (k0_off1_inb i)).emb (Shape.Idx.first (numel1_S1.symm ▸ Nat.one_pos)) = ix1 (tileAt i) := by
  funext a
  fin_cases a
  refine Fin.ext ?_
  have hi : (i 0).val < 345 := (i 0).isLt
  show (BitVec.ofNat 32 (i 0).val).toNat + 1 * 0 = (i 0).val
  rw [WordCmp.toNat_ofNat_of_lt (by omega)]; omega

/-- The block index of the rows' window, and of the result's. -/
theorem tile_index (i : grid0.Coords) : cc0_transform_0 k0_off1_inb numel1_S1 (tbl m) i = ![(sTile (ends m) (ix1 (tileAt i))).toNat, 0] := by
  unfold cc0_transform_0
  have h : (tbl m).at 1 (Rect.unit (s := S345) (k0_off1 i) S1.size (k0_off1_inb i)) numel1_S1 = sTile (ends m) (ix1 (tileAt i)) :=
    (congrArg (tbl m 1) (at_eq i)).trans (congrFun (tbl_one m) _)
  exact congrArg (fun w : BitVec 32 => ![w.toNat, 0]) h

/-- The block index of a weight's window. -/
theorem owner_index (i : grid0.Coords) : cc0_transform_1 k0_off1_inb numel1_S1 (tbl m) i = ![(sOwner (ends m) (ix1 (tileAt i))).toNat, 0, 0] := by
  unfold cc0_transform_1
  have h : (tbl m).at 0 (Rect.unit (s := S345) (k0_off1 i) S1.size (k0_off1_inb i)) numel1_S1 = sOwner (ends m) (ix1 (tileAt i)) :=
    (congrArg (tbl m 0) (at_eq i)).trans (congrFun (tbl_zero m) _)
  exact congrArg (fun w : BitVec 32 => ![w.toNat, 0, 0]) h

/-- The code the body loads at a point. -/
theorem code_eq (hO : Ok m) (t : Fin (cfgM m hO).N) : code m hO t = sCode (ends m) (ix1 (tileAt (grid0.coords t))) :=
  (congrArg (tbl m 2) (at_eq (grid0.coords t))).trans (congrFun (tbl_two m) _)

/-- Every window's block lies inside its array at every point. -/
theorem ok : Ok m := by
  unfold Ok ok0
  have tile : ∀ i : grid0.Coords, ∃ h : (∀ a, (cc0_transform_0 k0_off1_inb numel1_S1 (tbl m) i a + 1) * S1024x1024.size a ≤ S353280x1024.size a),
      EltTy.bits .bf16 = 32 ∨ (Rect.block (s := S353280x1024) S1024x1024.size (cc0_transform_0 k0_off1_inb numel1_S1 (tbl m) i) h).WholeWords (EltTy.packing .bf16) := by
    intro i
    rw [tile_index]
    have hi := sTile_lt (ends m) (tileAt i)
    refine ⟨fun a => ?_, .inr (.inl (.inr ⟨by decide, rfl, .inl ⟨?_, ?_⟩⟩))⟩
    · fin_cases a
      · show ((sTile (ends m) (ix1 (tileAt i))).toNat + 1) * 1024 ≤ 353280; omega
      · show (0 + 1) * 1024 ≤ 1024; omega
    · show 2 ∣ (sTile (ends m) (ix1 (tileAt i))).toNat * 1024; omega
    · show 2 ∣ 1024; decide
  have inp : ∀ i : grid0.Coords, ∃ h : (∀ a, (cc0_transform_1 k0_off1_inb numel1_S1 (tbl m) i a + 1) * S1x1024x256.size a ≤ S64x1024x256.size a),
      EltTy.bits .f32 = 32 ∨ (Rect.block (s := S64x1024x256) S1x1024x256.size (cc0_transform_1 k0_off1_inb numel1_S1 (tbl m) i) h).WholeWords (EltTy.packing .f32) := by
    intro i
    rw [owner_index]
    have hi := sOwner_lt (ends m) (tileAt i)
    refine ⟨fun a => ?_, .inl rfl⟩
    fin_cases a
    · show ((sOwner (ends m) (ix1 (tileAt i))).toNat + 1) * 1 ≤ 64; omega
    · show (0 + 1) * 1024 ≤ 1024; omega
    · show (0 + 1) * 256 ≤ 256; omega
  refine ⟨tile, inp, inp, fun i => ?_, tile⟩
  have e3 : cc0_transform_3 k0_off1_inb numel1_S1 (tbl m) i = _ := owner_index m i
  rw [e3]
  have hi := sOwner_lt (ends m) (tileAt i)
  refine ⟨fun a => ?_, .inl rfl⟩
  fin_cases a
  · show ((sOwner (ends m) (ix1 (tileAt i))).toNat + 1) * 1 ≤ 64; omega
  · show (0 + 1) * 256 ≤ 256; omega
  · show (0 + 1) * 1024 ≤ 1024; omega

/-- A point's coordinate is its number. -/
theorem tileAt_val (t : Fin grid0.N) : (tileAt (grid0.coords t)).val = t.val := by
  have h := Pipeline.Grid.coords_val (G := grid0) (S := 1) (B := 345) t 0 (by decide) rfl
  have ht : t.val < 345 := lt_of_lt_of_eq t.isLt N_0
  show (grid0.coords t 0).val = _
  rw [h]; omega

/-- The body works at a point exactly when its tile holds rows. -/
theorem live_valid (hO : Ok m) (t : Fin (cfgM m hO).N) : Live (code m hO t) ↔ sValid (ends m) (ix1 (tileAt (grid0.coords t))) = 1#1 := by
  rw [live_iff, code_eq, sCode_ne]

/-- A window's block index at a point is its index map's. -/
theorem index_eq (hO : Ok m) (w : Fin (cfgM m hO).W) (t : Fin (cfgM m hO).N) :
    ((cfgM m hO).win w).index t = ix0 (tbl m) w (grid0.coords t) := rfl

/-- A later tile of an expert follows a tile of the same expert. -/
theorem steps (hO : Ok m) : Steps m hO := by
  intro t hl hf
  rw [live_valid] at hl
  rw [fresh_iff, code_eq] at hf
  obtain ⟨j, hj, ho⟩ := sCode_later (ends m) _ hl hf
  rw [tileAt_val] at hj
  have hjN : j.val < (cfgM m hO).N := lt_of_lt_of_eq j.isLt N_0.symm
  have hjt : tileAt (grid0.coords ⟨j.val, hjN⟩) = j := Fin.ext (tileAt_val ⟨j.val, hjN⟩)
  have hi : cc0_transform_1 k0_off1_inb numel1_S1 (tbl m) (grid0.coords ⟨j.val, hjN⟩) = cc0_transform_1 k0_off1_inb numel1_S1 (tbl m) (grid0.coords t) := by
    rw [owner_index, owner_index, hjt, ho]
  have hw : ∀ w : Fin 5, w = 1 ∨ w = 2 ∨ w = 3 → ix0 (tbl m) w (grid0.coords ⟨j.val, hjN⟩) = ix0 (tbl m) w (grid0.coords t) := by
    rintro w (rfl | rfl | rfl) <;> exact hi
  refine ⟨⟨j.val, hjN⟩, hj, ?_, (index_eq m hO _ _).trans ((hw 1 (by decide)).trans (index_eq m hO _ _).symm),
    (index_eq m hO _ _).trans ((hw 2 (by decide)).trans (index_eq m hO _ _).symm), (index_eq m hO _ _).trans ((hw 3 (by decide)).trans (index_eq m hO _ _).symm)⟩
  rw [live_valid, hjt, sValid_iff]
  rw [sValid_iff, tileAt_val] at hl
  omega

end Cert.FfnIdeal.Moe
-- ==== Proof.Ffn.Same.lean ====
/-
  THE EXPERTS' PROGRAM AND ITS IDEAL READING ARE ONE TEXT: what is proved of the second at any float values holds of the first.
-/
module

public import proofs.«01_k».proof.Defs
public import proofs.«01_k».proof.Proof.Gen.Ffn
public import proofs.«01_k».proof.Proof.Gen.FfnIdeal
public import proofs.«01_k».proof.Proof.Ffn.Launch
public import proofs.«01_k».proof.Proof.Ffn.Tables

@[expose] public section

noncomputable section

namespace Cert.Ffn

open Idealize.ShloMosaic Idealize.ShloMosaic.TcCoe Idealize.SL.Sem

variable {F : FTy → Type} [FloatOps F]

section
variable [Cert.Ffn.Facts] [Cert.FfnIdeal.Facts]

set_option maxHeartbeats 4000000 in
/-- The two programs are one. -/
theorem main_same : Cert.Ffn.main (F := F) = Cert.FfnIdeal.main (F := F) := by
  unfold Cert.Ffn.main Cert.FfnIdeal.main
  rfl

set_option maxHeartbeats 4000000 in
/-- The two kernels are one. -/
theorem kernel_same : Cert.Ffn.cc0_moe_ffn (F := F) = Cert.FfnIdeal.cc0_moe_ffn (F := F) := by
  unfold Cert.Ffn.cc0_moe_ffn Cert.FfnIdeal.cc0_moe_ffn
  rfl

set_option maxHeartbeats 4000000 in
/-- The two tables of kernels are one. -/
theorem kernels_same : Cert.Ffn.defs₀ (F := F) = Cert.FfnIdeal.defs₀ (F := F) := by
  unfold Cert.Ffn.defs₀ Cert.FfnIdeal.defs₀
  refine congrArg Defs.onTc (funext fun x => funext fun a => ?_)
  match x, a with
  | 0, (t, s) =>
    show Cert.Ffn.cc0_moe_ffn (F := F) _ _ _ _ _ _ _ _ _ _ _ _ _ _ _ _ _ _ _ _ _ = Cert.FfnIdeal.cc0_moe_ffn (F := F) _ _ _ _ _ _ _ _ _ _ _ _ _ _ _ _ _ _ _ _ _
    rw [kernel_same]
    rfl

set_option maxHeartbeats 4000000 in
/-- The two tables of bodies are one. -/
theorem defs_same : Cert.Ffn.defs (F := F) = Cert.FfnIdeal.defs (F := F) := by
  unfold Cert.Ffn.defs Cert.FfnIdeal.defs
  rw [kernels_same]
  rfl

end

/-- The experts' call ends with its arguments kept and every counter at zero, at the ideal reading. -/
theorem ideal_frame : quiescent_FfnIdeal := fun m ρ _ => Cert.FfnIdeal.Moe.frame m ρ (Cert.FfnIdeal.Moe.ok m) (Cert.FfnIdeal.Moe.steps m _)

set_option maxHeartbeats 4000000 in
/-- And at the machine's. -/
theorem machine_frame : quiescent_Ffn := by
  intro m ρ _
  have h := Cert.FfnIdeal.Moe.frame m ρ (Cert.FfnIdeal.Moe.ok m) (Cert.FfnIdeal.Moe.steps m _)
  rw [← main_same, ← defs_same] at h
  exact h

end Cert.Ffn

end
-- ==== Proof.Ffn.Spec.lean ====
/-
  ONE EXPERT ON ONE ROW: the two input projections, the gate of the first, and the output projection, in the extended reals.
-/
module

public import Idealize.ShloMosaic.Lib.Pointwise

@[expose] public section

noncomputable section

namespace Cert.Ffn.Spec

open Idealize.ShloMosaic
open scoped BigOperators

/-- One expert's two-layer network at a row `x` and an output lane `o`: with `a` and `u` the row's products with the expert's two
    input matrices, the sum over the hidden lanes of `a` times its logistic, times `u`, times the output matrix. -/
def expert (x : Fin 1024 → EReal) (wg wu : Fin 1024 → Fin 256 → EReal) (wd : Fin 256 → Fin 1024 → EReal) (o : Fin 1024) : EReal :=
  ∑ h : Fin 256, (∑ d, x d * wg d h) * Ideal.logistic (∑ d, x d * wg d h) * (∑ d, x d * wu d h) * wd h o

end Cert.Ffn.Spec

end
-- ==== Proof.Ffn.TileValue.lean ====
/-
  A TILE'S VALUE AT AN INDEX in the extended reals: the expert's network on the row.
-/
module

public import proofs.«01_k».proof.Proof.Ffn.Tables
public import proofs.«01_k».proof.Proof.Ffn.Spec
public import Idealize.ShloMosaic.Lib.Pointwise

@[expose] public section

set_option maxRecDepth 16384

noncomputable section

namespace Cert.FfnIdeal.Moe

open Idealize.ShloMosaic Idealize.ShloMosaic.TcCoe
open Cert.FfnIdeal.Gen Cert.Ffn.Spec
open scoped BigOperators

/-- The body's result at an index: the two input projections lie side by side in the second argument. -/
theorem pay4_apply (x : Vec Ideal S1024x1024 .bf16) (w : Vec Ideal S1024x512 .bf16) (g : Vec Ideal S256x1024 .bf16) (r o : Fin 1024) :
    k0_pay4 x w g (ix2 r o) = expert (fun d => x (ix2 r d)) (fun d h => w (ix2 d ⟨h.val, by omega⟩)) (fun d h => w (ix2 d ⟨256 + h.val, by omega⟩))
      (fun h o => g (ix2 h o)) o := by
  pointwise [k0_pay4]
  rfl

/-- A weight's block without its leading axis. -/
theorem pay1_apply (w : Vec Ideal S1x1024x256 .f32) (d : Fin 1024) (h : Fin 256) : k0_pay1 w (ix2 d h) = w (ix3 0 d h) := by
  pointwise [k0_pay1]
/-- The same for the second weight. -/
theorem pay2_apply (w : Vec Ideal S1x1024x256 .f32) (d : Fin 1024) (h : Fin 256) : k0_pay2 w (ix2 d h) = w (ix3 0 d h) := by
  pointwise [k0_pay2]
/-- The same for the third weight. -/
theorem pay3_apply (w : Vec Ideal S1x256x1024 .f32) (h : Fin 256) (o : Fin 1024) : k0_pay3 w (ix2 h o) = w (ix3 0 h o) := by
  pointwise [k0_pay3]

end Cert.FfnIdeal.Moe

end
-- ==== Proof.Ffn.Array.lean ====
/-
  THE EXPERTS' RESULT ARRAY: where every expert's rows end at a multiple of 1024, each row in use holds its owner's network.
-/
module

public import proofs.«01_k».proof.Proof.Ffn.TileValue
public import proofs.«01_k».proof.Proof.Ffn.Launch

@[expose] public section

set_option maxRecDepth 16384

noncomputable section

namespace Cert.FfnIdeal.Moe

open Idealize.ShloMosaic Idealize.ShloMosaic.TcCoe Idealize.SL.Sem
open Cert.FfnIdeal.Gen Cert.Ffn.Spec Pipeline
open scoped BigOperators

section Blocks

variable {F : FTy → Type} [FloatOps F]
variable (m : (ℓ : Loc nD τ sig) → Buf (Elt F) ℓ)

/-- The block of rows a point works on. -/
def tileOf (t : Fin grid0.N) : Fin 345 := ⟨(sTile (ends m) (ix1 (tileAt (grid0.coords t)))).toNat, sTile_lt _ _⟩
/-- The expert of a point. -/
def ownerOf (t : Fin grid0.N) : Fin 64 := ⟨(sOwner (ends m) (ix1 (tileAt (grid0.coords t)))).toNat, sOwner_lt _ _⟩

/-- The block index of the rows' window. -/
theorem index0 (hO : Ok m) (t : Fin (cfgM m hO).N) : ((cfgM m hO).win 0).index t = ![(tileOf m t).val, 0] := by
  have h := index_eq m hO 0 t
  exact h.trans (tile_index m _)
/-- The block index of the first weight's window. -/
theorem index1 (hO : Ok m) (t : Fin (cfgM m hO).N) : ((cfgM m hO).win 1).index t = ![(ownerOf m t).val, 0, 0] := by
  have hi : cc0_transform_1 k0_off1_inb numel1_S1 (tbl m) (grid0.coords t) = ![(ownerOf m t).val, 0, 0] := by
    rw [owner_index]; unfold ownerOf; with_reducible rfl
  have hx : ix0 (tbl m) 1 (grid0.coords t) = cc0_transform_1 k0_off1_inb numel1_S1 (tbl m) (grid0.coords t) := by rfl
  have h := index_eq m hO 1 t
  exact h.trans (hx.trans hi)
/-- The block index of the second weight's window. -/
theorem index2 (hO : Ok m) (t : Fin (cfgM m hO).N) : ((cfgM m hO).win 2).index t = ![(ownerOf m t).val, 0, 0] := by
  have hi : cc0_transform_1 k0_off1_inb numel1_S1 (tbl m) (grid0.coords t) = ![(ownerOf m t).val, 0, 0] := by
    rw [owner_index]; unfold ownerOf; with_reducible rfl
  have hx : ix0 (tbl m) 2 (grid0.coords t) = cc0_transform_2 k0_off1_inb numel1_S1 (tbl m) (grid0.coords t) := by rfl
  have h := index_eq m hO 2 t
  exact h.trans (hx.trans hi)
/-- The block index of the third weight's window. -/
theorem index3 (hO : Ok m) (t : Fin (cfgM m hO).N) : ((cfgM m hO).win 3).index t = ![(ownerOf m t).val, 0, 0] := by
  have hi : cc0_transform_1 k0_off1_inb numel1_S1 (tbl m) (grid0.coords t) = ![(ownerOf m t).val, 0, 0] := by
    rw [owner_index]; unfold ownerOf; with_reducible rfl
  have hx : ix0 (tbl m) 3 (grid0.coords t) = cc0_transform_3 k0_off1_inb numel1_S1 (tbl m) (grid0.coords t) := by rfl
  have h := index_eq m hO 3 t
  exact h.trans (hx.trans hi)
/-- The block index of the result's window. -/
theorem index4 (hO : Ok m) (t : Fin (cfgM m hO).N) : ((cfgM m hO).win 4).index t = ![(tileOf m t).val, 0] := by
  have h := index_eq m hO 4 t
  exact h.trans (tile_index m _)

/-- Row `r` of a block of 1024 rows. -/
def rowOf (b : Fin 345) (r : Fin 1024) : Fin 353280 := ⟨1024 * b.val + r.val, by omega⟩

/-- The rows' block, read from its argument. -/
theorem x_read (hO : Ok m) (c : Dev nD) (t : Fin (cfgM m hO).N) (r d : Fin 1024) :
    iblk m hO c 0 t (ix2 r d) = m ((c : Thread nD τ).loc main_arg1) (ix2 (rowOf (tileOf m t) r) d) := by
  have e : iblk m hO c 0 t (ix2 r d) = V m c main_arg1 ((((cfgM m hO).win 0).rect t).emb (ix2 r d)) := (rfl)
  rw [e, V_arg m c main_arg1 (by decide)]
  refine congrArg _ (funext fun a => Fin.ext ?_)
  have hh := ((cfgM m hO).win 0).rect_emb_val t (ix2 r d) a
  rw [index0] at hh
  refine hh.trans ?_
  fin_cases a
  · show (tileOf m t).val * 1024 + r.val = 1024 * (tileOf m t).val + r.val; omega
  · show 0 * 1024 + d.val = d.val; omega

/-- The first weight's block, read from its argument. -/
theorem g_read (hO : Ok m) (c : Dev nD) (t : Fin (cfgM m hO).N) (d : Fin 1024) (h : Fin 256) :
    iblk m hO c 1 t (ix3 0 d h) = m ((c : Thread nD τ).loc main_arg2) (ix3 (ownerOf m t) d h) := by
  have e : iblk m hO c 1 t (ix3 0 d h) = V m c main_arg2 ((((cfgM m hO).win 1).rect t).emb (ix3 0 d h)) := (rfl)
  rw [e, V_arg m c main_arg2 (by decide)]
  refine congrArg _ (funext fun a => Fin.ext ?_)
  have hh := ((cfgM m hO).win 1).rect_emb_val t (ix3 0 d h) a
  rw [index1] at hh
  refine hh.trans ?_
  fin_cases a
  · show (ownerOf m t).val * 1 + 0 = (ownerOf m t).val; omega
  · show 0 * 1024 + d.val = d.val; omega
  · show 0 * 256 + h.val = h.val; omega

/-- The second weight's block, read from its argument. -/
theorem u_read (hO : Ok m) (c : Dev nD) (t : Fin (cfgM m hO).N) (d : Fin 1024) (h : Fin 256) :
    iblk m hO c 2 t (ix3 0 d h) = m ((c : Thread nD τ).loc main_arg3) (ix3 (ownerOf m t) d h) := by
  have e : iblk m hO c 2 t (ix3 0 d h) = V m c main_arg3 ((((cfgM m hO).win 2).rect t).emb (ix3 0 d h)) := (rfl)
  rw [e, V_arg m c main_arg3 (by decide)]
  refine congrArg _ (funext fun a => Fin.ext ?_)
  have hh := ((cfgM m hO).win 2).rect_emb_val t (ix3 0 d h) a
  rw [index2] at hh
  refine hh.trans ?_
  fin_cases a
  · show (ownerOf m t).val * 1 + 0 = (ownerOf m t).val; omega
  · show 0 * 1024 + d.val = d.val; omega
  · show 0 * 256 + h.val = h.val; omega

/-- The third weight's block, read from its argument. -/
theorem d_read (hO : Ok m) (c : Dev nD) (t : Fin (cfgM m hO).N) (h : Fin 256) (o : Fin 1024) :
    iblk m hO c 3 t (ix3 0 h o) = m ((c : Thread nD τ).loc main_arg4) (ix3 (ownerOf m t) h o) := by
  have e : iblk m hO c 3 t (ix3 0 h o) = V m c main_arg4 ((((cfgM m hO).win 3).rect t).emb (ix3 0 h o)) := (rfl)
  rw [e, V_arg m c main_arg4 (by decide)]
  refine congrArg _ (funext fun a => Fin.ext ?_)
  have hh := ((cfgM m hO).win 3).rect_emb_val t (ix3 0 h o) a
  rw [index3] at hh
  refine hh.trans ?_
  fin_cases a
  · show (ownerOf m t).val * 1 + 0 = (ownerOf m t).val; omega
  · show 0 * 256 + h.val = h.val; omega
  · show 0 * 1024 + o.val = o.val; omega

/-- Every expert's rows end at a multiple of 1024. -/
def Whole : Prop := ∀ k : Fin 64, ∃ n : ℤ, (ends m (ix1 k)).toInt = 1024 * n

/-- A point without rows, where some row is in use, writes the block of the point before it. -/
theorem tile_before (hW : Whole m) (hu : 0 < (ends m (ix1 63)).toInt) (t : Fin grid0.N)
    (hv : ¬ sValid (ends m) (ix1 (tileAt (grid0.coords t))) = 1#1) :
    ∃ h : 0 < t.val, tileOf m ⟨t.val - 1, by omega⟩ = tileOf m t := by
  obtain ⟨n, hn⟩ := hW 63
  have h1 := sTile_not _ _ hv
  have hv' := hv
  rw [sValid_iff, tileAt_val] at hv'
  refine ⟨by omega, Fin.ext ?_⟩
  show (sTile (ends m) (ix1 (tileAt (grid0.coords ⟨t.val - 1, _⟩)))).toNat = (sTile (ends m) (ix1 (tileAt (grid0.coords t)))).toNat
  by_cases hp : sValid (ends m) (ix1 (tileAt (grid0.coords ⟨t.val - 1, by omega⟩))) = 1#1
  · have h2 := sTile_valid _ _ hp
    rw [tileAt_val] at h2
    rw [sValid_iff, tileAt_val] at hp
    dsimp only at h2 hp
    omega
  · have h2 := sTile_not _ _ hp
    omega

/-- A point with rows writes its own block. -/
theorem tile_own (t : Fin grid0.N) (hv : sValid (ends m) (ix1 (tileAt (grid0.coords t))) = 1#1) : (tileOf m t).val = t.val :=
  (sTile_valid _ _ hv).trans (tileAt_val t)

/-- A block's own point. -/
def ptOf (b : Fin 345) : Fin grid0.N := ⟨b.val, lt_of_lt_of_eq b.isLt N_0.symm⟩

/-- The result's window is never fetched. -/
theorem fetch4 (hO : Ok m) (t : Fin (cfgM m hO).N) : ((cfgM m hO).win 4).fetch t = false := (rfl)

/-- What the points may leave in the result's buffer is the value of the tile whose block it is. -/
theorem leaves4 (hO : Ok m) (hW : Whole m) (hu : 0 < (ends m (ix1 63)).toInt) (c : Dev nD) :
    ∀ (n : ℕ) (t : Fin (cfgM m hO).N), t.val = n → ∀ X, (rdat m hO c).Leaves 4 t X → X = tileVal m hO c (ptOf (tileOf m t)) := by
  intro n
  induction n with
  | zero =>
    intro t ht X hX
    obtain ⟨Y, -, hA⟩ := hX
    have hA' : (Live (code m hO t) → X = tileVal m hO c t) ∧ (¬ Live (code m hO t) → X = Y) := hA
    have hv : sValid (ends m) (ix1 (tileAt (grid0.coords t))) = 1#1 := by
      rw [sValid_iff, tileAt_val]; omega
    have hp : ptOf (tileOf m t) = t := Fin.ext (tile_own m t hv)
    rw [hp]; exact hA'.1 ((live_valid m hO t).mpr hv)
  | succ n ih =>
    intro t ht X hX
    obtain ⟨Y, hY, hA⟩ := hX
    have hA' : (Live (code m hO t) → X = tileVal m hO c t) ∧ (¬ Live (code m hO t) → X = Y) := hA
    by_cases hv : sValid (ends m) (ix1 (tileAt (grid0.coords t))) = 1#1
    · have hp : ptOf (tileOf m t) = t := Fin.ext (tile_own m t hv)
      rw [hp]; exact hA'.1 ((live_valid m hO t).mpr hv)
    · obtain ⟨h0, hb⟩ := tile_before m hW hu t hv
      rw [hA'.2 (fun h => hv ((live_valid m hO t).mp h))]
      rw [(rdat m hO c).finds_of_pos (fetch4 m hO t) (by omega)] at hY
      rcases hY with hY | hY
      · exfalso
        have hlt : t.val < (cfgM m hO).grid.N := t.isLt
        unfold Window.flush at hY
        rw [Bool.and_eq_true, Bool.or_eq_true, decide_eq_true_eq, decide_eq_true_eq] at hY
        rcases hY.2 with h | ⟨h, hne⟩
        · have h' : t.val - 1 + 1 = (cfgM m hO).grid.N := h; omega
        · apply hne
          rw [index4, index4, hb]
          exact congrArg (fun s => ![(tileOf m s).val, 0]) (Fin.ext (show t.val - 1 + 1 = t.val by omega))
      · rw [← hb]
        exact ih _ (by dsimp only; omega) Y hY

end Blocks

end Cert.FfnIdeal.Moe

end
-- ==== Proof.Ffn.Final.lean ====
/-
  THE EXPERTS' RESULT ARRAY, ELEMENT BY ELEMENT: where every expert's rows end at a multiple of 1024, a row in use holds its
  owner's network.
-/
module

public import proofs.«01_k».proof.Proof.Ffn.Array

@[expose] public section

set_option maxRecDepth 16384

noncomputable section

namespace Cert.FfnIdeal.Moe

open Idealize.ShloMosaic Idealize.ShloMosaic.TcCoe Idealize.SL.Sem
open Cert.FfnIdeal.Gen Cert.Ffn.Spec Pipeline
open scoped BigOperators

variable (m : (ℓ : Loc nD τ sig) → Buf (Elt Ideal) ℓ)

/-- An expert's network at a row, of the argument arrays. -/
def net (c : Dev nD) (k : Fin 64) (i : Fin 353280) (o : Fin 1024) : EReal :=
  expert (fun d => m ((c : Thread nD τ).loc main_arg1) (ix2 i d)) (fun d h => m ((c : Thread nD τ).loc main_arg2) (ix3 k d h))
    (fun d h => m ((c : Thread nD τ).loc main_arg3) (ix3 k d h)) (fun h o => m ((c : Thread nD τ).loc main_arg4) (ix3 k h o)) o

/-- The two input projections side by side, at a lane of the first. -/
theorem both_lo (x1 x2 : Vec Ideal S1x1024x256 .f32) (d : Fin 1024) (h : Fin 256) : both x1 x2 (ix2 d ⟨h.val, by omega⟩) = x1 (ix3 0 d h) := by
  refine Eq.trans ?_ (pay1_apply x1 d h)
  unfold both
  refine (dif_pos (show h.val < 256 from h.isLt)).trans ?_
  refine congrArg (k0_pay1 x1) (funext fun a => ?_)
  fin_cases a <;> rfl

/-- The same at a lane of the second. -/
theorem both_hi (x1 x2 : Vec Ideal S1x1024x256 .f32) (d : Fin 1024) (h : Fin 256) : both x1 x2 (ix2 d ⟨256 + h.val, by omega⟩) = x2 (ix3 0 d h) := by
  refine Eq.trans ?_ (pay2_apply x2 d h)
  unfold both
  refine (dif_neg (show ¬ (256 + h.val < 256) by omega)).trans ?_
  refine congrArg (k0_pay2 x2) (funext fun a => ?_)
  fin_cases a
  · rfl
  · exact Fin.ext (show 256 + h.val - 256 = h.val by omega)

/-- Equal rows and weights have equal networks. -/
theorem expert_congr {x x' : Fin 1024 → EReal} {wg wg' wu wu' : Fin 1024 → Fin 256 → EReal} {wd wd' : Fin 256 → Fin 1024 → EReal}
    (hx : ∀ d, x d = x' d) (hg : ∀ d h, wg d h = wg' d h) (hu : ∀ d h, wu d h = wu' d h) (hd : ∀ h o, wd h o = wd' h o) (o : Fin 1024) :
    expert x wg wu wd o = expert x' wg' wu' wd' o := by
  obtain rfl : x = x' := funext hx
  obtain rfl : wg = wg' := funext fun d => funext (hg d)
  obtain rfl : wu = wu' := funext fun d => funext (hu d)
  obtain rfl : wd = wd' := funext fun h => funext (hd h)
  rfl

/-- A tile's value at an index. -/
theorem tileVal_apply (hO : Ok m) (c : Dev nD) (t : Fin (cfgM m hO).N) (r o : Fin 1024) :
    tileVal m hO c t (ix2 r o) = net m c (ownerOf m t) (rowOf (tileOf m t) r) o := by
  unfold tileVal net
  refine (pay4_apply (iblk m hO c 0 t) _ _ r o).trans ?_
  exact expert_congr (fun d => x_read m hO c t r d) (fun d h => (both_lo (iblk m hO c 1 t) (iblk m hO c 2 t) d h).trans (g_read m hO c t d h))
    (fun d h => (both_hi (iblk m hO c 1 t) (iblk m hO c 2 t) d h).trans (u_read m hO c t d h))
    (fun h o => (pay3_apply (iblk m hO c 3 t) h o).trans (d_read m hO c t h o)) o

/-- The block a row lies in. -/
def blockOf (i : Fin 353280) : Fin 345 := ⟨i.val / 1024, by omega⟩

/-- A row in use lies in a block of its own number. -/
theorem valid_block (i : Fin 353280) (hi : (i.val : ℤ) < (ends m (ix1 63)).toInt) :
    sValid (ends m) (ix1 (tileAt (grid0.coords (ptOf (blockOf i))))) = 1#1 := by
  rw [sValid_iff, tileAt_val]
  show 1024 * ((i.val / 1024 : ℕ) : ℤ) < _
  omega

/-- Some point writes a used row's block back. -/
theorem covered (hO : Ok m) (hW : Whole m) (i : Fin 353280) (hi : (i.val : ℤ) < (ends m (ix1 63)).toInt) :
    ∃ t : Fin (cfgM m hO).N, ((cfgM m hO).win 4).flush t = true ∧ tileOf m t = blockOf i := by
  have hv := valid_block m i hi
  have ho := tile_own m _ hv
  obtain ⟨n, hn⟩ := hW 63
  have hN : (cfgM m hO).grid.N = 345 := N_0
  have hb : (blockOf i).val < 345 := (blockOf i).isLt
  have out : ((cfgM m hO).win 4).isOut = true := (rfl)
  have last : ∀ t : Fin (cfgM m hO).N, t.val + 1 = 345 → ((cfgM m hO).win 4).flush t = true := by
    intro t ht
    unfold Window.flush
    rw [Bool.and_eq_true, Bool.or_eq_true, decide_eq_true_eq, decide_eq_true_eq]
    exact ⟨out, .inl (ht.trans hN.symm)⟩
  by_cases hl : (blockOf i).val + 1 = 345
  · exact ⟨ptOf (blockOf i), last _ hl, Fin.ext ho⟩
  · have hlt : (blockOf i).val + 1 < grid0.N := by have : grid0.N = 345 := N_0; omega
    by_cases hp : sValid (ends m) (ix1 (tileAt (grid0.coords ⟨(blockOf i).val + 1, hlt⟩))) = 1#1
    · refine ⟨ptOf (blockOf i), ?_, Fin.ext ho⟩
      unfold Window.flush
      rw [Bool.and_eq_true, Bool.or_eq_true, decide_eq_true_eq, decide_eq_true_eq]
      refine ⟨out, .inr ⟨hlt, fun he => ?_⟩⟩
      rw [index4, index4] at he
      have h0 := congrFun he 0
      have h1 : (tileOf m ⟨(blockOf i).val + 1, hlt⟩).val = (tileOf m (ptOf (blockOf i))).val := h0
      have h2 := tile_own m _ hp
      rw [h1, ho] at h2
      have h3 : (blockOf i).val = (blockOf i).val + 1 := h2
      omega
    · have h344 : 344 < grid0.N := by have : grid0.N = 345 := N_0; omega
      refine ⟨⟨344, h344⟩, last _ rfl, Fin.ext ?_⟩
      rw [sValid_iff, tileAt_val] at hp hv
      have hq : ¬ sValid (ends m) (ix1 (tileAt (grid0.coords ⟨344, h344⟩))) = 1#1 := by
        rw [sValid_iff, tileAt_val]
        dsimp only at hp ⊢
        omega
      have h1 := sTile_not _ _ hq
      have hv' : 1024 * ((blockOf i).val : ℤ) < (ends m (ix1 63)).toInt := hv
      have hp' : ¬ 1024 * (((blockOf i).val + 1 : ℕ) : ℤ) < (ends m (ix1 63)).toInt := hp
      show (sTile (ends m) (ix1 (tileAt (grid0.coords ⟨344, h344⟩)))).toNat = (blockOf i).val
      omega

/-- An index of a block of 1024 rows, by its two coordinates. -/
theorem ix2_of (y : S1024x1024.Idx) : ∃ r s : Fin 1024, y = ix2 r s := ⟨y 0, y 1, eq_ix2 y⟩

/-- Where an index of a point's block of the result lies in the array. -/
theorem emb4_eq (hO : Ok m) (u : Fin (cfgM m hO).N) (r s : Fin 1024) :
    (((cfgM m hO).win 4).rect u).emb (ix2 r s : S1024x1024.Idx) = (ix2 (rowOf (tileOf m u) r) s : S353280x1024.Idx) := by
  refine funext fun a => Fin.ext ?_
  have hh := ((cfgM m hO).win 4).rect_emb_val u (ix2 r s : S1024x1024.Idx) a
  rw [index4] at hh
  refine hh.trans ?_
  fin_cases a
  · show (tileOf m u).val * 1024 + r.val = 1024 * (tileOf m u).val + r.val; omega
  · show 0 * 1024 + s.val = s.val; omega

/-- The coordinates of an element of the array that an index of a point's block lies at. -/
theorem emb4 (hO : Ok m) (u : Fin (cfgM m hO).N) (r s : Fin 1024) (i : Fin 353280) (o : Fin 1024)
    (h : (((cfgM m hO).win 4).rect u).emb (ix2 r s : S1024x1024.Idx) = (ix2 i o : S353280x1024.Idx)) :
    1024 * (tileOf m u).val + r.val = i.val ∧ s.val = o.val := by
  rw [emb4_eq] at h
  exact ⟨congrArg Fin.val (congrFun h 0), congrArg Fin.val (congrFun h 1)⟩

/-- Where some row is in use, the block a point writes holds rows in use. -/
theorem valid_tile (hW : Whole m) (hu : 0 < (ends m (ix1 63)).toInt) (u : Fin grid0.N) :
    sValid (ends m) (ix1 (tileAt (grid0.coords (ptOf (tileOf m u))))) = 1#1 := by
  by_cases hv : sValid (ends m) (ix1 (tileAt (grid0.coords u))) = 1#1
  · have hp : ptOf (tileOf m u) = u := Fin.ext (tile_own m u hv)
    rw [hp]; exact hv
  · obtain ⟨n, hn⟩ := hW 63
    have h1 := sTile_not _ _ hv
    rw [sValid_iff, tileAt_val]
    show 1024 * (((sTile (ends m) (ix1 (tileAt (grid0.coords u)))).toNat : ℕ) : ℤ) < _
    omega

/-- The result's element at a used row, whatever the points left in the staging buffers. -/
theorem array (hO : Ok m) (hW : Whole m) (c : Dev nD)
    (after : (w : Fin (cfgM m hO).W) → Fin (cfgM m hO).N → ((cfgM m hO).win w).block.Idx → Elt Ideal ((cfgM m hO).win w).elt)
    (hL : ∀ u, ((cfgM m hO).win 4).flush u = true → (rdat m hO c).Leaves 4 u (after 4 u))
    (i : Fin 353280) (o : Fin 1024) (hi : (i.val : ℤ) < (ends m (ix1 63)).toInt) :
    ((rdat m hO c).withAfter after).arrAt 4 (cfgM m hO).N (ix2 i o) = net m c (ownerOf m (ptOf (blockOf i))) i o := by
  have hu : 0 < (ends m (ix1 63)).toInt := by omega
  obtain ⟨t, hf, ht⟩ := covered m hO hW i hi
  have key := Dat.arrAt_forall_of_flushed (dat := (rdat m hO c).withAfter after) 4
    (fun y v => ∀ (i : Fin 353280) (o : Fin 1024), y = ix2 i o → v = net m c (ownerOf m (ptOf (blockOf i))) i o) ?_ (cfgM m hO).N t (ix2 i o) t.isLt hf ?_
  · exact key i o rfl
  · intro u hfu y i o hy
    have e : (after 4 u) y = net m c (ownerOf m (ptOf (blockOf i))) i o := by
      rw [leaves4 m hO hW hu c u.val u rfl _ (hL u hfu)]
      obtain ⟨r, s, rfl⟩ : ∃ r s : Fin 1024, y = ix2 r s := ix2_of y
      refine (tileVal_apply m hO c _ r s).trans ?_
      obtain ⟨h0, h1⟩ := emb4 m hO u r s i o hy
      have hb : blockOf i = tileOf m u := Fin.ext (by show i.val / 1024 = _; omega)
      have ht : tileOf m (ptOf (tileOf m u)) = tileOf m u := Fin.ext (tile_own m _ (valid_tile m hW hu u))
      have hr : rowOf (tileOf m u) r = i := Fin.ext h0
      have hs : s = o := Fin.ext h1
      rw [ht, hb, hr, hs]
    exact e
  · refine Finset.mem_map.mpr ⟨(ix2 ⟨i.val % 1024, Nat.mod_lt _ (by decide)⟩ o : S1024x1024.Idx), Finset.mem_univ _, ?_⟩
    have h := emb4_eq m hO t ⟨i.val % 1024, Nat.mod_lt _ (by decide)⟩ o
    refine h.trans ?_
    rw [ht]
    refine congrArg (ix2 · o) (Fin.ext ?_)
    show 1024 * (i.val / 1024) + i.val % 1024 = i.val
    omega

end Cert.FfnIdeal.Moe

end
-- ==== Proof.Ffn.Reference.lean ====
/-
  THE EXPERTS' REFERENCE, stage by stage: which expert owns a row, every expert's network on every row, and their sum under the
  one-hot gate, which is the owner's alone.
-/
module

public import proofs.«01_k».proof.Proof.Gen.Reference2Ideal.Run
public import proofs.«01_k».proof.Proof.Ffn.Spec
public import Idealize.ShloMosaic.Lib.Pointwise
public import Idealize.ShloMosaic.Lib.ValueIdx
public import Idealize.ShloMosaic.Lib.WordCmp
public import Idealize.ShloMosaic.Lib.IndicatorCount
public import Idealize.ShloMosaic.Lib.Claim

@[expose] public section

set_option maxRecDepth 16384

noncomputable section

namespace Cert.Reference2Ideal.Moe

open Cert.Reference2Ideal Cert.Reference2Ideal.Gen Cert.Ffn.Spec Idealize.ShloMosaic Idealize.ShloMosaic.TcCoe Idealize.SL.Sem
open scoped BigOperators

/-- Whether an expert's rows end at or before a row, as printed. -/
def ended (e : IVec S64 32) : IVec S353280x64 32 :=
  extui 32 (cmpi .sle (broadcastInDim S353280x64 ![0, 1] bcast_S1x64_S353280x64_0_1 (broadcastInDim S1x64 ![1] bcast_S64_S1x64_1 e))
    (broadcastInDim S353280x64 ![0, 1] bcast_S353280x1_S353280x64_0_1 (broadcastInDim S353280x1 ![0] bcast_S353280_S353280x1_0 (iotaInDim S353280 32 0))))
    natLt_1_32

/-- The owner of a row: how many experts' rows end at or before it, as printed. -/
def owner (e : IVec S64 32) : IVec S353280 32 :=
  Host.reduce IntOp.addi (ended e) (constantI S_ 32 0#32) reducesTo_S353280x64_S353280_d1 h_S_

/-- The one-hot gate of an array of owners, as printed. -/
def gate (o : IVec S353280 32) : FVec Ideal S64x353280x1024 .f32 :=
  broadcastInDim S64x353280x1024 ![0, 1, 2] bcast_S64x353280x1_S64x353280x1024_0_1_2
    (broadcastInDim S64x353280x1 ![0, 1] bcast_S64x353280_S64x353280x1_0_1
      (transpose S64x353280 [1, 0] (uitofp .f32 (cmpi .eq
        (broadcastInDim S353280x64 ![0, 1] bcast_S353280x1_S353280x64_0_1 (broadcastInDim S353280x1 ![0] bcast_S353280_S353280x1_0 o))
        (broadcastInDim S353280x64 ![0, 1] bcast_S1x64_S353280x64_0_1 (broadcastInDim S1x64 ![1] bcast_S64_S1x64_1 (iotaInDim S64 32 0)))))
        transposes_S353280x64_S64x353280_1_0))

/-- One input projection of every expert at every row, as printed. -/
def proj (w : FVec Ideal S64x1024x256 .f32) (x : FVec Ideal S353280x1024 .bf16) : FVec Ideal S64x353280x256 .f32 :=
  transpose S64x353280x256 [0, 2, 1]
    (Host.dotGeneral dot_S64x1024x256_S353280x1024_S64x256x353280_1_1_02_0_n_n none w (extf .f32 x bitsLt_bf16_f32))
    transposes_S64x256x353280_S64x353280x256_0_2_1

/-- An array times its logistic, as printed. -/
def gated (a : FVec Ideal S64x353280x256 .f32) : FVec Ideal S64x353280x256 .f32 :=
  mulf a (Host.divf (broadcastInDim S64x353280x256 ![] bcast_S_S64x353280x256 (constant S_ .f32 0x3F800000#32))
    (addf (broadcastInDim S64x353280x256 ![] bcast_S_S64x353280x256 (constant S_ .f32 0x3F800000#32)) (Host.exp (Host.negf a))))

/-- Every expert's network at every row, as printed. -/
def nets (x : FVec Ideal S353280x1024 .bf16) (wg wu : FVec Ideal S64x1024x256 .f32) (wd : FVec Ideal S64x256x1024 .f32) :
    FVec Ideal S64x353280x1024 .f32 :=
  Host.dotGeneral dot_S64x353280x256_S64x256x1024_S64x353280x1024_2_1_1_2_0_0 none (mulf (gated (proj wg x)) (proj wu x)) wd

/-- The sum over the experts under the gate, as printed. -/
def total (g n : FVec Ideal S64x353280x1024 .f32) : FVec Ideal S353280x1024 .bf16 :=
  truncf .bf16 (Host.reduceAdd (mulf g n) (constant S_ .f32 0x00000000#32) reducesTo_S64x353280x1024_S353280x1024_d0 h_S_) bitsLt_bf16_f32

/-- The reference's result as a function of its arguments. -/
def result (e : IVec S64 32) (x : FVec Ideal S353280x1024 .bf16) (wg wu : FVec Ideal S64x1024x256 .f32) (wd : FVec Ideal S64x256x1024 .f32) :
    FVec Ideal S353280x1024 .bf16 := total (gate (owner e)) (nets x wg wu wd)

/-- A projection at an index. -/
theorem proj_apply (w : FVec Ideal S64x1024x256 .f32) (x : FVec Ideal S353280x1024 .bf16) (k : Fin 64) (r : Fin 353280) (h : Fin 256) :
    proj w x (ix3 k r h) = ∑ d : Fin 1024, x (ix2 r d) * w (ix3 k d h) := by
  pointwise [proj]
  exact Finset.sum_congr rfl fun d _ => mul_comm _ _

/-- An array times its logistic at an index. -/
theorem gated_apply (a : FVec Ideal S64x353280x256 .f32) (k : Fin 64) (r : Fin 353280) (h : Fin 256) :
    gated a (ix3 k r h) = a (ix3 k r h) * Ideal.logistic (a (ix3 k r h)) := by
  pointwise [gated]
  rfl

/-- An expert's network at an index. -/
theorem nets_apply (x : FVec Ideal S353280x1024 .bf16) (wg wu : FVec Ideal S64x1024x256 .f32) (wd : FVec Ideal S64x256x1024 .f32)
    (k : Fin 64) (r : Fin 353280) (o : Fin 1024) :
    nets x wg wu wd (ix3 k r o)
      = expert (fun d => x (ix2 r d)) (fun d h => wg (ix3 k d h)) (fun d h => wu (ix3 k d h)) (fun h o => wd (ix3 k h o)) o := by
  pointwise [nets]
  unfold expert
  simp only [gated_apply, proj_apply]

/-- The gate at an index: one at the owner, zero elsewhere. -/
theorem gate_apply (w : IVec S353280 32) (k : Fin 64) (r : Fin 353280) (o : Fin 1024) :
    gate w (ix3 k r o) = if (w (ix1 r)).toNat = k.val then 1 else 0 := by
  pointwise [gate]
  show (((IntOp.cmpi CmpIPredicate.eq (w (ix1 r)) (BitVec.ofNat 32 k.val)).toNat : ℝ) : EReal) = _
  have hn : (BitVec.ofNat 32 k.val).toNat = k.val := WordCmp.toNat_ofNat_of_lt (by have := k.isLt; omega)
  by_cases h : (w (ix1 r)).toNat = k.val
  · have hw : w (ix1 r) = BitVec.ofNat 32 k.val := BitVec.eq_of_toNat_eq (h.trans hn.symm)
    rw [if_pos h, hw, WordCmp.cmpi_eq_eq, decide_eq_true rfl]
    simp
  · have hw : w (ix1 r) ≠ BitVec.ofNat 32 k.val := fun e => h ((congrArg BitVec.toNat e).trans hn)
    rw [if_neg h, WordCmp.cmpi_eq_eq, decide_eq_false hw]
    simp

/-- The gated sum at an index. -/
theorem total_apply (g n : FVec Ideal S64x353280x1024 .f32) (r : Fin 353280) (o : Fin 1024) :
    total g n (ix2 r o) = ∑ k : Fin 64, g (ix3 k r o) * n (ix3 k r o) := by
  pointwise [total]

/-- The shape of the printed count. -/
theorem reduces_exp : S353280x64.Reduces [(1 : Fin 2)] S353280 := by decide

/-- The owner of a row. -/
theorem owner_apply (e : IVec S64 32) (r : Fin 353280) :
    (owner e (ix1 r)).toNat = (Finset.univ.filter fun k : Fin 64 => (e (ix1 k)).toInt ≤ (r.val : ℤ)).card := by
  have hc : (Finset.univ.filter fun k : Fin 64 => (e (ix1 k)).toInt ≤ (r.val : ℤ)).card ≤ 64 := (Finset.card_filter_le _ _).trans (by simp)
  have hf : owner e (ix1 r) = BitVec.ofNat 32 (Finset.univ.filter fun k : Fin 64 => (e (ix1 k)).toInt ≤ (r.val : ℤ)).card := by
    unfold owner
    rw [Host.reduce_eq_fold_single IntOp.addi (h := reduces_exp)]
    have hx : (ended e ∘ reduces_exp.lift (ix1 r))
        = fun k : Fin 64 => (IntOp.cmpi CmpIPredicate.sle (e (ix1 k)) (BitVec.ofNat 32 r.val)).setWidth 32 := by
      funext k
      have hl : reduces_exp.lift (ix1 r) k = ix2 r k := by
        funext a; fin_cases a <;> rfl
      rw [Function.comp, hl]
      pointwise [ended]
    rw [hx]
    refine (IndicatorCount.fold_addi_setWidth_eq_card (w := 32)
      (fun k : Fin 64 => IntOp.cmpi CmpIPredicate.sle (e (ix1 k)) (BitVec.ofNat 32 r.val)) Finset.univ).trans ?_
    refine congrArg (BitVec.ofNat 32) (congrArg Finset.card (Finset.filter_congr fun k _ => ?_))
    rw [WordCmp.cmpi_sle_eq, WordCmp.ofBool_decide_eq_one_iff, WordCmp.toInt_ofNat_of_lt (by have := r.isLt; omega)]
  rw [hf, WordCmp.toNat_ofNat_of_lt (by omega)]

/-- Where a row has an owner, the reference's result at the row is the owner's network. -/
theorem result_apply (e : IVec S64 32) (x : FVec Ideal S353280x1024 .bf16) (wg wu : FVec Ideal S64x1024x256 .f32) (wd : FVec Ideal S64x256x1024 .f32)
    (r : Fin 353280) (o : Fin 1024) (k : Fin 64)
    (hk : (Finset.univ.filter fun k : Fin 64 => (e (ix1 k)).toInt ≤ (r.val : ℤ)).card = k.val) :
    result e x wg wu wd (ix2 r o)
      = expert (fun d => x (ix2 r d)) (fun d h => wg (ix3 k d h)) (fun d h => wu (ix3 k d h)) (fun h o => wd (ix3 k h o)) o := by
  unfold result
  rw [total_apply, Finset.sum_eq_single k]
  · rw [gate_apply, owner_apply, if_pos hk, one_mul, nets_apply]
  · intro j _ hj
    rw [gate_apply, owner_apply, if_neg (fun h => hj (Fin.ext (h.symm.trans hk))), zero_mul]
  · exact fun h => absurd (Finset.mem_univ _) h

/-- Every run of the reference ends with that result and its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Cert.Reference2Ideal.Moe

end
-- ==== Proof.Ffn.Equal.lean ====
/-
  THE EXPERTS' CALL AND ITS REFERENCE AGREE ON EVERY ROW IN USE: what the precondition and the mask say, that both owners of a row
  are one, and the claim.
-/
module

public import proofs.«01_k».proof.Defs
public import proofs.«01_k».proof.Proof.Gen.Ffn
public import proofs.«01_k».proof.Proof.Gen.FfnIdeal
public import proofs.«01_k».proof.Proof.Gen.Reference2Ideal
public import proofs.«01_k».proof.Proof.Gen.Pre_padded
public import proofs.«01_k».proof.Proof.Gen.On_used_rows
public import proofs.«01_k».proof.Proof.Ffn.Final
public import proofs.«01_k».proof.Proof.Ffn.Reference
public import Idealize.ShloMosaic.Lib.ReduceAll

@[expose] public section

set_option maxRecDepth 16384

noncomputable section

namespace Cert.Ffn

open Idealize.ShloMosaic Idealize.ShloMosaic.TcCoe Idealize.SL.Sem
open Cert.FfnIdeal.Moe
open scoped BigOperators

/-- A word whose low ten bits are zero is a multiple of 1024. -/
theorem multiple_of_and (x : BitVec 32) (h : x &&& 1023#32 = 0#32) : ∃ n : ℤ, x.toInt = 1024 * n := by
  have h1 : x.toNat &&& 1023 = 0 := by
    have := congrArg BitVec.toNat h
    rwa [BitVec.toNat_and] at this
  have h2 : x.toNat % 1024 = 0 := (Nat.and_two_pow_sub_one_eq_mod x.toNat 10).symm.trans h1
  refine ⟨x.toInt / 1024, ?_⟩
  have h3 := BitVec.toInt_eq_toNat_cond x
  split at h3 <;> omega

/-- Where the precondition is true, every expert's rows end at a multiple of 1024. -/
theorem whole_of_padded (m : (ℓ : Loc Cert.FfnIdeal.nD Cert.FfnIdeal.τ Cert.FfnIdeal.sig) → Buf (Elt Ideal) ℓ) (h : Cert.Pre_FfnIdeal_padded m) :
    Whole m := by
  intro k
  have e := congrFun (h 0) Idealize.ShloMosaic.ix0
  unfold Cert.Pre_padded.fn at e
  have e1 := Host.reduce_andi_all _ _ _ _ _ e (ix1 k)
  have e2 : IntOp.cmpi CmpIPredicate.eq (ends m (ix1 k) &&& 1023#32) 0#32 = 1#1 := e1
  rw [WordCmp.cmpi_eq_eq, WordCmp.ofBool_decide_eq_one_iff] at e2
  exact multiple_of_and _ e2

/-- Where the mask is one, the row is in use. -/
theorem used_of_mask (a0 : IVec Cert.On_used_rows.S64 32) (a1 : FVec Ideal Cert.On_used_rows.S353280x1024 .bf16)
    (a2 a3 : FVec Ideal Cert.On_used_rows.S64x1024x256 .f32) (a4 : FVec Ideal Cert.On_used_rows.S64x256x1024 .f32)
    (i : Fin 353280) (o : Fin 1024) (h : Cert.On_used_rows.fn a0 a1 a2 a3 a4 (ix2 i o) = 1#1) : (i.val : ℤ) < (a0 (ix1 63)).toInt := by
  have e : Cert.On_used_rows.fn a0 a1 a2 a3 a4 (ix2 i o) = IntOp.cmpi CmpIPredicate.slt (BitVec.ofNat 32 i.val) (a0 (ix1 63)) := by
    pointwise [Cert.On_used_rows.fn]
  rw [e, WordCmp.cmpi_slt_eq, WordCmp.ofBool_decide_eq_one_iff, WordCmp.toInt_ofNat_of_lt (by have := i.isLt; omega)] at h
  exact h

/-- The table's expert for a used row's block is the number of experts whose rows end at or before the row. -/
theorem owner_eq (m : (ℓ : Loc Cert.FfnIdeal.nD Cert.FfnIdeal.τ Cert.FfnIdeal.sig) → Buf (Elt Ideal) ℓ) (hW : Whole m) (i : Fin 353280)
    (hi : (i.val : ℤ) < (ends m (ix1 63)).toInt) :
    (Finset.univ.filter fun k : Fin 64 => (ends m (ix1 k)).toInt ≤ (i.val : ℤ)).card = (ownerOf m (ptOf (blockOf i))).val := by
  have ht := tile_own m _ (valid_block m i hi)
  have ho : (ownerOf m (ptOf (blockOf i))).val = min (below (ends m) (1024 * ((tileOf m (ptOf (blockOf i))).val : ℤ))) 63 := by
    unfold ownerOf tileOf
    dsimp only
    rw [sOwner_toNat]
  have hb : (Finset.univ.filter fun k : Fin 64 => (ends m (ix1 k)).toInt ≤ (i.val : ℤ)).card
      = below (ends m) (1024 * ((tileOf m (ptOf (blockOf i))).val : ℤ)) := by
    unfold below
    refine congrArg Finset.card (Finset.filter_congr fun k _ => ?_)
    obtain ⟨n, hn⟩ := hW k
    rw [hn, ht]
    show _ ↔ 1024 * n ≤ 1024 * ((i.val / 1024 : ℕ) : ℤ)
    omega
  have hlt : (Finset.univ.filter fun k : Fin 64 => (ends m (ix1 k)).toInt ≤ (i.val : ℤ)).card < 64 := by
    have := Finset.card_lt_card (s := Finset.univ.filter fun k : Fin 64 => (ends m (ix1 k)).toInt ≤ (i.val : ℤ)) (t := Finset.univ)
      ((Finset.ssubset_univ_iff).mpr fun h => by
        have h63 : (63 : Fin 64) ∈ (Finset.univ.filter fun k : Fin 64 => (ends m (ix1 k)).toInt ≤ (i.val : ℤ)) := Finset.eq_univ_iff_forall.mp h 63
        have := (Finset.mem_filter.mp h63).2
        omega)
    simpa using this
  omega

/-- Equal arguments have equal results. -/
theorem result_congr {e e' : IVec Cert.Reference2Ideal.S64 32} {x x' : FVec Ideal Cert.Reference2Ideal.S353280x1024 .bf16}
    {wg wg' wu wu' : FVec Ideal Cert.Reference2Ideal.S64x1024x256 .f32} {wd wd' : FVec Ideal Cert.Reference2Ideal.S64x256x1024 .f32}
    (h0 : e = e') (h1 : x = x') (h2 : wg = wg') (h3 : wu = wu') (h4 : wd = wd') :
    Cert.Reference2Ideal.Moe.result e x wg wu wd = Cert.Reference2Ideal.Moe.result e' x' wg' wu' wd' := by
  subst h0 h1 h2 h3 h4; rfl

/-- At the ideal reading, where every expert's rows end at a multiple of 1024, the call's result is the reference's on every row in use. -/
theorem algebraic : algebraic_FfnIdeal_Reference2Ideal_on_used_rows_pre_padded := by
  intro m g m' g' hpre hargs
  have hW := whole_of_padded m hpre
  refine ⟨fun c => Cert.Reference2Ideal.Moe.result (m' ((c.tc : Thread _ _).loc Cert.Reference2Ideal.main_arg0))
    (m' ((c.tc : Thread _ _).loc Cert.Reference2Ideal.main_arg1)) (m' ((c.tc : Thread _ _).loc Cert.Reference2Ideal.main_arg2))
    (m' ((c.tc : Thread _ _).loc Cert.Reference2Ideal.main_arg3)) (m' ((c.tc : Thread _ _).loc Cert.Reference2Ideal.main_arg4)), ?_, ?_⟩
  · refine (θ_run Cert.FfnIdeal.defs _ _).mono (fun r h c => ?_) (Cert.FfnIdeal.Moe.run m g (ok m) (steps m _))
    refine ⟨fun y hy => ?_, args_kept m _ r h.1 c⟩
    obtain ⟨i, o, rfl⟩ : ∃ (i : Fin 353280) (o : Fin 1024), y = ix2 i o := ⟨y 0, y 1, eq_ix2 y⟩
    obtain rfl : c = 0 := Subsingleton.elim _ _
    have hi := used_of_mask _ _ _ _ _ i o hy
    obtain ⟨e0, e1, e2, e3, e4⟩ := hargs 0
    obtain ⟨after, hL, hA⟩ := h.1.exists_exact 0
    refine (congrFun (hA 4) (ix2 i o)).trans ((array m (ok m) hW 0 after (hL 4) i o hi).trans ?_)
    exact (Cert.Reference2Ideal.Moe.result_apply _ _ _ _ _ i o _ (owner_eq m hW i hi)).symm.trans (congrFun (result_congr e0 e1 e2 e3 e4).symm (ix2 i o))
  · exact (θ_run Cert.Reference2Ideal.defs _ _).mono (fun r h c => ⟨fun y _ => congrFun (h c).1 y, (h c).2⟩) (Cert.Reference2Ideal.Moe.run m' g')

end Cert.Ffn

end
-- ==== Proof.Prompt.Spec.lean ====
/-
  THE INPUT PROJECTION OF A ROW, in the extended reals: the six modulation vectors of a conditioning vector, the modulated norm of a
  row, and the row's product with the input weights.
-/
module

public import Idealize.ShloMosaic.Lib.Pointwise

@[expose] public section

noncomputable section

namespace Cert.InProj.Spec

open Idealize.ShloMosaic
open scoped BigOperators

/-- An entry of the modulation: the conditioning vector times its logistic, through the modulation's weights and bias. -/
def ada (a : Fin 1024 → EReal) (w : Fin 1024 → Fin 6144 → EReal) (b : Fin 6144 → EReal) (j : Fin 6144) : EReal :=
  (∑ d, (a d * Ideal.logistic (a d)) * w d j) + b j

/-- An element of a row's modulated norm: the row over the root of its mean square, times the norm's weight, scaled and shifted by the
modulation's second and first vectors. -/
def normed (x n : Fin 1024 → EReal) (s : Fin 6144 → EReal) (d : Fin 1024) : EReal :=
  x d * Ideal.rsqrt (Ideal.div (∑ e, x e * x e) (Ideal.ofBits FTy.f32 0x44800000#32) + Ideal.ofBits FTy.f32 0x358637BD#32) * n d
    * (1 + s ⟨1024 + d.val, by omega⟩) + s ⟨d.val, by omega⟩

/-- An element of a row's projection. -/
def proj (x n : Fin 1024 → EReal) (s : Fin 6144 → EReal) (w : Fin 1024 → Fin 2048 → EReal) (o : Fin 2048) : EReal :=
  ∑ d, normed x n s d * w d o

/-- Equal conditioning, weights and bias give equal modulations. -/
theorem ada_congr {a a' : Fin 1024 → EReal} {w w' : Fin 1024 → Fin 6144 → EReal} {b b' : Fin 6144 → EReal}
    (ha : ∀ d, a d = a' d) (hw : ∀ d j, w d j = w' d j) (hb : ∀ j, b j = b' j) (j : Fin 6144) : ada a w b j = ada a' w' b' j := by
  obtain rfl : a = a' := funext ha
  obtain rfl : w = w' := funext fun d => funext (hw d)
  obtain rfl : b = b' := funext hb
  rfl

/-- Equal rows, norm weights, modulations and input weights give equal projections. -/
theorem proj_congr {x x' n n' : Fin 1024 → EReal} {s s' : Fin 6144 → EReal} {w w' : Fin 1024 → Fin 2048 → EReal}
    (hx : ∀ d, x d = x' d) (hn : ∀ d, n d = n' d) (hs : ∀ j, s j = s' j) (hw : ∀ d o, w d o = w' d o) (o : Fin 2048) :
    proj x n s w o = proj x' n' s' w' o := by
  obtain rfl : x = x' := funext hx
  obtain rfl : n = n' := funext hn
  obtain rfl : s = s' := funext hs
  obtain rfl : w = w' := funext fun d => funext (hw d)
  rfl

end Cert.InProj.Spec

end
-- ==== Proof.Prompt.Value.lean ====
/-
  WHAT ONE GRID POINT OF EACH KERNEL STORES, at an index: the modulation's block of columns, and the four quarters of the projection of a
  block of rows.
-/
module

public import proofs.«01_k».proof.Proof.Gen.PromptIdeal.Frame
public import proofs.«01_k».proof.Proof.Prompt.Spec
public import Idealize.ShloMosaic.Lib.Pipeline.ValueKit
public import Idealize.ShloMosaic.Lib.Pointwise

@[expose] public section

set_option maxRecDepth 16384

noncomputable section

namespace Cert.PromptIdeal.InProj

open Cert.PromptIdeal Cert.PromptIdeal.Gen Cert.InProj.Spec Idealize.ShloMosaic Idealize.ShloMosaic.TcCoe Idealize.SL.Sem
open scoped BigOperators

/-- The modulation kernel's stored block at an index. -/
theorem ada_block (c : Vec Ideal S8x1024 .f32) (w : Vec Ideal S1024x1536 .f32) (b : Vec Ideal S1x1536 .f32) (r : Fin 8) (j : Fin 1536) :
    out0_3 c w b (ix2 r j) = (∑ d : Fin 1024, (c (ix2 r d) * Ideal.logistic (c (ix2 r d))) * w (ix2 d j)) + b (ix2 0 j) := by
  have e : out0_3 c w b = k0_pay1 c w b := by
    unfold out0_3
    frame_out
  rw [e]
  pointwise [k0_pay1]

section
variable (x : Vec Ideal S1024x1024 .f32) (s : Vec Ideal S1x1x6144 .f32) (n : Vec Ideal S1x1024 .f32) (w : Vec Ideal S1024x2048 .bf16)

/-- The projection of a block of rows at an index. -/
theorem proj_apply (r : Fin 1024) (o : Fin 2048) :
    k1_pay1 x n s w (ix2 r o) = proj (fun d => x (ix2 r d)) (fun d => n (ix2 0 d)) (fun j => s (ix3 0 0 j)) (fun d o => w (ix2 d o)) o := by
  pointwise [k1_pay1]
  rfl

/-- The first quarter's stored block at an index. -/
theorem u_block (r : Fin 1024) (o : Fin 512) :
    out1_4 x s n w (ix2 r o) = proj (fun d => x (ix2 r d)) (fun d => n (ix2 0 d)) (fun j => s (ix3 0 0 j)) (fun d o => w (ix2 d o)) ⟨o.val, by omega⟩ := by
  have e : out1_4 x s n w = k1_pay2 x n s w := by
    unfold out1_4
    frame_out
  rw [e]
  pointwise [k1_pay2]
  rw [proj_apply]

/-- The second quarter's, scaled. -/
theorem q_block (r : Fin 1024) (o : Fin 512) :
    out1_5 x s n w (ix2 r o) = proj (fun d => x (ix2 r d)) (fun d => n (ix2 0 d)) (fun j => s (ix3 0 0 j)) (fun d o => w (ix2 d o)) ⟨512 + o.val, by omega⟩ * Ideal.ofBits FTy.f32 0x3E000000#32 := by
  have e : out1_5 x s n w = k1_pay5 x n s w := by
    unfold out1_5
    frame_out
  rw [e]
  pointwise [k1_pay5]
  rw [proj_apply]

/-- The third quarter's. -/
theorem k_block (r : Fin 1024) (o : Fin 512) :
    out1_6 x s n w (ix2 r o) = proj (fun d => x (ix2 r d)) (fun d => n (ix2 0 d)) (fun j => s (ix3 0 0 j)) (fun d o => w (ix2 d o)) ⟨1024 + o.val, by omega⟩ := by
  have e : out1_6 x s n w = k1_pay3 x n s w := by
    unfold out1_6
    frame_out
  rw [e]
  pointwise [k1_pay3]
  rw [proj_apply]

/-- The fourth quarter's. -/
theorem v_block (r : Fin 1024) (o : Fin 512) :
    out1_7 x s n w (ix2 r o) = proj (fun d => x (ix2 r d)) (fun d => n (ix2 0 d)) (fun j => s (ix3 0 0 j)) (fun d o => w (ix2 d o)) ⟨1536 + o.val, by omega⟩ := by
  have e : out1_7 x s n w = k1_pay4 x n s w := by
    unfold out1_7
    frame_out
  rw [e]
  pointwise [k1_pay4]
  rw [proj_apply]

end

end Cert.PromptIdeal.InProj

end
-- ==== Proof.Prompt.Array.lean ====
/-
  THE KERNELS' RESULT ARRAYS: every element of the modulation's, and of the projection's four, from the arrays the two kernels read.
-/
module

public import proofs.«01_k».proof.Proof.Prompt.Value

@[expose] public section

set_option maxRecDepth 16384

noncomputable section

namespace Cert.PromptIdeal.InProj

open Cert.PromptIdeal Cert.PromptIdeal.Gen Cert.InProj.Spec Idealize.ShloMosaic Idealize.ShloMosaic.TcCoe Idealize.SL.Sem
open scoped BigOperators

variable (V : (c : Dev nD) → (b : Ref sig .tc) → Buf (Elt Ideal) ((c : Thread nD τ).loc b)) (c : Dev nD)

/-- The block indices of the modulation kernel's windows at a grid point. -/
theorem idx0 : ∀ t : Fin cfg0.N,
    win0_0.index t = ![0, 0] ∧ win0_1.index t = ![0, (grid0.coords t 0).val] ∧ win0_2.index t = ![0, (grid0.coords t 0).val]
    ∧ win0_3.index t = ![0, (grid0.coords t 0).val] :=
  (by decide +kernel : ∀ t : Fin grid0.N, _)

/-- The block indices of the projection kernel's windows at a grid point. -/
theorem idx1 : ∀ t : Fin cfg1.N,
    win1_0.index t = ![(grid1.coords t 0).val, 0] ∧ win1_1.index t = ![0, 0, 0] ∧ win1_2.index t = ![0, 0] ∧ win1_3.index t = ![0, 0]
    ∧ win1_4.index t = ![(grid1.coords t 0).val, 0] ∧ win1_5.index t = ![(grid1.coords t 0).val, 0]
    ∧ win1_6.index t = ![(grid1.coords t 0).val, 0] ∧ win1_7.index t = ![(grid1.coords t 0).val, 0] :=
  (by decide +kernel : ∀ t : Fin grid1.N, _)

/-- Column `j` of a modulation point's block, as a column of the array. -/
def col (t : Fin cfg0.N) (j : Fin 1536) : Fin 6144 := ⟨1536 * (grid0.coords t 0).val + j.val, by
  have : (grid0.coords t 0).val < 4 := (grid0.coords t 0).isLt
  omega⟩

/-- Row `r` of a projection point's block, as a row of the array. -/
def row (t : Fin cfg1.N) (r : Fin 1024) : Fin 8192 := ⟨1024 * (grid1.coords t 0).val + r.val, by
  have : (grid1.coords t 0).val < 8 := (grid1.coords t 0).isLt
  omega⟩

/-- The conditioning rows' block. -/
theorem blk0_0 (t : Fin cfg0.N) (r : Fin 8) (d : Fin 1024) : iblk0 V c 0 t (ix2 r d) = V c main_v4 (ix2 r d) := by
  blk_ext! [iblk0, idx0 t]
/-- The block of the modulation's weights. -/
theorem blk0_1 (t : Fin cfg0.N) (d : Fin 1024) (j : Fin 1536) : iblk0 V c 1 t (ix2 d j) = V c main_v5 (ix2 d (col t j)) := by
  blk_ext! [iblk0, idx0 t, col]
/-- The block of the modulation's bias. -/
theorem blk0_2 (t : Fin cfg0.N) (j : Fin 1536) : iblk0 V c 2 t (ix2 0 j) = V c main_v7 (ix2 0 (col t j)) := by
  blk_ext! [iblk0, idx0 t, col]
/-- The block of prompt rows. -/
theorem blk1_0 (t : Fin cfg1.N) (r d : Fin 1024) : iblk1 V c 0 t (ix2 r d) = V c main_v13 (ix2 (row t r) d) := by
  blk_ext! [iblk1, idx1 t, row]
/-- The modulation's block. -/
theorem blk1_1 (t : Fin cfg1.N) (j : Fin 6144) : iblk1 V c 1 t (ix3 0 0 j) = V c main_v10 (ix3 0 0 j) := by
  blk_ext! [iblk1, idx1 t]
/-- The block of the norm's weight. -/
theorem blk1_2 (t : Fin cfg1.N) (d : Fin 1024) : iblk1 V c 2 t (ix2 0 d) = V c main_v15 (ix2 0 d) := by
  blk_ext! [iblk1, idx1 t]
/-- The block of the input weights. -/
theorem blk1_3 (t : Fin cfg1.N) (d : Fin 1024) (o : Fin 2048) : iblk1 V c 3 t (ix2 d o) = V c main_v12 (ix2 d o) := by
  blk_ext! [iblk1, idx1 t]

/-- The modulation's array. -/
def adaArr : Vec Ideal S8x6144 .f32 := fun y =>
  ada (fun d => V c main_v4 (ix2 (y 0) d)) (fun d j => V c main_v5 (ix2 d j)) (fun j => V c main_v7 (ix2 0 j)) (y 1)

/-- A row of the projection, from the arrays the kernel reads. -/
def projRow (i : Fin 8192) (o : Fin 2048) : EReal :=
  proj (fun d => V c main_v13 (ix2 i d)) (fun d => V c main_v15 (ix2 0 d)) (fun j => V c main_v10 (ix3 0 0 j)) (fun d o => V c main_v12 (ix2 d o)) o

/-- The array the modulation kernel leaves. -/
theorem ada_array : (dat0 V c).arrAt 3 cfg0.N = adaArr V c := by
  refine (dat0 V c).arrAt_eq_of_covers 3 _ (by decide +kernel) fun t hf y => ?_
  blk_simp
  rw [after0_3]
  obtain ⟨r, j, rfl⟩ : ∃ (r : Fin 8) (j : Fin 1536), y = ix2 r j := ⟨y 0, y 1, eq_ix2 y⟩
  rw [ada_block]
  have hy : (win0_3.blk t).view.emb (ix2 r j) = ix2 r (col t j) := by
    blk_ext! [idx0 t, col]
  rw [hy]
  simp only [blk0_0, blk0_1, blk0_2]
  rfl

/-- Column `o` of the quarter that starts at column `k`. -/
def shiftCol (k : ℕ) (h : k + 512 ≤ 2048) (o : Fin 512) : Fin 2048 := ⟨k + o.val, by omega⟩

/-- The array of the projection's columns from the first. -/
def uArr : Vec Ideal S8192x512 .f32 := fun y => projRow V c (y 0) (Fin.castLE (n := 512) (by decide) (y 1))
/-- The array of its columns from 512 on, scaled. -/
def qArr : Vec Ideal S8192x512 .bf16 := fun y => projRow V c (y 0) (shiftCol 512 (by decide) (y 1)) * Ideal.ofBits FTy.f32 0x3E000000#32
/-- The array of its columns from 1024 on. -/
def kArr : Vec Ideal S8192x512 .f32 := fun y => projRow V c (y 0) (shiftCol 1024 (by decide) (y 1))
/-- The array of its columns from 1536 on. -/
def vArr : Vec Ideal S8192x512 .f32 := fun y => projRow V c (y 0) (shiftCol 1536 (by decide) (y 1))

/-- The first array the projection kernel leaves. -/
theorem u_array : (dat1 V c).arrAt 4 cfg1.N = uArr V c := by
  refine (dat1 V c).arrAt_eq_of_covers 4 _ (by decide +kernel) fun t hf y => ?_
  blk_simp
  rw [after1_4]
  obtain ⟨r, o, rfl⟩ : ∃ (r : Fin 1024) (o : Fin 512), y = ix2 r o := ⟨y 0, y 1, eq_ix2 y⟩
  rw [u_block]
  have hy : (win1_4.blk t).view.emb (ix2 r o) = ix2 (row t r) o := by
    blk_ext! [idx1 t, row]
  rw [hy]
  simp only [blk1_0, blk1_1, blk1_2, blk1_3]
  rfl

/-- The second. -/
theorem q_array : (dat1 V c).arrAt 5 cfg1.N = qArr V c := by
  refine (dat1 V c).arrAt_eq_of_covers 5 _ (by decide +kernel) fun t hf y => ?_
  blk_simp
  rw [after1_5]
  obtain ⟨r, o, rfl⟩ : ∃ (r : Fin 1024) (o : Fin 512), y = ix2 r o := ⟨y 0, y 1, eq_ix2 y⟩
  rw [q_block]
  have hy : (win1_5.blk t).view.emb (ix2 r o) = ix2 (row t r) o := by
    blk_ext! [idx1 t, row]
  rw [hy]
  simp only [blk1_0, blk1_1, blk1_2, blk1_3]
  rfl

/-- The third. -/
theorem k_array : (dat1 V c).arrAt 6 cfg1.N = kArr V c := by
  refine (dat1 V c).arrAt_eq_of_covers 6 _ (by decide +kernel) fun t hf y => ?_
  blk_simp
  rw [after1_6]
  obtain ⟨r, o, rfl⟩ : ∃ (r : Fin 1024) (o : Fin 512), y = ix2 r o := ⟨y 0, y 1, eq_ix2 y⟩
  rw [k_block]
  have hy : (win1_6.blk t).view.emb (ix2 r o) = ix2 (row t r) o := by
    blk_ext! [idx1 t, row]
  rw [hy]
  simp only [blk1_0, blk1_1, blk1_2, blk1_3]
  rfl

/-- The fourth. -/
theorem v_array : (dat1 V c).arrAt 7 cfg1.N = vArr V c := by
  refine (dat1 V c).arrAt_eq_of_covers 7 _ (by decide +kernel) fun t hf y => ?_
  blk_simp
  rw [after1_7]
  obtain ⟨r, o, rfl⟩ : ∃ (r : Fin 1024) (o : Fin 512), y = ix2 r o := ⟨y 0, y 1, eq_ix2 y⟩
  rw [v_block]
  have hy : (win1_7.blk t).view.emb (ix2 r o) = ix2 (row t r) o := by
    blk_ext! [idx1 t, row]
  rw [hy]
  simp only [blk1_0, blk1_1, blk1_2, blk1_3]
  rfl

end Cert.PromptIdeal.InProj

end
-- ==== Proof.Prompt.Host.lean ====
/-
  THE HOST LINES: what the two kernels read, from the arguments, and what the results hold, from the arrays the projection kernel leaves.
-/
module

public import proofs.«01_k».proof.Proof.Gen.PromptIdeal.Frame
public import proofs.«01_k».proof.Proof.Prompt.Spec
public import Idealize.ShloMosaic.Lib.Pipeline.ValueKit
public import Idealize.ShloMosaic.Lib.Pointwise
public import Idealize.ShloMosaic.Lib.ValueIdx
public import Idealize.ShloMosaic.Lib.Claim
public import Idealize.ShloMosaic.Lib.Routing.OpsSet
public import Idealize.ShloMosaic.Lib.Routing.OpsPair

@[expose] public section

set_option maxRecDepth 16384

noncomputable section

namespace Cert.PromptIdeal.InProj

open Cert.PromptIdeal Cert.PromptIdeal.Gen Cert.InProj.Spec Idealize.ShloMosaic Idealize.ShloMosaic.TcCoe Idealize.SL.Sem
open scoped BigOperators

variable (m : (ℓ : Loc nD τ sig) → Buf (Elt Ideal) ℓ) (ρ : Dev nD → PrngReg) (c : Dev nD)

/-- Where an element of a row written at row 4 lands. -/
theorem lands (idx : IVec S1 32) (hidx : (idx (ix1 0)).toInt = 4) (k e : Fin 1024) (r : Fin 8) :
    scatter_S8x1024_S1_S1024_0_0_0_0.resultIdx? (ix1 k) idx = some (ix2 r e) ↔ r.val = 4 ∧ k = e := by
  refine (Routing.resultIdx?_ix2 scatter_S8x1024_S1_S1024_0_0_0_0 (ix1 k) idx r e).trans ?_
  have hs0 : scatter_S8x1024_S1_S1024_0_0_0_0.start (ix1 k) idx 0 = 4 := by
    rw [← hidx]
    unfold ScatterDims.start
    rw [dif_pos (by decide)]
    have hi : ∀ q, scatter_S8x1024_S1_S1024_0_0_0_0.siIdx (ix1 k) q = ix1 (0 : Fin 1) := fun q => by
      funext b
      match b with
      | ⟨0, _⟩ => exact Subsingleton.elim (α := Fin 1) _ _
    rw [hi]
  have hs1 : scatter_S8x1024_S1_S1024_0_0_0_0.start (ix1 k) idx 1 = 0 := by
    unfold ScatterDims.start
    rw [dif_neg (by decide)]
  have hw0 : scatter_S8x1024_S1_S1024_0_0_0_0.window (ix1 k) 0 = 0 := by
    unfold ScatterDims.window
    rw [dif_neg (by decide)]
  have hw1 : scatter_S8x1024_S1_S1024_0_0_0_0.window (ix1 k) 1 = k.val := by
    unfold ScatterDims.window
    rw [dif_pos (by decide)]
    rfl
  rw [hs0, hs1, hw0, hw1, Fin.ext_iff]
  omega

/-- Row 4 of the conditioning rows is the context's. -/
theorem cond_read (d : Fin 1024) : V1 m ρ c main_v4 (ix2 4 d) = m ((c : Thread nD τ).loc main_arg2) (ix1 d) := by
  show StableHlo.after hostOps0 (W0 m ρ c) (Proc.devRef .tc main_v4) (ix2 4 d) = _
  entry_read
  refine Routing.scatter_set_hit _ _ _ _ _ _ ?_ (ix1 d) ?_
  · intro k hk
    have hk' : k = ix1 (k 0) := eq_ix1 k
    rw [hk'] at hk ⊢
    rw [((lands _ (by rfl) _ _ _).1 hk).2]
    rfl
  · exact (lands _ (by rfl) _ _ _).2 ⟨rfl, rfl⟩

/-- The modulation's weights, from the argument. -/
theorem adaw_read (d : Fin 1024) (j : Fin 6144) : V1 m ρ c main_v5 (ix2 d j) = m ((c : Thread nD τ).loc main_arg3) (ix3 0 d j) := by
  show StableHlo.after hostOps0 (W0 m ρ c) (Proc.devRef .tc main_v5) (ix2 d j) = _
  entry_read
  pointwise

/-- The modulation's bias, from the argument. -/
theorem adab_read (j : Fin 6144) : V1 m ρ c main_v7 (ix2 0 j) = m ((c : Thread nD τ).loc main_arg4) (ix2 0 j) := by
  show StableHlo.after hostOps0 (W0 m ρ c) (Proc.devRef .tc main_v7) (ix2 0 j) = _
  entry_read
  pointwise

/-- The projection kernel reads row 4 of the modulation's array. -/
theorem mod_read (j : Fin 6144) : V3 m ρ c main_v10 (ix3 0 0 j) = (dat0 (V1 m ρ) c).arrAt 3 cfg0.N (ix2 4 j) := by
  show StableHlo.after hostOps1 (W2 m ρ c) (Proc.devRef .tc main_v10) (ix3 0 0 j) = _
  entry_read
  rw [show W2 m ρ c (Proc.devRef .tc main_v8) = _ from W2_arr m ρ c 3]
  pointwise

/-- The prompt rows, one after another, from the argument. -/
theorem x_read (i : Fin 8192) (d : Fin 1024) :
    V3 m ρ c main_v13 (ix2 i d) = m ((c : Thread nD τ).loc main_arg0) (ix3 ⟨i.val / 256, by omega⟩ ⟨i.val % 256, by omega⟩ d) := by
  show StableHlo.after hostOps1 (W2 m ρ c) (Proc.devRef .tc main_v13) (ix2 i d) = _
  entry_read
  rw [W2_args m ρ c main_arg0 (by decide)]
  pointwise

/-- The norm's weight, from the argument. -/
theorem n_read (d : Fin 1024) : V3 m ρ c main_v15 (ix2 0 d) = m ((c : Thread nD τ).loc main_arg5) (ix2 0 d) := by
  show StableHlo.after hostOps1 (W2 m ρ c) (Proc.devRef .tc main_v15) (ix2 0 d) = _
  entry_read
  rw [W2_args m ρ c main_arg5 (by decide)]
  pointwise

/-- The input weights, from the argument. -/
theorem w_read (d : Fin 1024) (o : Fin 2048) : V3 m ρ c main_v12 (ix2 d o) = m ((c : Thread nD τ).loc main_arg6) (ix3 0 d o) := by
  show StableHlo.after hostOps1 (W2 m ρ c) (Proc.devRef .tc main_v12) (ix2 d o) = _
  entry_read
  rw [W2_args m ρ c main_arg6 (by decide)]
  pointwise

/-- The first result is the projection kernel's first array. -/
theorem u_end : W5 m ρ c (Proc.devRef .tc main_v16_0) = (dat1 (V3 m ρ) c).arrAt 4 cfg1.N :=
  (W5_of m ρ c main_v16_0 (by decide)).trans (W4_arr m ρ c 4)
/-- The second result is its second. -/
theorem q_end : W5 m ρ c (Proc.devRef .tc main_v16_1) = (dat1 (V3 m ρ) c).arrAt 5 cfg1.N :=
  (W5_of m ρ c main_v16_1 (by decide)).trans (W4_arr m ρ c 5)
/-- The third result is its third, by heads. -/
theorem k_end : W5 m ρ c (Proc.devRef .tc main_v17)
    = shapeCast S32x1x256x4x128 ((dat1 (V3 m ρ) c).arrAt 6 cfg1.N) shapeCasts_S8192x512_S32x1x256x4x128 := by
  show StableHlo.after hostOps2 (W4 m ρ c) _ = _
  rw [← show W4 m ρ c (Proc.devRef .tc main_v16_2) = (dat1 (V3 m ρ) c).arrAt 6 cfg1.N from W4_arr m ρ c 6]
  entry_read
  rfl
/-- The fourth result is its fourth, by heads. -/
theorem v_end : W5 m ρ c (Proc.devRef .tc main_v18)
    = shapeCast S32x1x256x4x128 ((dat1 (V3 m ρ) c).arrAt 7 cfg1.N) shapeCasts_S8192x512_S32x1x256x4x128 := by
  show StableHlo.after hostOps2 (W4 m ρ c) _ = _
  rw [← show W4 m ρ c (Proc.devRef .tc main_v16_3) = (dat1 (V3 m ρ) c).arrAt 7 cfg1.N from W4_arr m ρ c 7]
  entry_read
  rfl

end Cert.PromptIdeal.InProj

end
-- ==== Proof.Prompt.Run.lean ====
/-
  THE RUN of the modulation and the projection to the end, with what every buffer holds there.
-/
module

public import proofs.«01_k».proof.Proof.Gen.PromptIdeal.Frame

@[expose] public section

set_option maxRecDepth 16384

noncomputable section

namespace Cert.PromptIdeal.InProj

open Cert.PromptIdeal Cert.PromptIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
/-- The resource the run is proved over. -/
local notation "𝕄" => MT nD τ sig Unit (Elt F) ℕ (UR sig nD τ) ℕ

variable (m : (ℓ : Loc nD τ sig) → Buf (Elt F) ℓ) (ρ : Dev nD → PrngReg)

-- matching the launch lemma's implicit arguments takes unfolding plain definitions in their types
set_option backward.isDefEq.respectTransparency.types false in
/-- Every run ends with every buffer at the last boundary's contents. -/
theorem run_all : θ_run defs (onTc (τ := τ) (main (F := F))) ⟨m, fun _ => 0, ρ⟩
    fun r => ∀ c : Dev nD, ∀ b : Ref sig .tc, ¬ (Proc.devRef .tc b : DevRef τ sig).isScoped →
      r.2.mem ((c.tc : Thread nD τ).loc b) = W5 m ρ c (Proc.devRef .tc b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ c b hb => h c _ (mem_uc b hb))

end Cert.PromptIdeal.InProj

end
-- ==== Proof.Prompt.Reference.lean ====
/-
  THE INPUT PROJECTION'S REFERENCE, stage by stage: the modulation of the context's conditioning vector, the modulated norm of the
  prompt rows, and their product with the input weights, cut into four.
-/
module

public import proofs.«01_k».proof.Proof.Gen.Reference3Ideal.Run
public import proofs.«01_k».proof.Proof.Prompt.Spec
public import Idealize.ShloMosaic.Lib.Pointwise
public import Idealize.ShloMosaic.Lib.ValueIdx
public import Idealize.ShloMosaic.Lib.Claim

@[expose] public section

set_option maxRecDepth 16384

noncomputable section

namespace Cert.Reference3Ideal.InProj

open Cert.Reference3Ideal Cert.Reference3Ideal.Gen Cert.InProj.Spec Idealize.ShloMosaic Idealize.ShloMosaic.TcCoe Idealize.SL.Sem
open scoped BigOperators

/-- The conditioning vector times its logistic, as printed. -/
def act (a : FVec Ideal S1024 .f32) : FVec Ideal S1x1024 .f32 :=
  mulf (broadcastInDim S1x1024 ![1] bcast_S1024_S1x1024_1 a)
    (Host.divf (broadcastInDim S1x1024 ![] bcast_S_S1x1024 (constant S_ .f32 0x3F800000#32))
      (addf (broadcastInDim S1x1024 ![] bcast_S_S1x1024 (constant S_ .f32 0x3F800000#32))
        (Host.exp (Host.negf (broadcastInDim S1x1024 ![1] bcast_S1024_S1x1024_1 a)))))

/-- The modulation, as printed. -/
def modv (a : FVec Ideal S1024 .f32) (w : FVec Ideal S1x1024x6144 .f32) (b : FVec Ideal S1x6144 .f32) : FVec Ideal S1x1x6144 .f32 :=
  broadcastInDim S1x1x6144 ![0, 2] bcast_S1x6144_S1x1x6144_0_2
    (addf (Host.dotGeneral dot_S1x1024_S1024x6144_S1x6144_1_0_0_1_n_n none (act a) (shapeCast S1024x6144 w shapeCasts_S1x1024x6144_S1024x6144))
      (broadcastInDim S1x6144 ![1] bcast_S6144_S1x6144_1 (shapeCast S6144 b shapeCasts_S1x6144_S6144)))

/-- The modulated norm of every row, as printed. -/
def hidden (x : FVec Ideal S32x256x1024 .f32) (n : FVec Ideal S1x1024 .f32) (s : FVec Ideal S1x1x6144 .f32) : FVec Ideal S32x256x1024 .f32 :=
  addf (mulf (mulf (mulf x (broadcastInDim S32x256x1024 ![0, 1, 2] bcast_S32x256x1_S32x256x1024_0_1_2
      (Host.rsqrt (addf (Host.divf (broadcastInDim S32x256x1 ![0, 1] bcast_S32x256_S32x256x1_0_1
          (Host.reduceAdd (mulf x x) (constant S_ .f32 0x00000000#32) reducesTo_S32x256x1024_S32x256_d2 h_S_))
        (broadcastInDim S32x256x1 ![] bcast_S_S32x256x1 (constant S_ .f32 0x44800000#32)))
        (broadcastInDim S32x256x1 ![] bcast_S_S32x256x1 (constant S_ .f32 0x358637BD#32))))))
      (broadcastInDim S32x256x1024 ![0, 1, 2] bcast_S1x1x1024_S32x256x1024_0_1_2
        (broadcastInDim S1x1x1024 ![2] bcast_S1024_S1x1x1024_2 (shapeCast S1024 n shapeCasts_S1x1024_S1024))))
      (broadcastInDim S32x256x1024 ![0, 1, 2] bcast_S1x1x1024_S32x256x1024_0_1_2
        (addf (broadcastInDim S1x1x1024 ![] bcast_S_S1x1x1024 (constant S_ .f32 0x3F800000#32))
          (extractStridedSlice S1x1x1024 ![0, 0, 1024] s slices_S1x1x6144_S1x1x1024_0_0_1024))))
    (broadcastInDim S32x256x1024 ![0, 1, 2] bcast_S1x1x1024_S32x256x1024_0_1_2
      (extractStridedSlice S1x1x1024 ![0, 0, 0] s slices_S1x1x6144_S1x1x1024_0_0_0))

/-- The product with the input weights, as printed. -/
def projv (h : FVec Ideal S32x256x1024 .f32) (w : FVec Ideal S1x1024x2048 .f32) : FVec Ideal S32x256x2048 .f32 :=
  Host.dotGeneral dot_S32x256x1024_S1024x2048_S32x256x2048_2_0_01_1_n_n none h (shapeCast S1024x2048 w shapeCasts_S1x1024x2048_S1024x2048)

/-- The first quarter of the product, one row after another. -/
def resU (p : FVec Ideal S32x256x2048 .f32) : FVec Ideal S8192x512 .f32 :=
  shapeCast S8192x512 (extractStridedSlice S32x256x512 ![0, 0, 0] p slices_S32x256x2048_S32x256x512_0_0_0) shapeCasts_S32x256x512_S8192x512

/-- The second quarter, scaled. -/
def resQ (p : FVec Ideal S32x256x2048 .f32) : FVec Ideal S8192x512 .bf16 :=
  shapeCast S8192x512 (truncf .bf16 (mulf (extractStridedSlice S32x256x512 ![0, 0, 512] p slices_S32x256x2048_S32x256x512_0_0_512)
    (broadcastInDim S32x256x512 ![] bcast_S_S32x256x512 (constant S_ .f32 0x3E000000#32))) bitsLt_bf16_f32) shapeCasts_S32x256x512_S8192x512

/-- The third quarter, by heads. -/
def resK (p : FVec Ideal S32x256x2048 .f32) : FVec Ideal S32x1x256x4x128 .f32 :=
  broadcastInDim S32x1x256x4x128 ![0, 2, 3, 4] bcast_S32x256x4x128_S32x1x256x4x128_0_2_3_4
    (shapeCast S32x256x4x128 (extractStridedSlice S32x256x512 ![0, 0, 1024] p slices_S32x256x2048_S32x256x512_0_0_1024) shapeCasts_S32x256x512_S32x256x4x128)

/-- The fourth quarter, by heads. -/
def resV (p : FVec Ideal S32x256x2048 .f32) : FVec Ideal S32x1x256x4x128 .f32 :=
  broadcastInDim S32x1x256x4x128 ![0, 2, 3, 4] bcast_S32x256x4x128_S32x1x256x4x128_0_2_3_4
    (shapeCast S32x256x4x128 (extractStridedSlice S32x256x512 ![0, 0, 1536] p slices_S32x256x2048_S32x256x512_0_0_1536) shapeCasts_S32x256x512_S32x256x4x128)

/-- The product of the arguments. -/
def prod (x : FVec Ideal S32x256x1024 .f32) (a : FVec Ideal S1024 .f32) (w : FVec Ideal S1x1024x6144 .f32) (b : FVec Ideal S1x6144 .f32)
    (n : FVec Ideal S1x1024 .f32) (wi : FVec Ideal S1x1024x2048 .f32) : FVec Ideal S32x256x2048 .f32 :=
  projv (hidden x n (modv a w b)) wi

/-- The conditioning vector times its logistic, at an index. -/
theorem act_apply (a : FVec Ideal S1024 .f32) (d : Fin 1024) : act a (ix2 0 d) = a (ix1 d) * Ideal.logistic (a (ix1 d)) := by
  pointwise [act]
  rfl

/-- The modulation at an index. -/
theorem modv_apply (a : FVec Ideal S1024 .f32) (w : FVec Ideal S1x1024x6144 .f32) (b : FVec Ideal S1x6144 .f32) (j : Fin 6144) :
    modv a w b (ix3 0 0 j) = ada (fun d => a (ix1 d)) (fun d j => w (ix3 0 d j)) (fun j => b (ix2 0 j)) j := by
  pointwise [modv]
  unfold ada
  simp only [act_apply]

/-- The modulated norm at an index. -/
theorem hidden_apply (x : FVec Ideal S32x256x1024 .f32) (n : FVec Ideal S1x1024 .f32) (s : FVec Ideal S1x1x6144 .f32)
    (i : Fin 32) (j : Fin 256) (d : Fin 1024) :
    hidden x n s (ix3 i j d) = normed (fun d => x (ix3 i j d)) (fun d => n (ix2 0 d)) (fun j => s (ix3 0 0 j)) d := by
  pointwise [hidden]
  rfl

/-- The product at an index: the row's projection under the modulation. -/
theorem prod_apply (x : FVec Ideal S32x256x1024 .f32) (a : FVec Ideal S1024 .f32) (w : FVec Ideal S1x1024x6144 .f32) (b : FVec Ideal S1x6144 .f32)
    (n : FVec Ideal S1x1024 .f32) (wi : FVec Ideal S1x1024x2048 .f32) (i : Fin 32) (j : Fin 256) (o : Fin 2048) :
    prod x a w b n wi (ix3 i j o)
      = proj (fun d => x (ix3 i j d)) (fun d => n (ix2 0 d)) (ada (fun d => a (ix1 d)) (fun d j => w (ix3 0 d j)) (fun j => b (ix2 0 j)))
          (fun d o => wi (ix3 0 d o)) o := by
  pointwise [prod, projv]
  simp only [hidden_apply, modv_apply]
  rfl

/-- The first result at an index. -/
theorem resU_apply (p : FVec Ideal S32x256x2048 .f32) (r : Fin 8192) (o : Fin 512) :
    resU p (ix2 r o) = p (ix3 ⟨r.val / 256, by omega⟩ ⟨r.val % 256, by omega⟩ ⟨o.val, by omega⟩) := by
  pointwise [resU]

/-- The second result at an index. -/
theorem resQ_apply (p : FVec Ideal S32x256x2048 .f32) (r : Fin 8192) (o : Fin 512) :
    resQ p (ix2 r o) = p (ix3 ⟨r.val / 256, by omega⟩ ⟨r.val % 256, by omega⟩ ⟨512 + o.val, by omega⟩) * Ideal.ofBits FTy.f32 0x3E000000#32 := by
  pointwise [resQ]

/-- The third result at an index. -/
theorem resK_apply (p : FVec Ideal S32x256x2048 .f32) (i : Fin 32) (j : Fin 256) (h : Fin 4) (e : Fin 128) :
    resK p (ix5 i 0 j h e) = p (ix3 i j ⟨1024 + (h.val * 128 + e.val), by omega⟩) := by
  pointwise [resK]

/-- The fourth result at an index. -/
theorem resV_apply (p : FVec Ideal S32x256x2048 .f32) (i : Fin 32) (j : Fin 256) (h : Fin 4) (e : Fin 128) :
    resV p (ix5 i 0 j h e) = p (ix3 i j ⟨1536 + (h.val * 128 + e.val), by omega⟩) := by
  pointwise [resV]

/-- Every run of the reference ends with those results and its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v45) = resU (prod (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v46) = resQ (prod (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v47) = resK (prod (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_v48) = resV (prod (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Value.run m ρ

end Cert.Reference3Ideal.InProj

end
-- ==== Proof.Prompt.Equal.lean ====
/-
  THE MODULATION AND THE PROJECTION GIVE THE REFERENCE'S RESULTS, whatever extended reals the arguments hold.
-/
module

public import proofs.«01_k».proof.Defs
public import proofs.«01_k».proof.Proof.Prompt.Array
public import proofs.«01_k».proof.Proof.Prompt.Host
public import proofs.«01_k».proof.Proof.Prompt.Run
public import proofs.«01_k».proof.Proof.Prompt.Reference

@[expose] public section

set_option maxRecDepth 16384

noncomputable section

namespace Cert.PromptIdeal.InProj

open Cert.PromptIdeal Cert.PromptIdeal.Gen Cert.InProj.Spec Idealize.ShloMosaic Idealize.ShloMosaic.TcCoe Idealize.SL.Sem
open scoped BigOperators

variable (m : (ℓ : Loc nD τ sig) → Buf (Elt Ideal) ℓ) (ρ : Dev nD → PrngReg) (c : Dev nD)

/-- The reference's product of the kernel's arguments. -/
def prodOf : FVec Ideal Cert.Reference3Ideal.S32x256x2048 .f32 :=
  Cert.Reference3Ideal.InProj.prod (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- The modulation that the projection kernel reads, from the arguments. -/
theorem mod_value (j : Fin 6144) :
    V3 m ρ c main_v10 (ix3 0 0 j) = ada (fun d => m ((c.tc : Thread nD τ).loc main_arg2) (ix1 d))
      (fun d j => m ((c.tc : Thread nD τ).loc main_arg3) (ix3 0 d j)) (fun j => m ((c.tc : Thread nD τ).loc main_arg4) (ix2 0 j)) j := by
  rw [mod_read, ada_array]
  exact ada_congr (cond_read m ρ c) (adaw_read m ρ c) (adab_read m ρ c) j

/-- A row of the kernel's projection is the reference's product at the row's sequence and position. -/
theorem row_value (i : Fin 8192) (o : Fin 2048) :
    projRow (V3 m ρ) c i o = prodOf m c (ix3 (⟨i.val / 256, by omega⟩ : Fin 32) (⟨i.val % 256, by omega⟩ : Fin 256) o) := by
  unfold projRow prodOf
  refine Eq.trans ?_ (Cert.Reference3Ideal.InProj.prod_apply _ _ _ _ _ _ _ _ _).symm
  exact proj_congr (x_read m ρ c i) (n_read m ρ c) (mod_value m ρ c) (w_read m ρ c) o

/-- The first result. -/
theorem u_value : W5 m ρ c (Proc.devRef .tc main_v16_0) = Cert.Reference3Ideal.InProj.resU (prodOf m c) := by
  rw [u_end, u_array]
  funext y
  obtain ⟨r, o, rfl⟩ : ∃ (r : Fin 8192) (o : Fin 512), y = ix2 r o := ⟨y 0, y 1, eq_ix2 y⟩
  refine Eq.trans ?_ (Cert.Reference3Ideal.InProj.resU_apply _ r o).symm
  exact row_value m ρ c r _

/-- The second result. -/
theorem q_value : W5 m ρ c (Proc.devRef .tc main_v16_1) = Cert.Reference3Ideal.InProj.resQ (prodOf m c) := by
  rw [q_end, q_array]
  funext y
  obtain ⟨r, o, rfl⟩ : ∃ (r : Fin 8192) (o : Fin 512), y = ix2 r o := ⟨y 0, y 1, eq_ix2 y⟩
  refine Eq.trans ?_ (Cert.Reference3Ideal.InProj.resQ_apply _ r o).symm
  exact congrArg (· * Ideal.ofBits FTy.f32 0x3E000000#32) (row_value m ρ c r _)

/-- An array of rows by sequence, position and head. -/
theorem heads_apply (p : Vec Ideal S8192x512 .f32) (i : Fin 32) (j : Fin 256) (h : Fin 4) (e : Fin 128) :
    shapeCast S32x1x256x4x128 p shapeCasts_S8192x512_S32x1x256x4x128 (ix5 i 0 j h e)
      = p (ix2 (⟨i.val * 256 + j.val, by omega⟩ : Fin 8192) (⟨h.val * 128 + e.val, by omega⟩ : Fin 512)) := by
  pointwise

/-- A row of the kernel's projection at a sequence and position. -/
theorem row_at (i : Fin 32) (j : Fin 256) (o : Fin 2048) :
    projRow (V3 m ρ) c (⟨i.val * 256 + j.val, by omega⟩ : Fin 8192) o = prodOf m c (ix3 i j o) := by
  rw [row_value]
  have e0 : (⟨(i.val * 256 + j.val) / 256, by omega⟩ : Fin 32) = i := Fin.ext (by show (i.val * 256 + j.val) / 256 = i.val; omega)
  have e1 : (⟨(i.val * 256 + j.val) % 256, by omega⟩ : Fin 256) = j := Fin.ext (by show (i.val * 256 + j.val) % 256 = j.val; omega)
  exact congrArg (prodOf m c) (congrArg₂ (ix3 · · o) e0 e1)

/-- The third result. -/
theorem k_value : W5 m ρ c (Proc.devRef .tc main_v17) = Cert.Reference3Ideal.InProj.resK (prodOf m c) := by
  rw [k_end, k_array]
  funext y
  obtain ⟨i, j, h, e, rfl⟩ : ∃ (i : Fin 32) (j : Fin 256) (h : Fin 4) (e : Fin 128), y = ix5 i 0 j h e :=
    ⟨y 0, y 2, y 3, y 4, (eq_ix5 y).trans (congrArg (ix5 (y 0) · (y 2) (y 3) (y 4)) (Subsingleton.elim (α := Fin 1) _ _))⟩
  refine Eq.trans ?_ (Cert.Reference3Ideal.InProj.resK_apply _ i j h e).symm
  exact (heads_apply _ i j h e).trans (row_at m ρ c i j _)

/-- The fourth result. -/
theorem v_value : W5 m ρ c (Proc.devRef .tc main_v18) = Cert.Reference3Ideal.InProj.resV (prodOf m c) := by
  rw [v_end, v_array]
  funext y
  obtain ⟨i, j, h, e, rfl⟩ : ∃ (i : Fin 32) (j : Fin 256) (h : Fin 4) (e : Fin 128), y = ix5 i 0 j h e :=
    ⟨y 0, y 2, y 3, y 4, (eq_ix5 y).trans (congrArg (ix5 (y 0) · (y 2) (y 3) (y 4)) (Subsingleton.elim (α := Fin 1) _ _))⟩
  refine Eq.trans ?_ (Cert.Reference3Ideal.InProj.resV_apply _ i j h e).symm
  exact (heads_apply _ i j h e).trans (row_at m ρ c i j _)

/-- Every run of the kernels and every run of the reference end with equal results and their arguments kept. -/
theorem algebraic : algebraic_PromptIdeal_Reference3Ideal := by
  intro m g m' g' _ hargs
  refine ⟨fun c => W5 m g c (Proc.devRef .tc main_v16_0), fun c => W5 m g c (Proc.devRef .tc main_v16_1), fun c => W5 m g c (Proc.devRef .tc main_v17),
    fun c => W5 m g c (Proc.devRef .tc main_v18), ?_, ?_⟩
  · refine (θ_run defs _ _).mono (fun r h c => ?_) (run_all m g)
    exact ⟨h c main_v16_0 (by decide), h c main_v16_1 (by decide), h c main_v17 (by decide), h c main_v18 (by decide),
      (h c main_arg0 (by decide)).trans (W5_main_arg0 m g c), (h c main_arg1 (by decide)).trans (W5_main_arg1 m g c),
      (h c main_arg2 (by decide)).trans (W5_main_arg2 m g c), (h c main_arg3 (by decide)).trans (W5_main_arg3 m g c),
      (h c main_arg4 (by decide)).trans (W5_main_arg4 m g c), (h c main_arg5 (by decide)).trans (W5_main_arg5 m g c),
      (h c main_arg6 (by decide)).trans (W5_main_arg6 m g c)⟩
  · refine (θ_run Cert.Reference3Ideal.defs _ _).mono (fun r h c => ?_) (Cert.Reference3Ideal.InProj.run m' g')
    obtain ⟨h0, h1, h2, h3, hkeep⟩ := h c
    obtain ⟨e0, e1, e2, e3, e4, e5, e6⟩ := hargs c
    rw [e0, e2, e3, e4, e5, e6] at h0 h1 h2 h3
    exact ⟨h0.trans (u_value m g c).symm, h1.trans (q_value m g c).symm, h2.trans (k_value m g c).symm, h3.trans (v_value m g c).symm, hkeep⟩

end Cert.PromptIdeal.InProj

end
-- ==== Proof.Post.Spec.lean ====
/-
  THE MIXING'S END FOR ONE TOKEN, in the extended reals: the scans' output gated, the two head groups through the output weights, the
  token with the mixing added under its gate, and the modulated norm of that.
-/
module

public import Idealize.ShloMosaic.Lib.Pointwise

@[expose] public section

noncomputable section

namespace Cert.Post.Spec

open Idealize.ShloMosaic
open scoped BigOperators

/-- The scans' output at a channel: the input times its own weight, plus the two directions' outputs. -/
def scan (u d f b : Fin 512 → EReal) (j : Fin 512) : EReal := u j * d j + f j + b j

/-- The error unit in the hyperbolic tangent's form. -/
def gelu (y : EReal) : EReal :=
  y * (Ideal.ofBits FTy.f32 0x3F000000#32 * (1 + Ideal.tanh (Ideal.ofBits FTy.f32 0x3F4C422A#32 * (y + Ideal.ofBits FTy.f32 0x3D372713#32 * (y * (y * y))))))

/-- The scan group's output at a channel: the unit's value times the logistic of its product with the gate's weights. -/
def gated (y : Fin 512 → EReal) (g : Fin 512 → Fin 512 → EReal) (j : Fin 512) : EReal :=
  gelu (y j) * Ideal.logistic (∑ i, gelu (y i) * g i j)

/-- Row `i` of the weights of the scan group. -/
def top (i : Fin 512) : Fin 1024 := ⟨i.val, by omega⟩
/-- Row `i` of the weights of the attention group. -/
def bottom (i : Fin 512) : Fin 1024 := ⟨512 + i.val, by omega⟩

/-- The two groups' outputs through the output weights. -/
def mixed (s a : Fin 512 → EReal) (w : Fin 1024 → Fin 1024 → EReal) (o : Fin 1024) : EReal :=
  (∑ i, s i * w (top i) o) + ∑ i, a i * w (bottom i) o

/-- Entry `o` of the modulation's vector that starts at `k`. -/
def part (k : ℕ) (h : k + 1024 ≤ 6144) (o : Fin 1024) : Fin 6144 := ⟨k + o.val, by omega⟩

/-- The token with the mixing added under the modulation's third vector. -/
def after (x : Fin 1024 → EReal) (u d f b a : Fin 512 → EReal) (s : Fin 6144 → EReal) (g : Fin 512 → Fin 512 → EReal)
    (w : Fin 1024 → Fin 1024 → EReal) (o : Fin 1024) : EReal :=
  x o + s (part 2048 (by decide) o) * mixed (gated (scan u d f b) g) a w o

/-- The modulated norm of a token: the token over the root of its mean square, times the norm's weight, scaled and shifted by the
modulation's fifth and fourth vectors. -/
def normed (x n : Fin 1024 → EReal) (s : Fin 6144 → EReal) (d : Fin 1024) : EReal :=
  x d * Ideal.rsqrt (Ideal.div (∑ e, x e * x e) (Ideal.ofBits FTy.f32 0x44800000#32) + Ideal.ofBits FTy.f32 0x358637BD#32) * n d
    * (1 + s (part 4096 (by decide) d)) + s (part 3072 (by decide) d)

/-- Equal arguments give equal tokens. -/
theorem after_congr {x x' : Fin 1024 → EReal} {u u' d d' f f' b b' a a' : Fin 512 → EReal} {s s' : Fin 6144 → EReal}
    {g g' : Fin 512 → Fin 512 → EReal} {w w' : Fin 1024 → Fin 1024 → EReal} (hx : ∀ i, x i = x' i) (hu : ∀ i, u i = u' i)
    (hd : ∀ i, d i = d' i) (hf : ∀ i, f i = f' i) (hb : ∀ i, b i = b' i) (ha : ∀ i, a i = a' i) (hs : ∀ i, s i = s' i)
    (hg : ∀ i j, g i j = g' i j) (hw : ∀ i j, w i j = w' i j) (o : Fin 1024) : after x u d f b a s g w o = after x' u' d' f' b' a' s' g' w' o := by
  obtain rfl : x = x' := funext hx
  obtain rfl : u = u' := funext hu
  obtain rfl : d = d' := funext hd
  obtain rfl : f = f' := funext hf
  obtain rfl : b = b' := funext hb
  obtain rfl : a = a' := funext ha
  obtain rfl : s = s' := funext hs
  obtain rfl : g = g' := funext fun i => funext (hg i)
  obtain rfl : w = w' := funext fun i => funext (hw i)
  rfl

/-- Equal tokens, norm weights and modulations give equal norms. -/
theorem normed_congr {x x' n n' : Fin 1024 → EReal} {s s' : Fin 6144 → EReal} (hx : ∀ i, x i = x' i) (hn : ∀ i, n i = n' i)
    (hs : ∀ i, s i = s' i) (o : Fin 1024) : normed x n s o = normed x' n' s' o := by
  obtain rfl : x = x' := funext hx
  obtain rfl : n = n' := funext hn
  obtain rfl : s = s' := funext hs
  rfl

end Cert.Post.Spec

end
-- ==== Proof.Post.Value.lean ====
/-
  WHAT ONE GRID POINT STORES, at an index: the block of tokens with the mixing added, and the block of their modulated norms.
-/
module

public import proofs.«01_k».proof.Proof.Gen.PostIdeal.Frame
public import proofs.«01_k».proof.Proof.Post.Spec
public import Idealize.ShloMosaic.Lib.Pipeline.ValueKit
public import Idealize.ShloMosaic.Lib.Pointwise

@[expose] public section

set_option maxRecDepth 16384

noncomputable section

namespace Cert.PostIdeal.Mix

open Cert.PostIdeal Cert.PostIdeal.Gen Cert.Post.Spec Idealize.ShloMosaic Idealize.ShloMosaic.Pipeline Idealize.ShloMosaic.TcCoe Idealize.SL.Sem
open scoped BigOperators

/-- The scan group's share of the mixing, at an index. -/
theorem scan_apply (u : Vec Ideal S512x512 .f32) (d : Vec Ideal S1x512 .f32) (f b : Vec Ideal S1x512x512 .f32) (g : Vec Ideal S512x512 .bf16)
    (w : Vec Ideal S512x1024 .bf16) (r : Fin 512) (o : Fin 1024) :
    k0_pay2 u d f b g w (ix2 r o) = ∑ i : Fin 512, gated (scan (fun j => u (ix2 r j)) (fun j => d (ix2 0 j)) (fun j => f (ix3 0 r j))
      (fun j => b (ix3 0 r j))) (fun i j => g (ix2 i j)) i * w (ix2 i o) := by
  pointwise [k0_pay2]
  rfl

/-- The token with the mixing added, at an index. -/
theorem after_apply (p : FVec Ideal S512x1024 .f32) (a : FVec Ideal S512x512 .bf16) (w : Vec Ideal S512x1024 .bf16) (s : Vec Ideal S1x1x6144 .f32)
    (x : Vec Ideal S512x1024 .f32) (r : Fin 512) (o : Fin 1024) :
    k0_pay5 p a w s x (ix2 r o) = x (ix2 r o) + s (ix3 0 0 (part 2048 (by decide) o)) * (p (ix2 r o) + ∑ i : Fin 512, a (ix2 r i) * w (ix2 i o)) := by
  pointwise [k0_pay5, k0_pay4]
  rfl

/-- The modulated norm, at an index. -/
theorem normed_apply (p : FVec Ideal S512x1024 .f32) (a : FVec Ideal S512x512 .bf16) (w : Vec Ideal S512x1024 .bf16) (s : Vec Ideal S1x1x6144 .f32)
    (x : Vec Ideal S512x1024 .f32) (n : Vec Ideal S1x1024 .f32) (r : Fin 512) (o : Fin 1024) :
    k0_pay6 p a w s x n (ix2 r o) = normed (fun e => k0_pay5 p a w s x (ix2 r e)) (fun e => n (ix2 0 e)) (fun j => s (ix3 0 0 j)) o := by
  pointwise [k0_pay6, k0_pay4]
  rfl

/-- The upper half of the output weights, at an index. -/
theorem ld_top (w : Vec Ideal S1024x1024 .bf16) (i : Fin 512) (o : Fin 1024) : View.ld w r0_3 (ix2 i o) = w (ix2 (top i) o) :=
  View.ld_unit_apply_of w _ _ _ _ _ fun a => match a with
    | ⟨0, _⟩ => (Nat.zero_add _).symm
    | ⟨1, _⟩ => (Nat.zero_add _).symm

/-- The lower half of the output weights, at an index. -/
theorem ld_bottom (w : Vec Ideal S1024x1024 .bf16) (i : Fin 512) (o : Fin 1024) : View.ld w r0_4 (ix2 i o) = w (ix2 (bottom i) o) :=
  View.ld_unit_apply_of w _ _ _ _ _ fun a => match a with
    | ⟨0, _⟩ => rfl
    | ⟨1, _⟩ => (Nat.zero_add _).symm

/-- The block of the attention group, read whole. -/
theorem pay3_apply (a : Vec Ideal S512x512 .bf16) (r i : Fin 512) : k0_pay3 a (ix2 r i) = a (ix2 r i) := by
  pointwise [k0_pay3]

section
variable (x : Vec Ideal S512x1024 .f32) (u : Vec Ideal S512x512 .f32) (f b : Vec Ideal S1x512x512 .f32) (a : Vec Ideal S512x512 .bf16)
  (s : Vec Ideal S1x1x6144 .f32) (d : Vec Ideal S1x512 .f32) (g : Vec Ideal S512x512 .bf16) (w : Vec Ideal S1024x1024 .bf16)
  (n : Vec Ideal S1x1024 .f32) (wr : Vec Ideal S64x1024 .f32) (rb : Vec Ideal S8x8x1 .f32)

/-- A token of the blocks with the mixing added. -/
def afterBlk (r : Fin 512) (o : Fin 1024) : EReal :=
  after (fun e => x (ix2 r e)) (fun j => u (ix2 r j)) (fun j => d (ix2 0 j)) (fun j => f (ix3 0 r j)) (fun j => b (ix3 0 r j)) (fun j => a (ix2 r j))
    (fun j => s (ix3 0 0 j)) (fun i j => g (ix2 i j)) (fun i j => w (ix2 i j)) o

/-- The tokens that both stored blocks are made of. -/
theorem tokens (r : Fin 512) (o : Fin 1024) :
    k0_pay5 (k0_pay2 u d f b g (View.ld w r0_3)) (k0_pay3 a) (View.ld w r0_4) s x (ix2 r o) = afterBlk x u f b a s d g w r o := by
  rw [after_apply, scan_apply]
  unfold afterBlk after mixed
  congr 1
  congr 1
  congr 1
  · refine Finset.sum_congr rfl fun i _ => ?_
    rw [ld_top]
  · refine Finset.sum_congr rfl fun i _ => ?_
    rw [ld_bottom, pay3_apply]

/-- The first stored block at an index. -/
theorem after_block (r : Fin 512) (o : Fin 1024) : out0_12 x u f b a s d g w n wr rb (ix2 r o) = afterBlk x u f b a s d g w r o := by
  unfold out0_12 k0_pay44 k0_pay43
  frame_out
  exact tokens x u f b a s d g w r o

/-- The second stored block at an index. -/
theorem normed_block (r : Fin 512) (o : Fin 1024) :
    out0_13 x u f b a s d g w n wr rb (ix2 r o) = normed (afterBlk x u f b a s d g w r) (fun e => n (ix2 0 e)) (fun j => s (ix3 0 0 j)) o := by
  unfold out0_13 k0_pay44 k0_pay43
  frame_out
  refine Eq.trans ?_ ((normed_apply _ _ _ _ _ _ r o).trans (normed_congr (tokens x u f b a s d g w r) (fun _ => rfl) (fun _ => rfl) o))
  pointwise [k0_pay7]

end

end Cert.PostIdeal.Mix

end
-- ==== Proof.Post.Array.lean ====
/-
  THE KERNEL'S RESULT ARRAYS from its arguments: what each window of a grid point holds, and the two arrays the points fill.
-/
module

public import proofs.«01_k».proof.Proof.Post.Value
public import Idealize.ShloMosaic.Lib.ValueIdx

@[expose] public section

set_option maxRecDepth 16384

noncomputable section

namespace Cert.PostIdeal.Mix

open Cert.PostIdeal Cert.PostIdeal.Gen Cert.Post.Spec Idealize.ShloMosaic Idealize.ShloMosaic.TcCoe Idealize.SL.Sem
open scoped BigOperators

variable (m : (ℓ : Loc nD τ sig) → Buf (Elt Ideal) ℓ) (c : Dev nD)

/-- The block indices of the kernel's windows at a grid point. -/
theorem idx : ∀ t : Fin cfg0.N,
    win0_0.index t = ![(grid0.coords t 0).val, 0] ∧ win0_1.index t = ![(grid0.coords t 0).val, 0] ∧ win0_2.index t = ![0, (grid0.coords t 0).val, 0]
    ∧ win0_3.index t = ![1, (grid0.coords t 0).val, 0] ∧ win0_4.index t = ![(grid0.coords t 0).val, 0]
    ∧ win0_5.index t = ![(grid0.coords t 0).val / 8, 0, 0] ∧ win0_6.index t = ![0, 0] ∧ win0_7.index t = ![0, 0] ∧ win0_8.index t = ![0, 0]
    ∧ win0_9.index t = ![0, 0] ∧ win0_12.index t = ![(grid0.coords t 0).val, 0] ∧ win0_13.index t = ![(grid0.coords t 0).val, 0] :=
  (by decide +kernel : ∀ t : Fin grid0.N, _)

/-- A grid coordinate is below 32. -/
theorem coord_lt (t : Fin cfg0.N) : (grid0.coords t 0).val < 32 := (grid0.coords t 0).isLt

/-- Row `r` of a point's block, as a row of the tokens. -/
def row (t : Fin cfg0.N) (r : Fin 512) : Fin 16384 := ⟨512 * (grid0.coords t 0).val + r.val, by have := coord_lt t; omega⟩

/-- The batch of a token. -/
def batch (i : Fin 16384) : Fin 4 := ⟨i.val / 4096, by omega⟩
/-- The position of a token in its batch. -/
def pos (i : Fin 16384) : Fin 4096 := ⟨i.val % 4096, by omega⟩

/-- The tokens, as rows. -/
theorem x_host (i : Fin 16384) (e : Fin 1024) : V m c main_v0 (ix2 i e) = m ((c.tc : Thread nD τ).loc main_arg0) (ix3 (batch i) (pos i) e) := by
  entry_read
  pointwise
  rfl

/-- The scans' outputs, as rows. -/
theorem y_host (d : Fin 2) (i : Fin 16384) (j : Fin 512) : V m c main_v13 (ix3 d i j) = m ((c.tc : Thread nD τ).loc main_arg2) (ix4 d (batch i) (pos i) j) := by
  entry_read
  pointwise
  rfl

/-- The attention's output, as rows. -/
theorem a_host (i : Fin 16384) (j : Fin 512) : V m c main_v10 (ix2 i j) = m ((c.tc : Thread nD τ).loc main_arg3) (ix3 (batch i) (pos i) j) := by
  entry_read
  pointwise
  rfl

/-- The modulations. -/
theorem s_host (b : Fin 4) (j : Fin 6144) : V m c main_v1 (ix3 b 0 j) = m ((c.tc : Thread nD τ).loc main_arg4) (ix2 b j) := by
  entry_read
  pointwise

/-- The input's own weights. -/
theorem d_host (j : Fin 512) : V m c main_v14 (ix2 0 j) = m ((c.tc : Thread nD τ).loc main_arg5) (ix2 0 j) := by
  entry_read
  pointwise

/-- The gate's weights. -/
theorem g_host (i j : Fin 512) : V m c main_v3 (ix2 i j) = m ((c.tc : Thread nD τ).loc main_arg6) (ix3 0 i j) := by
  entry_read
  pointwise

/-- The output weights. -/
theorem w_host (i o : Fin 1024) : V m c main_v5 (ix2 i o) = m ((c.tc : Thread nD τ).loc main_arg7) (ix3 0 i o) := by
  entry_read
  pointwise

/-- The norm's weight. -/
theorem n_host (e : Fin 1024) : V m c main_v15 (ix2 0 e) = m ((c.tc : Thread nD τ).loc main_arg8) (ix2 0 e) := by
  entry_read
  pointwise

/-- The batch of a point's modulation block is its rows' batch. -/
theorem batch_row (t : Fin cfg0.N) (r : Fin 512) : (batch (row t r)).val = (grid0.coords t 0).val / 8 := by
  have := coord_lt t
  simp only [batch, row]
  omega

/-- The block of tokens. -/
theorem blk0 (t : Fin cfg0.N) (r : Fin 512) (e : Fin 1024) : iblk m c 0 t (ix2 r e) = V m c main_v0 (ix2 (row t r) e) := by
  blk_ext! [iblk, idx t, row]
/-- The block of the scans' input. -/
theorem blk1 (t : Fin cfg0.N) (r j : Fin 512) : iblk m c 1 t (ix2 r j) = m ((c.tc : Thread nD τ).loc main_arg1) (ix2 (row t r) j) := by
  blk_ext! [iblk, V, idx t, row]
/-- The block of the forward scan's output. -/
theorem blk2 (t : Fin cfg0.N) (r j : Fin 512) : iblk m c 2 t (ix3 0 r j) = V m c main_v13 (ix3 0 (row t r) j) := by
  blk_ext! [iblk, idx t, row]
/-- The block of the backward scan's output. -/
theorem blk3 (t : Fin cfg0.N) (r j : Fin 512) : iblk m c 3 t (ix3 0 r j) = V m c main_v13 (ix3 1 (row t r) j) := by
  blk_ext! [iblk, idx t, row]
/-- The block of the attention's output. -/
theorem blk4 (t : Fin cfg0.N) (r j : Fin 512) : iblk m c 4 t (ix2 r j) = V m c main_v10 (ix2 (row t r) j) := by
  blk_ext! [iblk, idx t, row]
/-- The block of the modulation. -/
theorem blk5 (t : Fin cfg0.N) (r : Fin 512) (j : Fin 6144) : iblk m c 5 t (ix3 0 0 j) = V m c main_v1 (ix3 (batch (row t r)) 0 j) := by
  blk_ext! [iblk, idx t, batch_row t r]
/-- The input's own weights. -/
theorem blk6 (t : Fin cfg0.N) (j : Fin 512) : iblk m c 6 t (ix2 0 j) = V m c main_v14 (ix2 0 j) := by
  blk_ext! [iblk, idx t]
/-- The gate's weights. -/
theorem blk7 (t : Fin cfg0.N) (i j : Fin 512) : iblk m c 7 t (ix2 i j) = V m c main_v3 (ix2 i j) := by
  blk_ext! [iblk, idx t]
/-- The output weights. -/
theorem blk8 (t : Fin cfg0.N) (i o : Fin 1024) : iblk m c 8 t (ix2 i o) = V m c main_v5 (ix2 i o) := by
  blk_ext! [iblk, idx t]
/-- The norm's weight. -/
theorem blk9 (t : Fin cfg0.N) (e : Fin 1024) : iblk m c 9 t (ix2 0 e) = V m c main_v15 (ix2 0 e) := by
  blk_ext! [iblk, idx t]

/-- A token with the mixing added, from the arguments. -/
def afterRow (i : Fin 16384) (o : Fin 1024) : EReal :=
  after (fun e => m ((c.tc : Thread nD τ).loc main_arg0) (ix3 (batch i) (pos i) e)) (fun j => m ((c.tc : Thread nD τ).loc main_arg1) (ix2 i j))
    (fun j => m ((c.tc : Thread nD τ).loc main_arg5) (ix2 0 j)) (fun j => m ((c.tc : Thread nD τ).loc main_arg2) (ix4 0 (batch i) (pos i) j))
    (fun j => m ((c.tc : Thread nD τ).loc main_arg2) (ix4 1 (batch i) (pos i) j)) (fun j => m ((c.tc : Thread nD τ).loc main_arg3) (ix3 (batch i) (pos i) j))
    (fun j => m ((c.tc : Thread nD τ).loc main_arg4) (ix2 (batch i) j)) (fun i j => m ((c.tc : Thread nD τ).loc main_arg6) (ix3 0 i j))
    (fun i j => m ((c.tc : Thread nD τ).loc main_arg7) (ix3 0 i j)) o

/-- Its modulated norm, from the arguments. -/
def normedRow (i : Fin 16384) (o : Fin 1024) : EReal :=
  normed (afterRow m c i) (fun e => m ((c.tc : Thread nD τ).loc main_arg8) (ix2 0 e)) (fun j => m ((c.tc : Thread nD τ).loc main_arg4) (ix2 (batch i) j)) o

/-- The token of a point's blocks is the token of the arguments. -/
theorem afterBlk_eq (t : Fin cfg0.N) (r : Fin 512) (o : Fin 1024) :
    afterBlk (iblk m c 0 t) (iblk m c 1 t) (iblk m c 2 t) (iblk m c 3 t) (iblk m c 4 t) (iblk m c 5 t) (iblk m c 6 t) (iblk m c 7 t) (iblk m c 8 t) r o
      = afterRow m c (row t r) o := by
  unfold afterBlk afterRow
  exact after_congr (fun e => (blk0 m c t r e).trans (x_host m c _ e)) (fun j => blk1 m c t r j) (fun j => (blk6 m c t j).trans (d_host m c j))
    (fun j => (blk2 m c t r j).trans (y_host m c 0 _ j)) (fun j => (blk3 m c t r j).trans (y_host m c 1 _ j))
    (fun j => (blk4 m c t r j).trans (a_host m c _ j)) (fun j => (blk5 m c t r j).trans (s_host m c _ j))
    (fun i j => (blk7 m c t i j).trans (g_host m c i j)) (fun i j => (blk8 m c t i j).trans (w_host m c i j)) o

/-- The first result array. -/
def afterArr : Vec Ideal S16384x1024 .f32 := fun y => afterRow m c (y 0) (y 1)
/-- The second result array. -/
def normedArr : Vec Ideal S16384x1024 .bf16 := fun y => normedRow m c (y 0) (y 1)

/-- The first array the kernel leaves. -/
theorem after_array : (dats m 0 c).arrAt 12 cfg0.N = afterArr m c := by
  refine (dats m 0 c).arrAt_eq_of_covers 12 _ (by decide +kernel) fun t hf y => ?_
  blk_simp
  rw [after0_12]
  obtain ⟨r, o, rfl⟩ : ∃ (r : Fin 512) (o : Fin 1024), y = ix2 r o := ⟨y 0, y 1, eq_ix2 y⟩
  rw [after_block]
  have hy : (win0_12.blk t).view.emb (ix2 r o) = ix2 (row t r) o := by
    blk_ext! [idx t, row]
  rw [hy]
  exact afterBlk_eq m c t r o

/-- The second. -/
theorem normed_array : (dats m 0 c).arrAt 13 cfg0.N = normedArr m c := by
  refine (dats m 0 c).arrAt_eq_of_covers 13 _ (by decide +kernel) fun t hf y => ?_
  blk_simp
  rw [after0_13]
  obtain ⟨r, o, rfl⟩ : ∃ (r : Fin 512) (o : Fin 1024), y = ix2 r o := ⟨y 0, y 1, eq_ix2 y⟩
  rw [normed_block]
  have hy : (win0_13.blk t).view.emb (ix2 r o) = ix2 (row t r) o := by
    blk_ext! [idx t, row]
  rw [hy]
  exact normed_congr (afterBlk_eq m c t r) (fun e => (blk9 m c t e).trans (n_host m c e)) (fun j => (blk5 m c t r j).trans (s_host m c _ j)) o

end Cert.PostIdeal.Mix

end
-- ==== Proof.Post.Run.lean ====
/-
  THE RUN of the mixing's kernel to the end: the two result arrays are what its points wrote, and the arguments are kept.
-/
module

public import proofs.«01_k».proof.Proof.Gen.PostIdeal.Frame

@[expose] public section

set_option maxRecDepth 16384

noncomputable section

namespace Cert.PostIdeal.Mix

open Cert.PostIdeal Cert.PostIdeal.Gen Idealize.ShloMosaic Idealize.ShloMosaic.TcCoe Idealize.SL.Sem

variable {F : FTy → Type} [FloatOps F] (m : (ℓ : Loc nD τ sig) → Buf (Elt F) ℓ) (ρ : Dev nD → PrngReg)

/-- A buffer that is no window's array ends as the host operations before the kernel left it. -/
theorem rest (r : PUnit × MemSt nD τ sig (Elt F)) (h : Pipeline.FramePost cfgs (dats m) 0 (V m) r) (c : Dev nD) (b : Ref sig .tc)
    (h1 : b.isScoped = false) (h2 : ∀ w : Fin (cfgs 0).W, ((cfgs 0).spec w).arr.view.ref ≠ b) :
    r.2.mem ((c.tc : Thread nD τ).loc b) = V m c b :=
  (h c).2 b (Pipeline.mem_restRefs_of b h1 h2)

/-- Every run ends with the two arrays that the points filled, and the arguments as they were. -/
theorem run : θ_run defs (onTc (τ := τ) (main (F := F))) ⟨m, fun _ => 0, ρ⟩ fun r => ∀ c : Dev nD,
    r.2.mem ((c.tc : Thread nD τ).loc main_v16_0) = (dats m 0 c).arrAt 12 cfg0.N
    ∧ r.2.mem ((c.tc : Thread nD τ).loc main_v16_1) = (dats m 0 c).arrAt 13 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) := by
  refine (θ_run defs _ _).mono (fun r h c => ?_) (run_main m ρ)
  have k := rest m r h c
  exact ⟨(h c).1 12, (h c).1 13, (k main_arg0 (by decide) (by decide)).trans (V_main_arg0 m c),
    ((h c).1 1).trans (((dats m 0 c).arrAt_in 1 rfl _).trans ((A_eq m c 1).trans (V_main_arg1 m c))),
    (k main_arg2 (by decide) (by decide)).trans (V_main_arg2 m c), (k main_arg3 (by decide) (by decide)).trans (V_main_arg3 m c),
    (k main_arg4 (by decide) (by decide)).trans (V_main_arg4 m c), (k main_arg5 (by decide) (by decide)).trans (V_main_arg5 m c),
    (k main_arg6 (by decide) (by decide)).trans (V_main_arg6 m c), (k main_arg7 (by decide) (by decide)).trans (V_main_arg7 m c),
    (k main_arg8 (by decide) (by decide)).trans (V_main_arg8 m c), (k main_arg9 (by decide) (by decide)).trans (V_main_arg9 m c),
    (k main_arg10 (by decide) (by decide)).trans (V_main_arg10 m c)⟩

end Cert.PostIdeal.Mix

end
-- ==== Proof.Post.Reference.lean ====
/-
  THE MIXING'S REFERENCE, stage by stage: the scans' output, the error unit, the gate, the product of both groups with the output weights,
  the tokens with the mixing added, and their modulated norm.
-/
module

public import proofs.«01_k».proof.Proof.Gen.Reference4Ideal.Run
public import proofs.«01_k».proof.Proof.Post.Spec
public import Idealize.ShloMosaic.Lib.Pointwise
public import Idealize.ShloMosaic.Lib.ValueIdx
public import Idealize.ShloMosaic.Lib.Claim

@[expose] public section

set_option maxRecDepth 16384

noncomputable section

namespace Cert.Reference4Ideal.Mix

open Cert.Reference4Ideal Cert.Reference4Ideal.Gen Cert.Post.Spec Idealize.ShloMosaic Idealize.ShloMosaic.TcCoe Idealize.SL.Sem
open scoped BigOperators

/-- The scans' output, as printed. -/
def scanned (u : FVec Ideal S16384x512 .f32) (y : FVec Ideal S2x4x4096x512 .f32) (d : FVec Ideal S1x512 .f32) : FVec Ideal S4x4096x512 .f32 :=
  addf (addf (mulf (shapeCast S4x4096x512 u shapeCasts_S16384x512_S4x4096x512)
      (broadcastInDim S4x4096x512 ![0, 1, 2] bcast_S1x1x512_S4x4096x512_0_1_2 (broadcastInDim S1x1x512 ![2] bcast_S512_S1x1x512_2
        (shapeCast S512 d shapeCasts_S1x512_S512))))
    (shapeCast S4x4096x512 (extractStridedSlice S1x4x4096x512 ![0, 0, 0, 0] y slices_S2x4x4096x512_S1x4x4096x512_0_0_0_0) shapeCasts_S1x4x4096x512_S4x4096x512))
    (shapeCast S4x4096x512 (extractStridedSlice S1x4x4096x512 ![1, 0, 0, 0] y slices_S2x4x4096x512_S1x4x4096x512_1_0_0_0) shapeCasts_S1x4x4096x512_S4x4096x512)

/-- The error unit, as printed. -/
def unit (y : FVec Ideal S4x4096x512 .f32) : FVec Ideal S4x4096x512 .f32 :=
  mulf y (mulf (broadcastInDim S4x4096x512 ![] bcast_S_S4x4096x512 (constant S_ .f32 0x3F000000#32))
    (addf (broadcastInDim S4x4096x512 ![] bcast_S_S4x4096x512 (constant S_ .f32 0x3F800000#32))
      (Host.tanh (mulf (broadcastInDim S4x4096x512 ![] bcast_S_S4x4096x512 (constant S_ .f32 0x3F4C422A#32))
        (addf y (mulf (broadcastInDim S4x4096x512 ![] bcast_S_S4x4096x512 (constant S_ .f32 0x3D372713#32)) (mulf (mulf y y) y)))))))

/-- The gate over the unit's values, as printed. -/
def gate (g : FVec Ideal S4x4096x512 .f32) (w : FVec Ideal S1x512x512 .f32) : FVec Ideal S4x4096x512 .f32 :=
  mulf g (Host.divf (broadcastInDim S4x4096x512 ![] bcast_S_S4x4096x512 (constant S_ .f32 0x3F800000#32))
    (addf (broadcastInDim S4x4096x512 ![] bcast_S_S4x4096x512 (constant S_ .f32 0x3F800000#32))
      (Host.exp (Host.negf (Host.dotGeneral dot_S4x4096x512_S512x512_S4x4096x512_2_0_01_1_n_n none g
        (shapeCast S512x512 w shapeCasts_S1x512x512_S512x512))))))

/-- The two groups side by side. -/
def joined (s : FVec Ideal S4x4096x512 .f32) (a : FVec Ideal S4x4096x512 .bf16) : FVec Ideal S4x4096x1024 .f32 :=
  concatenate S4x4096x1024 2 [⟨S4x4096x512, s⟩, ⟨S4x4096x512, (extf .f32 a bitsLt_bf16_f32)⟩] concatenates_S4x4096x512_S4x4096x512_S4x4096x1024_d2

/-- Their product with the output weights, as printed. -/
def prod (j : FVec Ideal S4x4096x1024 .f32) (w : FVec Ideal S1x1024x1024 .f32) : FVec Ideal S4x4096x1024 .f32 :=
  Host.dotGeneral dot_S4x4096x1024_S1024x1024_S4x4096x1024_2_0_01_1_n_n none j (shapeCast S1024x1024 w shapeCasts_S1x1024x1024_S1024x1024)

/-- The modulation with a middle axis. -/
def modv (s : FVec Ideal S4x6144 .f32) : FVec Ideal S4x1x6144 .f32 := broadcastInDim S4x1x6144 ![0, 2] bcast_S4x6144_S4x1x6144_0_2 s

/-- The tokens with the product added under the modulation's third vector, as printed. -/
def added (x : FVec Ideal S4x4096x1024 .f32) (s : FVec Ideal S4x6144 .f32) (p : FVec Ideal S4x4096x1024 .f32) : FVec Ideal S4x4096x1024 .f32 :=
  addf x (mulf (broadcastInDim S4x4096x1024 ![0, 1, 2] bcast_S4x1x1024_S4x4096x1024_0_1_2
    (extractStridedSlice S4x1x1024 ![0, 0, 2048] (modv s) slices_S4x1x6144_S4x1x1024_0_0_2048)) p)

/-- The modulated norm, as printed. -/
def norm (x : FVec Ideal S4x4096x1024 .f32) (n : FVec Ideal S1x1024 .f32) (s : FVec Ideal S4x6144 .f32) : FVec Ideal S4x4096x1024 .f32 :=
  addf (mulf (mulf (mulf x (broadcastInDim S4x4096x1024 ![0, 1, 2] bcast_S4x4096x1_S4x4096x1024_0_1_2
      (Host.rsqrt (addf (Host.divf (broadcastInDim S4x4096x1 ![0, 1] bcast_S4x4096_S4x4096x1_0_1
          (Host.reduceAdd (mulf x x) (constant S_ .f32 0x00000000#32) reducesTo_S4x4096x1024_S4x4096_d2 h_S_))
        (broadcastInDim S4x4096x1 ![] bcast_S_S4x4096x1 (constant S_ .f32 0x44800000#32)))
        (broadcastInDim S4x4096x1 ![] bcast_S_S4x4096x1 (constant S_ .f32 0x358637BD#32))))))
      (broadcastInDim S4x4096x1024 ![0, 1, 2] bcast_S1x1x1024_S4x4096x1024_0_1_2
        (broadcastInDim S1x1x1024 ![2] bcast_S1024_S1x1x1024_2 (shapeCast S1024 n shapeCasts_S1x1024_S1024))))
      (broadcastInDim S4x4096x1024 ![0, 1, 2] bcast_S4x1x1024_S4x4096x1024_0_1_2
        (addf (broadcastInDim S4x1x1024 ![] bcast_S_S4x1x1024 (constant S_ .f32 0x3F800000#32))
          (extractStridedSlice S4x1x1024 ![0, 0, 4096] (modv s) slices_S4x1x6144_S4x1x1024_0_0_4096))))
    (broadcastInDim S4x4096x1024 ![0, 1, 2] bcast_S4x1x1024_S4x4096x1024_0_1_2
      (extractStridedSlice S4x1x1024 ![0, 0, 3072] (modv s) slices_S4x1x6144_S4x1x1024_0_0_3072))

/-- An array of tokens, one row after another. -/
def rows (x : FVec Ideal S4x4096x1024 .f32) : FVec Ideal S16384x1024 .f32 := shapeCast S16384x1024 x shapeCasts_S4x4096x1024_S16384x1024

/-- The same in half the width. -/
def short (x : FVec Ideal S16384x1024 .f32) : FVec Ideal S16384x1024 .bf16 := truncf .bf16 x bitsLt_bf16_f32

/-- The tokens with the mixing added, of the arguments. -/
def tokens (x : FVec Ideal S4x4096x1024 .f32) (u : FVec Ideal S16384x512 .f32) (y : FVec Ideal S2x4x4096x512 .f32) (a : FVec Ideal S4x4096x512 .bf16)
    (s : FVec Ideal S4x6144 .f32) (d : FVec Ideal S1x512 .f32) (g : FVec Ideal S1x512x512 .f32) (w : FVec Ideal S1x1024x1024 .f32) :
    FVec Ideal S4x4096x1024 .f32 :=
  added x s (prod (joined (gate (unit (scanned u y d)) g) a) w)

/-- The scans' output at an index. -/
theorem scanned_apply (u : FVec Ideal S16384x512 .f32) (y : FVec Ideal S2x4x4096x512 .f32) (d : FVec Ideal S1x512 .f32) (b : Fin 4) (p : Fin 4096)
    (j : Fin 512) :
    scanned u y d (ix3 b p j) = scan (fun j => u (ix2 (⟨b.val * 4096 + p.val, by omega⟩ : Fin 16384) j)) (fun j => d (ix2 0 j))
      (fun j => y (ix4 0 b p j)) (fun j => y (ix4 1 b p j)) j := by
  pointwise [scanned]
  rfl

/-- The error unit at an index. -/
theorem unit_apply (y : FVec Ideal S4x4096x512 .f32) (b : Fin 4) (p : Fin 4096) (j : Fin 512) : unit y (ix3 b p j) = gelu (y (ix3 b p j)) := by
  pointwise [unit]
  unfold gelu
  rw [mul_comm (y (ix3 b p j)) (y (ix3 b p j) * y (ix3 b p j))]

/-- The gate at an index. -/
theorem gate_apply (g : FVec Ideal S4x4096x512 .f32) (w : FVec Ideal S1x512x512 .f32) (b : Fin 4) (p : Fin 4096) (j : Fin 512) :
    gate g w (ix3 b p j) = g (ix3 b p j) * Ideal.logistic (∑ i : Fin 512, g (ix3 b p i) * w (ix3 0 i j)) := by
  pointwise [gate]
  rfl

/-- The first group of the two at an index. -/
theorem joined_top (s : FVec Ideal S4x4096x512 .f32) (a : FVec Ideal S4x4096x512 .bf16) (b : Fin 4) (p : Fin 4096) (i : Fin 512) :
    joined s a (ix3 b p (top i)) = s (ix3 b p i) := by
  pointwise [joined, top]

/-- The second group at an index. -/
theorem joined_bottom (s : FVec Ideal S4x4096x512 .f32) (a : FVec Ideal S4x4096x512 .bf16) (b : Fin 4) (p : Fin 4096) (i : Fin 512) :
    joined s a (ix3 b p (bottom i)) = a (ix3 b p i) := by
  pointwise [joined, bottom]

/-- A sum over both groups is the sum of the two sums. -/
theorem sum_halves (f : Fin 1024 → EReal) : ∑ i, f i = (∑ i, f (top i)) + ∑ i, f (bottom i) :=
  Fin.sum_univ_add (a := 512) (b := 512) f

/-- The product at an index. -/
theorem prod_apply (s : FVec Ideal S4x4096x512 .f32) (a : FVec Ideal S4x4096x512 .bf16) (w : FVec Ideal S1x1024x1024 .f32) (b : Fin 4) (p : Fin 4096)
    (o : Fin 1024) :
    prod (joined s a) w (ix3 b p o) = mixed (fun i => s (ix3 b p i)) (fun i => a (ix3 b p i)) (fun i o => w (ix3 0 i o)) o := by
  have h : prod (joined s a) w (ix3 b p o) = ∑ i : Fin 1024, joined s a (ix3 b p i) * w (ix3 0 i o) := by
    pointwise [prod]
  rw [h, sum_halves]
  simp only [joined_top, joined_bottom]
  rfl

/-- The tokens with a product added, at an index. -/
theorem added_apply (x : FVec Ideal S4x4096x1024 .f32) (s : FVec Ideal S4x6144 .f32) (q : FVec Ideal S4x4096x1024 .f32) (b : Fin 4) (p : Fin 4096)
    (o : Fin 1024) : added x s q (ix3 b p o) = x (ix3 b p o) + s (ix2 b (part 2048 (by decide) o)) * q (ix3 b p o) := by
  pointwise [added, modv]
  rfl

/-- The modulated norm at an index. -/
theorem norm_apply (x : FVec Ideal S4x4096x1024 .f32) (n : FVec Ideal S1x1024 .f32) (s : FVec Ideal S4x6144 .f32) (b : Fin 4) (p : Fin 4096)
    (o : Fin 1024) : norm x n s (ix3 b p o) = normed (fun e => x (ix3 b p e)) (fun e => n (ix2 0 e)) (fun j => s (ix2 b j)) o := by
  pointwise [norm, modv]
  rfl

/-- The rows at an index. -/
theorem rows_apply (x : FVec Ideal S4x4096x1024 .f32) (i : Fin 16384) (o : Fin 1024) :
    rows x (ix2 i o) = x (ix3 (⟨i.val / 4096, by omega⟩ : Fin 4) (⟨i.val % 4096, by omega⟩ : Fin 4096) o) := by
  pointwise [rows]

/-- The same in half the width, at an index. -/
theorem short_apply (x : FVec Ideal S16384x1024 .f32) (i : Fin 16384) (o : Fin 1024) : short x (ix2 i o) = x (ix2 i o) := by
  pointwise [short]

section
variable (x : FVec Ideal S4x4096x1024 .f32) (u : FVec Ideal S16384x512 .f32) (y : FVec Ideal S2x4x4096x512 .f32) (a : FVec Ideal S4x4096x512 .bf16)
  (s : FVec Ideal S4x6144 .f32) (d : FVec Ideal S1x512 .f32) (g : FVec Ideal S1x512x512 .f32) (w : FVec Ideal S1x1024x1024 .f32)

/-- The tokens at an index. -/
theorem tokens_apply (b : Fin 4) (p : Fin 4096) (o : Fin 1024) :
    tokens x u y a s d g w (ix3 b p o) = after (fun e => x (ix3 b p e)) (fun j => u (ix2 (⟨b.val * 4096 + p.val, by omega⟩ : Fin 16384) j))
      (fun j => d (ix2 0 j)) (fun j => y (ix4 0 b p j)) (fun j => y (ix4 1 b p j)) (fun j => a (ix3 b p j)) (fun j => s (ix2 b j))
      (fun i j => g (ix3 0 i j)) (fun i j => w (ix3 0 i j)) o := by
  unfold tokens
  rw [added_apply, prod_apply]
  simp only [gate_apply, unit_apply, scanned_apply]
  rfl

end

/-- Every run of the reference ends with the tokens' rows, the norms' rows, and its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v67) = rows (tokens (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_v69) = short (rows (norm (tokens (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg8)) (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  Value.run m ρ

end Cert.Reference4Ideal.Mix

end
-- ==== Proof.Post.Equal.lean ====
/-
  THE KERNEL GIVES THE REFERENCE'S TWO RESULTS, whatever extended reals the arguments hold.
-/
module

public import proofs.«01_k».proof.Defs
public import proofs.«01_k».proof.Proof.Post.Array
public import proofs.«01_k».proof.Proof.Post.Run
public import proofs.«01_k».proof.Proof.Post.Reference

@[expose] public section

set_option maxRecDepth 16384

noncomputable section

namespace Cert.PostIdeal.Mix

open Cert.PostIdeal Cert.PostIdeal.Gen Cert.Post.Spec Idealize.ShloMosaic Idealize.ShloMosaic.TcCoe Idealize.SL.Sem
open scoped BigOperators

variable (m : (ℓ : Loc nD τ sig) → Buf (Elt Ideal) ℓ) (c : Dev nD)

/-- The reference's tokens of the kernel's arguments. -/
def tokensOf : FVec Ideal Cert.Reference4Ideal.S4x4096x1024 .f32 :=
  Cert.Reference4Ideal.Mix.tokens (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- A token of the kernel is the reference's at the token's batch and position. -/
theorem row_value (i : Fin 16384) (o : Fin 1024) : afterRow m c i o = tokensOf m c (ix3 (batch i) (pos i) o) := by
  refine Eq.trans ?_ (Cert.Reference4Ideal.Mix.tokens_apply _ _ _ _ _ _ _ _ _ _ _).symm
  have e : (⟨(batch i).val * 4096 + (pos i).val, by have := (batch i).isLt; have := (pos i).isLt; omega⟩ : Fin 16384) = i :=
    Fin.ext (by simp only [batch, pos]; omega)
  exact after_congr (fun _ => rfl) (fun j => congrArg (fun k => m ((c.tc : Thread nD τ).loc main_arg1) (ix2 k j)) e.symm) (fun _ => rfl)
    (fun _ => rfl) (fun _ => rfl) (fun _ => rfl) (fun _ => rfl) (fun _ _ => rfl) (fun _ _ => rfl) o

/-- The first result. -/
theorem after_value : (dats m 0 c).arrAt 12 cfg0.N = Cert.Reference4Ideal.Mix.rows (tokensOf m c) := by
  rw [after_array]
  funext y
  obtain ⟨i, o, rfl⟩ : ∃ (i : Fin 16384) (o : Fin 1024), y = ix2 i o := ⟨y 0, y 1, eq_ix2 y⟩
  refine Eq.trans ?_ (Cert.Reference4Ideal.Mix.rows_apply _ i o).symm
  exact row_value m c i o

/-- The second result. -/
theorem normed_value : (dats m 0 c).arrAt 13 cfg0.N = Cert.Reference4Ideal.Mix.short (Cert.Reference4Ideal.Mix.rows
    (Cert.Reference4Ideal.Mix.norm (tokensOf m c) (m ((c.tc : Thread nD τ).loc main_arg8)) (m ((c.tc : Thread nD τ).loc main_arg4)))) := by
  rw [normed_array]
  funext y
  obtain ⟨i, o, rfl⟩ : ∃ (i : Fin 16384) (o : Fin 1024), y = ix2 i o := ⟨y 0, y 1, eq_ix2 y⟩
  refine Eq.trans ?_ ((Cert.Reference4Ideal.Mix.short_apply _ i o).trans ((Cert.Reference4Ideal.Mix.rows_apply _ i o).trans
    (Cert.Reference4Ideal.Mix.norm_apply _ _ _ _ _ _))).symm
  show normedRow m c i o = _
  unfold normedRow
  exact normed_congr (row_value m c i) (fun _ => rfl) (fun _ => rfl) o

/-- Every run of the kernel and every run of the reference end with equal results and their arguments kept. -/
theorem algebraic : algebraic_PostIdeal_Reference4Ideal := by
  intro m g m' g' _ hargs
  refine ⟨fun c => (dats m 0 c).arrAt 12 cfg0.N, fun c => (dats m 0 c).arrAt 13 cfg0.N, run m g, ?_⟩
  refine (θ_run Cert.Reference4Ideal.defs _ _).mono (fun r h c => ?_) (Cert.Reference4Ideal.Mix.run m' g')
  obtain ⟨h0, h1, hkeep⟩ := h c
  obtain ⟨e0, e1, e2, e3, e4, e5, e6, e7, e8, e9, e10⟩ := hargs c
  rw [e0, e1, e2, e3, e4, e5, e6, e7] at h0 h1
  rw [e8] at h1
  exact ⟨h0.trans (after_value m c).symm, h1.trans (normed_value m c).symm, hkeep⟩

end Cert.PostIdeal.Mix

end
-- ==== Proof.Latent.Spec.lean ====
/-
  THE ROTATION OF A ROW'S QUERIES AND KEYS, in the extended reals: the angle of a position and a frequency, and each column with its mate
  sixteen columns away, turned by the angle of its half.
-/
module

public import proofs.«01_k».proof.Proof.Prompt.Spec

@[expose] public section

noncomputable section

namespace Cert.Latent.Spec

open Idealize.ShloMosaic
open scoped BigOperators

/-- The column a column is turned with: sixteen further in the first half of each thirty-two, sixteen back in the second. -/
def mate (o : Fin 512) : Fin 512 := ⟨if o.val % 32 < 16 then o.val + 16 else o.val - 16, by split <;> omega⟩

/-- A turned column from a table of cosines and a table of signed sines over 128 lanes. -/
def turned (f : Fin 512 → EReal) (c s : Fin 128 → EReal) (o : Fin 512) : EReal :=
  f o * c ⟨o.val % 128, by omega⟩ + f (mate o) * s ⟨o.val % 128, by omega⟩

/-- The angle of a row or column number of the grid at a frequency: the number times the base to the frequency's part of sixteen, negated. -/
def angle (n d : ℕ) : EReal :=
  FloatOps.sitofp (F := Ideal) FTy.f32 (BitVec.ofNat 32 n) * Ideal.pow (Ideal.ofBits FTy.f32 0x461C4000#32)
    (Ideal.div (-FloatOps.sitofp (F := Ideal) FTy.f32 (BitVec.ofNat 32 d)) (Ideal.ofBits FTy.f32 0x41800000#32))

/-- A column's angle at a position: the grid row's in the first half of each head's 64 columns, the grid column's in the second. -/
def theta (p : Fin 4096) (o : ℕ) : EReal := angle (if o % 64 < 32 then p.val / 64 else p.val % 64) (o % 16)

/-- A lane's sine at a position, negated in the first half of each thirty-two lanes. -/
def signedSin (p : Fin 4096) (l : Fin 128) : EReal := if l.val % 32 < 16 then -Ideal.sin (theta p l.val) else Ideal.sin (theta p l.val)

/-- A row's columns turned at a position. -/
def spun (f : Fin 512 → EReal) (p : Fin 4096) (o : Fin 512) : EReal := turned f (fun l => Ideal.cos (theta p l.val)) (signedSin p) o

/-- Equal rows and tables give equal turned columns. -/
theorem turned_congr {f f' : Fin 512 → EReal} {c c' s s' : Fin 128 → EReal} (hf : ∀ o, f o = f' o) (hc : ∀ l, c l = c' l)
    (hs : ∀ l, s l = s' l) (o : Fin 512) : turned f c s o = turned f' c' s' o := by
  obtain rfl : f = f' := funext hf
  obtain rfl : c = c' := funext hc
  obtain rfl : s = s' := funext hs
  rfl

/-- A lane's angle from one of the four quarters of a head's 64 columns. -/
theorem theta_eq (p : Fin 4096) (l : ℕ) {n d : ℕ} (hn : n = if l % 64 < 32 then p.val / 64 else p.val % 64) (hd : d = l % 16) :
    theta p l = angle n d := by
  subst hn hd
  rfl

/-- The angle depends on the column within its head's 64 only. -/
theorem theta_mod (p : Fin 4096) {l l' : ℕ} (h : l % 64 = l' % 64) : theta p l = theta p l' := by
  unfold theta
  rw [h, show l % 16 = l' % 16 by omega]

/-- A turned column of a first sixteen: its cosine part less its mate's sine part. -/
theorem spun_ahead (f : Fin 512 → EReal) (p : Fin 4096) (o : Fin 512) {k l : ℕ} {hk : k < 512} (h : o.val % 32 < 16) (e : k = o.val + 16)
    (hl : l % 64 = o.val % 64) : f o * Ideal.cos (theta p l) - f ⟨k, hk⟩ * Ideal.sin (theta p l) = spun f p o := by
  have hm : (⟨k, hk⟩ : Fin 512) = mate o := Fin.ext (by simp only [mate, h, if_true]; exact e)
  simp only [spun, turned, signedSin]
  rw [if_pos (by omega), hm, theta_mod p (l := l) (l' := o.val % 128) (by omega), sub_eq_add_neg, mul_neg]

/-- A turned column of a second sixteen: its cosine part and its mate's sine part. -/
theorem spun_back (f : Fin 512 → EReal) (p : Fin 4096) (o : Fin 512) {k l : ℕ} {hk : k < 512} (h : ¬ o.val % 32 < 16) (e : k = o.val - 16)
    (hl : l % 64 = o.val % 64) : f o * Ideal.cos (theta p l) + f ⟨k, hk⟩ * Ideal.sin (theta p l) = spun f p o := by
  have hm : (⟨k, hk⟩ : Fin 512) = mate o := Fin.ext (by simp only [mate, h, if_false]; exact e)
  simp only [spun, turned, signedSin]
  rw [if_neg (by omega), hm, theta_mod p (l := l) (l' := o.val % 128) (by omega)]

/-- Equal rows give equal turned columns at one position. -/
theorem spun_congr {f f' : Fin 512 → EReal} (p : Fin 4096) (h : ∀ o, f o = f' o) (o : Fin 512) : spun f p o = spun f' p o := by
  rw [show f = f' from funext h]

end Cert.Latent.Spec

end
-- ==== Proof.Latent.Value.lean ====
/-
  WHAT ONE GRID POINT OF THE KERNEL STORES, at an index: the four quarters of the projection of a block of rows, the second and third of
  them turned by the tables of the rows' positions.
-/
module

public import proofs.«01_k».proof.Proof.Gen.LatentIdeal.Frame
public import proofs.«01_k».proof.Proof.Latent.Spec
public import Idealize.ShloMosaic.Lib.Pipeline.ValueKit
public import Idealize.ShloMosaic.Lib.Pointwise

@[expose] public section

set_option maxRecDepth 16384

noncomputable section

namespace Cert.LatentIdeal.Rot

open Cert.LatentIdeal Cert.LatentIdeal.Gen Cert.InProj.Spec Cert.Latent.Spec Idealize.ShloMosaic Idealize.ShloMosaic.TcCoe Idealize.SL.Sem
open scoped BigOperators

/-- The lane's remainder by 32, as the body computes it. -/
def lane : IVec S1024x128 32 := k0_pay29

/-- The lanes whose mate lies ahead. -/
theorem lane_lt (r : Fin 1024) (l : Fin 128) : cmpi .slt lane (broadcast S1024x128 16#32) (ix2 r l) = if l.val % 32 < 16 then 1#1 else 0#1 := by
  have h : ∀ l : Fin 128, cmpi .slt lane (broadcast S1024x128 16#32) (ix2 (0 : Fin 1024) l) = if l.val % 32 < 16 then 1#1 else 0#1 := by
    decide +kernel
  exact h l

/-- One group of 128 lanes turned. -/
def turn (x c s : FVec Ideal S1024x128 .f32) : FVec Ideal S1024x128 .f32 :=
  addf (mulf x c) (mulf (select (cmpi .slt lane (broadcast S1024x128 16#32)) (dynamicRotate 1 112#32 none x rotates_S1024x128_d1)
    (dynamicRotate 1 16#32 none x rotates_S1024x128_d1)) s)

/-- A turned group at an index. -/
theorem turn_apply (x c s : FVec Ideal S1024x128 .f32) (r : Fin 1024) (l : Fin 128) :
    turn x c s (ix2 r l) = x (ix2 r l) * c (ix2 r l)
      + x (ix2 r ⟨if l.val % 32 < 16 then l.val + 16 else l.val - 16, by split <;> omega⟩) * s (ix2 r l) := by
  have h := lane_lt r l
  unfold turn
  generalize cmpi .slt lane (broadcast S1024x128 16#32) = p at h ⊢
  pointwise
  rw [h]
  split
  · next hl => rw [show ∀ a b : EReal, Scalar.select 1#1 a b = a from fun _ _ => rfl]; congr 4; apply Fin.ext; simp only [hl, if_true]; omega
  · next hl => rw [show ∀ a b : EReal, Scalar.select 0#1 a b = b from fun _ _ => rfl]; congr 4; apply Fin.ext; simp only [hl, if_false]; omega

section
variable (y : FVec Ideal S1024x512 .f32) (c s : FVec Ideal S1024x128 .f32)

/-- A column turned in its own group is the row's column turned. -/
theorem turned_group (f : Fin 512 → EReal) (c s : Fin 128 → EReal) (o : Fin 512) {l i i' : Nat} {hl : l < 128} {hi : i < 512} {hi' : i' < 512}
    (e : l = o.val % 128) (e1 : i = o.val) (e2 : i' = o.val - o.val % 128 + if l % 32 < 16 then l + 16 else l - 16) :
    f ⟨i, hi⟩ * c ⟨l, hl⟩ + f ⟨i', hi'⟩ * s ⟨l, hl⟩ = turned f c s o := by
  subst e e1
  obtain h : (⟨i', hi'⟩ : Fin 512) = mate o := Fin.ext (by
    show i' = if o.val % 32 < 16 then o.val + 16 else o.val - 16
    rw [e2]
    split <;> split <;> omega)
  rw [h]
  rfl

/-- The four turned groups side by side. -/
def turns : FVec Ideal S1024x512 .f32 :=
  concatenate S1024x512 1 [⟨S1024x128, turn (extractStridedSlice S1024x128 ![0, 0] y slices_S1024x512_o0_0_S1024x128) c s⟩,
    ⟨S1024x128, turn (extractStridedSlice S1024x128 ![0, 128] y slices_S1024x512_o0_128_S1024x128) c s⟩,
    ⟨S1024x128, turn (extractStridedSlice S1024x128 ![0, 256] y slices_S1024x512_o0_256_S1024x128) c s⟩,
    ⟨S1024x128, turn (extractStridedSlice S1024x128 ![0, 384] y slices_S1024x512_o0_384_S1024x128) c s⟩]
    concatenates_S1024x128_S1024x128_S1024x128_S1024x128_S1024x512_d1

/-- The turned columns at an index. -/
theorem turns_apply (r : Fin 1024) (o : Fin 512) :
    turns y c s (ix2 r o) = turned (fun o => y (ix2 r o)) (fun l => c (ix2 r l)) (fun l => s (ix2 r l)) o := by
  unfold turns
  pointwise
  split
  · rw [turn_apply]; pointwise; exact turned_group (fun o => y (ix2 r o)) (fun l => c (ix2 r l)) (fun l => s (ix2 r l)) o (by omega) (by omega) (by omega)
  split
  · rw [turn_apply]; pointwise; exact turned_group (fun o => y (ix2 r o)) (fun l => c (ix2 r l)) (fun l => s (ix2 r l)) o (by omega) (by omega) (by omega)
  split
  · rw [turn_apply]; pointwise; exact turned_group (fun o => y (ix2 r o)) (fun l => c (ix2 r l)) (fun l => s (ix2 r l)) o (by omega) (by omega) (by omega)
  · rw [turn_apply]; pointwise; exact turned_group (fun o => y (ix2 r o)) (fun l => c (ix2 r l)) (fun l => s (ix2 r l)) o (by omega) (by omega) (by omega)

end

section
variable (x : Vec Ideal S1024x1024 .f32) (s : Vec Ideal S1x1x6144 .f32) (n : Vec Ideal S1x1024 .f32) (w : Vec Ideal S1024x2048 .bf16)
  (a b : Vec Ideal S1024x128 .f32)

/-- The projection of a block of rows at an index. -/
theorem proj_apply (r : Fin 1024) (o : Fin 2048) :
    k0_pay1 x n s w (ix2 r o) = proj (fun d => x (ix2 r d)) (fun d => n (ix2 0 d)) (fun j => s (ix3 0 0 j)) (fun d o => w (ix2 d o)) o := by
  pointwise [k0_pay1]
  rfl

/-- The first quarter's stored block at an index. -/
theorem u_block (r : Fin 1024) (o : Fin 512) :
    out0_6 x s n w a b (ix2 r o) = proj (fun d => x (ix2 r d)) (fun d => n (ix2 0 d)) (fun j => s (ix3 0 0 j)) (fun d o => w (ix2 d o)) ⟨o.val, by omega⟩ := by
  have e : out0_6 x s n w a b = k0_pay2 x n s w := by
    unfold out0_6
    frame_out
  rw [e]
  pointwise [k0_pay2]
  rw [proj_apply]

/-- The fourth quarter's. -/
theorem v_block (r : Fin 1024) (o : Fin 512) :
    out0_9 x s n w a b (ix2 r o) = proj (fun d => x (ix2 r d)) (fun d => n (ix2 0 d)) (fun j => s (ix3 0 0 j)) (fun d o => w (ix2 d o)) ⟨1536 + o.val, by omega⟩ := by
  have e : out0_9 x s n w a b = k0_pay32 (k0_pay5 x n s w) := by
    unfold out0_9
    frame_out
  rw [e]
  pointwise [k0_pay5, k0_pay32]
  rw [proj_apply]

/-- The third quarter's, turned. -/
theorem k_block (r : Fin 1024) (o : Fin 512) :
    out0_8 x s n w a b (ix2 r o) = turned (fun o => proj (fun d => x (ix2 r d)) (fun d => n (ix2 0 d)) (fun j => s (ix3 0 0 j)) (fun d o => w (ix2 d o)) ⟨1024 + o.val, by omega⟩)
      (fun l => a (ix2 r l)) (fun l => b (ix2 r l)) o := by
  have e : out0_8 x s n w a b = truncf .bf16 (turns (k0_pay4 x n s w) (k0_pay6 a) (k0_pay7 b)) bitsLt_bf16_f32 := by
    unfold out0_8 k0_pay36 k0_pay35 k0_pay34
    frame_out
    rfl
  rw [e]
  refine (turns_apply _ _ _ r o).trans (turned_congr (fun o => ?_) (fun l => ?_) (fun l => ?_) o)
  · pointwise [k0_pay4]
    rw [proj_apply]
  · pointwise [k0_pay6]
  · pointwise [k0_pay7]

/-- The second quarter's, turned and scaled. -/
theorem q_block (r : Fin 1024) (o : Fin 512) :
    out0_7 x s n w a b (ix2 r o) = turned (fun o => proj (fun d => x (ix2 r d)) (fun d => n (ix2 0 d)) (fun j => s (ix3 0 0 j)) (fun d o => w (ix2 d o)) ⟨512 + o.val, by omega⟩)
      (fun l => a (ix2 r l)) (fun l => b (ix2 r l)) o * Ideal.ofBits FTy.f32 0x3E000000#32 := by
  have e : out0_7 x s n w a b = k0_pay30 (turns (k0_pay3 x n s w) (k0_pay6 a) (k0_pay7 b)) := by
    unfold out0_7 k0_pay36 k0_pay35 k0_pay33
    frame_out
    rfl
  rw [e]
  have h : k0_pay30 (turns (k0_pay3 x n s w) (k0_pay6 a) (k0_pay7 b)) (ix2 r o)
      = turns (k0_pay3 x n s w) (k0_pay6 a) (k0_pay7 b) (ix2 r o) * Ideal.ofBits FTy.f32 0x3E000000#32 := by
    generalize turns (k0_pay3 x n s w) (k0_pay6 a) (k0_pay7 b) = y
    pointwise [k0_pay30]
  rw [h]
  congr 1
  refine (turns_apply _ _ _ r o).trans (turned_congr (fun o => ?_) (fun l => ?_) (fun l => ?_) o)
  · pointwise [k0_pay3]
    rw [proj_apply]
  · pointwise [k0_pay6]
  · pointwise [k0_pay7]

end

end Cert.LatentIdeal.Rot

end
-- ==== Proof.Latent.Array.lean ====
/-
  THE KERNEL'S RESULT ARRAYS from its arguments: what each window of a grid point holds, the tables of cosines and sines, and the four
  arrays the points fill.
-/
module

public import proofs.«01_k».proof.Proof.Latent.Value
public import Idealize.ShloMosaic.Lib.ValueIdx
public import Idealize.ShloMosaic.Lib.StableHlo.RunRead

@[expose] public section

set_option maxRecDepth 16384

noncomputable section

namespace Cert.LatentIdeal.Rot

open Cert.LatentIdeal Cert.LatentIdeal.Gen Cert.InProj.Spec Cert.Latent.Spec Idealize.ShloMosaic Idealize.ShloMosaic.TcCoe Idealize.SL.Sem
open scoped BigOperators

variable (m : (ℓ : Loc nD τ sig) → Buf (Elt Ideal) ℓ) (c : Dev nD)

/-- The block indices of the kernel's windows at a grid point. -/
theorem idx : ∀ t : Fin cfg0.N,
    win0_0.index t = ![(grid0.coords t 0).val, 0] ∧ win0_1.index t = ![(grid0.coords t 0).val / 4, 0, 0] ∧ win0_2.index t = ![0, 0]
    ∧ win0_3.index t = ![0, 0] ∧ win0_4.index t = ![(grid0.coords t 0).val % 4, 0] ∧ win0_5.index t = ![(grid0.coords t 0).val % 4, 0]
    ∧ win0_6.index t = ![(grid0.coords t 0).val, 0] ∧ win0_7.index t = ![(grid0.coords t 0).val, 0]
    ∧ win0_8.index t = ![(grid0.coords t 0).val, 0] ∧ win0_9.index t = ![(grid0.coords t 0).val, 0] :=
  (by decide +kernel : ∀ t : Fin grid0.N, _)

/-- A grid coordinate is below 16. -/
theorem coord_lt (t : Fin cfg0.N) : (grid0.coords t 0).val < 16 := (grid0.coords t 0).isLt

/-- Row `r` of a point's block, as a row of the tokens. -/
def row (t : Fin cfg0.N) (r : Fin 1024) : Fin 16384 := ⟨1024 * (grid0.coords t 0).val + r.val, by have := coord_lt t; omega⟩

/-- The batch of a token. -/
def batch (i : Fin 16384) : Fin 4 := ⟨i.val / 4096, by omega⟩
/-- The position of a token in its batch. -/
def pos (i : Fin 16384) : Fin 4096 := ⟨i.val % 4096, by omega⟩

/-- The tokens, as rows. -/
theorem x_host (i : Fin 16384) (e : Fin 1024) : V m c main_v3 (ix2 i e) = m ((c.tc : Thread nD τ).loc main_arg0) (ix3 (batch i) (pos i) e) := by
  entry_read
  pointwise
  rfl

/-- The modulations. -/
theorem s_host (b : Fin 4) (j : Fin 6144) : V m c main_v0 (ix3 b 0 j) = m ((c.tc : Thread nD τ).loc main_arg1) (ix2 b j) := by
  entry_read
  pointwise

/-- The norm's weight. -/
theorem n_host (e : Fin 1024) : V m c main_v46 (ix2 0 e) = m ((c.tc : Thread nD τ).loc main_arg2) (ix2 0 e) := by
  entry_read
  pointwise

/-- The input weights. -/
theorem w_host (i : Fin 1024) (o : Fin 2048) : V m c main_v2 (ix2 i o) = m ((c.tc : Thread nD τ).loc main_arg3) (ix3 0 i o) := by
  entry_read
  pointwise

/-- The table of cosines. -/
theorem cos_host (p : Fin 4096) (l : Fin 128) :
    V m c main_v42 (ix2 p l) = (show Elt Ideal (Proc.tc.devRef main_v42 : DevRef τ sig).ty.elt from Ideal.cos (theta p l.val)) := by
  after_reads_simp
  pointwise
  after_reads_simp
  pointwise
  split
  · rw [theta_eq p l.val (n := p.val / 64) (d := l.val % 64) (by split <;> omega) (by omega)]; rfl
  split
  · rw [theta_eq p l.val (n := p.val / 64) (d := l.val % 64 - 16) (by split <;> omega) (by omega)]; rfl
  split
  · rw [theta_eq p l.val (n := p.val % 64) (d := l.val % 64 - 16 - 16) (by split <;> omega) (by omega)]; rfl
  · rw [theta_eq p l.val (n := p.val % 64) (d := l.val % 64 - 16 - 16 - 16) (by split <;> omega) (by omega)]; rfl

/-- The table of signed sines. -/
theorem sin_host (p : Fin 4096) (l : Fin 128) :
    V m c main_v45 (ix2 p l) = (show Elt Ideal (Proc.tc.devRef main_v45 : DevRef τ sig).ty.elt from signedSin p l) := by
  after_reads_simp
  pointwise
  after_reads_simp
  pointwise
  unfold signedSin
  split
  · rw [if_pos (by omega), theta_eq p l.val (n := p.val / 64) (d := l.val % 64) (by split <;> omega) (by omega)]; rfl
  split
  · rw [if_neg (by omega), theta_eq p l.val (n := p.val / 64) (d := l.val % 64 - 16) (by split <;> omega) (by omega)]; rfl
  split
  · rw [if_pos (by omega), theta_eq p l.val (n := p.val % 64) (d := l.val % 64 - 16 - 16) (by split <;> omega) (by omega)]; rfl
  · rw [if_neg (by omega), theta_eq p l.val (n := p.val % 64) (d := l.val % 64 - 16 - 16 - 16) (by split <;> omega) (by omega)]; rfl

/-- The batch of a point's modulation block is its rows' batch. -/
theorem batch_row (t : Fin cfg0.N) (r : Fin 1024) : (batch (row t r)).val = (grid0.coords t 0).val / 4 := by
  have := coord_lt t
  simp only [batch, row]
  omega

/-- The rows of a point's table blocks are its rows' positions. -/
theorem pos_row (t : Fin cfg0.N) (r : Fin 1024) : (pos (row t r)).val = 1024 * ((grid0.coords t 0).val % 4) + r.val := by
  have := coord_lt t
  simp only [pos, row]
  omega

/-- The block of tokens. -/
theorem blk0 (t : Fin cfg0.N) (r : Fin 1024) (e : Fin 1024) : iblk m c 0 t (ix2 r e) = V m c main_v3 (ix2 (row t r) e) := by
  blk_ext! [iblk, idx t, row]
/-- The block of the modulation. -/
theorem blk1 (t : Fin cfg0.N) (r : Fin 1024) (j : Fin 6144) : iblk m c 1 t (ix3 0 0 j) = V m c main_v0 (ix3 (batch (row t r)) 0 j) := by
  blk_ext! [iblk, idx t, batch_row t r]
/-- The norm's weight. -/
theorem blk2 (t : Fin cfg0.N) (e : Fin 1024) : iblk m c 2 t (ix2 0 e) = V m c main_v46 (ix2 0 e) := by
  blk_ext! [iblk, idx t]
/-- The input weights. -/
theorem blk3 (t : Fin cfg0.N) (i : Fin 1024) (o : Fin 2048) : iblk m c 3 t (ix2 i o) = V m c main_v2 (ix2 i o) := by
  blk_ext! [iblk, idx t]
/-- The block of the cosines. -/
theorem blk4 (t : Fin cfg0.N) (r : Fin 1024) (l : Fin 128) : iblk m c 4 t (ix2 r l) = V m c main_v42 (ix2 (pos (row t r)) l) := by
  blk_ext! [iblk, idx t, pos_row t r]
/-- The block of the sines. -/
theorem blk5 (t : Fin cfg0.N) (r : Fin 1024) (l : Fin 128) : iblk m c 5 t (ix2 r l) = V m c main_v45 (ix2 (pos (row t r)) l) := by
  blk_ext! [iblk, idx t, pos_row t r]

/-- A token's projection, from the arguments. -/
def projRow (i : Fin 16384) (o : Fin 2048) : EReal :=
  proj (fun e => m ((c.tc : Thread nD τ).loc main_arg0) (ix3 (batch i) (pos i) e)) (fun e => m ((c.tc : Thread nD τ).loc main_arg2) (ix2 0 e))
    (fun j => m ((c.tc : Thread nD τ).loc main_arg1) (ix2 (batch i) j)) (fun d o => m ((c.tc : Thread nD τ).loc main_arg3) (ix3 0 d o)) o

/-- The projection of a point's row is the token's of the arguments. -/
theorem projBlk_eq (t : Fin cfg0.N) (r : Fin 1024) (o : Fin 2048) :
    proj (fun d => iblk m c 0 t (ix2 r d)) (fun d => iblk m c 2 t (ix2 0 d)) (fun j => iblk m c 1 t (ix3 0 0 j)) (fun d o => iblk m c 3 t (ix2 d o)) o
      = projRow m c (row t r) o := by
  unfold projRow
  exact proj_congr (fun e => (blk0 m c t r e).trans (x_host m c _ e)) (fun e => (blk2 m c t e).trans (n_host m c e))
    (fun j => (blk1 m c t r j).trans (s_host m c _ j)) (fun i j => (blk3 m c t i j).trans (w_host m c i j)) o

/-- A quarter of a token's projection, turned at the token's position. -/
def spunRow (k : Fin 4) (i : Fin 16384) (o : Fin 512) : EReal := spun (fun o => projRow m c i ⟨512 * k.val + o.val, by omega⟩) (pos i) o

/-- The first result array. -/
def uArr : Vec Ideal S16384x512 .f32 := fun y => projRow m c (y 0) (⟨(show Fin 512 from y 1).val, by omega⟩)
/-- The queries. -/
def qArr : Vec Ideal S16384x512 .bf16 := fun y => spunRow m c 1 (y 0) (y 1) * Ideal.ofBits FTy.f32 0x3E000000#32
/-- The keys. -/
def kArr : Vec Ideal S16384x512 .bf16 := fun y => spunRow m c 2 (y 0) (y 1)
/-- The values. -/
def vArr : Vec Ideal S16384x512 .bf16 := fun y => projRow m c (y 0) (⟨1536 + (show Fin 512 from y 1).val, by omega⟩)

/-- A point's turned quarter is the token's. -/
theorem spunBlk_eq (k : Fin 4) (t : Fin cfg0.N) (r : Fin 1024) (o : Fin 512) {g : Fin 512 → EReal}
    (hg : ∀ o, g o = projRow m c (row t r) ⟨512 * k.val + o.val, by omega⟩) :
    turned g (fun l => iblk m c 4 t (ix2 r l)) (fun l => iblk m c 5 t (ix2 r l)) o = spunRow m c k (row t r) o := by
  unfold spunRow spun
  exact turned_congr hg (fun l => (blk4 m c t r l).trans (cos_host m c _ l)) (fun l => (blk5 m c t r l).trans (sin_host m c _ l)) o

/-- The first array the kernel leaves. -/
theorem u_array : (dats m 0 c).arrAt 6 cfg0.N = uArr m c := by
  refine (dats m 0 c).arrAt_eq_of_covers 6 _ (by decide +kernel) fun t hf y => ?_
  blk_simp
  rw [after0_6]
  obtain ⟨r, o, rfl⟩ : ∃ (r : Fin 1024) (o : Fin 512), y = ix2 r o := ⟨y 0, y 1, eq_ix2 y⟩
  rw [u_block]
  have hy : (win0_6.blk t).view.emb (ix2 r o) = ix2 (row t r) o := by
    blk_ext! [idx t, row]
  rw [hy]
  exact projBlk_eq m c t r _

/-- The queries it leaves. -/
theorem q_array : (dats m 0 c).arrAt 7 cfg0.N = qArr m c := by
  refine (dats m 0 c).arrAt_eq_of_covers 7 _ (by decide +kernel) fun t hf y => ?_
  blk_simp
  rw [after0_7]
  obtain ⟨r, o, rfl⟩ : ∃ (r : Fin 1024) (o : Fin 512), y = ix2 r o := ⟨y 0, y 1, eq_ix2 y⟩
  rw [q_block]
  have hy : (win0_7.blk t).view.emb (ix2 r o) = ix2 (row t r) o := by
    blk_ext! [idx t, row]
  rw [hy]
  exact congrArg (· * Ideal.ofBits FTy.f32 0x3E000000#32) (spunBlk_eq m c 1 t r o fun o => projBlk_eq m c t r _)

/-- The keys it leaves. -/
theorem k_array : (dats m 0 c).arrAt 8 cfg0.N = kArr m c := by
  refine (dats m 0 c).arrAt_eq_of_covers 8 _ (by decide +kernel) fun t hf y => ?_
  blk_simp
  rw [after0_8]
  obtain ⟨r, o, rfl⟩ : ∃ (r : Fin 1024) (o : Fin 512), y = ix2 r o := ⟨y 0, y 1, eq_ix2 y⟩
  rw [k_block]
  have hy : (win0_8.blk t).view.emb (ix2 r o) = ix2 (row t r) o := by
    blk_ext! [idx t, row]
  rw [hy]
  exact spunBlk_eq m c 2 t r o fun o => projBlk_eq m c t r _

/-- The values it leaves. -/
theorem v_array : (dats m 0 c).arrAt 9 cfg0.N = vArr m c := by
  refine (dats m 0 c).arrAt_eq_of_covers 9 _ (by decide +kernel) fun t hf y => ?_
  blk_simp
  rw [after0_9]
  obtain ⟨r, o, rfl⟩ : ∃ (r : Fin 1024) (o : Fin 512), y = ix2 r o := ⟨y 0, y 1, eq_ix2 y⟩
  rw [v_block]
  have hy : (win0_9.blk t).view.emb (ix2 r o) = ix2 (row t r) o := by
    blk_ext! [idx t, row]
  rw [hy]
  exact projBlk_eq m c t r _

end Cert.LatentIdeal.Rot

end
-- ==== Proof.Latent.Run.lean ====
/-
  THE RUN of the latent projection's kernel to the end: the four result arrays are what its points wrote, and the arguments are kept.
-/
module

public import proofs.«01_k».proof.Proof.Gen.LatentIdeal.Frame

@[expose] public section

set_option maxRecDepth 16384

noncomputable section

namespace Cert.LatentIdeal.Rot

open Cert.LatentIdeal Cert.LatentIdeal.Gen Idealize.ShloMosaic Idealize.ShloMosaic.TcCoe Idealize.SL.Sem

variable {F : FTy → Type} [FloatOps F] (m : (ℓ : Loc nD τ sig) → Buf (Elt F) ℓ) (ρ : Dev nD → PrngReg)

/-- A buffer that is no window's array ends as the host operations before the kernel left it. -/
theorem rest (r : PUnit × MemSt nD τ sig (Elt F)) (h : Pipeline.FramePost cfgs (dats m) 0 (V m) r) (c : Dev nD) (b : Ref sig .tc)
    (h1 : b.isScoped = false) (h2 : ∀ w : Fin (cfgs 0).W, ((cfgs 0).spec w).arr.view.ref ≠ b) :
    r.2.mem ((c.tc : Thread nD τ).loc b) = V m c b :=
  (h c).2 b (Pipeline.mem_restRefs_of b h1 h2)

/-- Every run ends with the four arrays that the points filled, and the arguments as they were. -/
theorem run : θ_run defs (onTc (τ := τ) (main (F := F))) ⟨m, fun _ => 0, ρ⟩ fun r => ∀ c : Dev nD,
    r.2.mem ((c.tc : Thread nD τ).loc main_v47_0) = (dats m 0 c).arrAt 6 cfg0.N
    ∧ r.2.mem ((c.tc : Thread nD τ).loc main_v47_1) = (dats m 0 c).arrAt 7 cfg0.N
    ∧ r.2.mem ((c.tc : Thread nD τ).loc main_v47_2) = (dats m 0 c).arrAt 8 cfg0.N
    ∧ r.2.mem ((c.tc : Thread nD τ).loc main_v47_3) = (dats m 0 c).arrAt 9 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ?_) (run_main m ρ)
  have k := rest m r h c
  exact ⟨(h c).1 6, (h c).1 7, (h c).1 8, (h c).1 9, (k main_arg0 (by decide) (by decide)).trans (V_main_arg0 m c),
    (k main_arg1 (by decide) (by decide)).trans (V_main_arg1 m c), (k main_arg2 (by decide) (by decide)).trans (V_main_arg2 m c),
    (k main_arg3 (by decide) (by decide)).trans (V_main_arg3 m c)⟩

end Cert.LatentIdeal.Rot

end
-- ==== Proof.Latent.Reference.lean ====
/-
  THE LATENT PROJECTION'S REFERENCE, stage by stage: the modulated norm of the tokens, their product with the input weights, the angles
  of the grid's rows and columns, the rotation of the heads' columns in pairs, and the four results.
-/
module

public import proofs.«01_k».proof.Proof.Gen.Reference5Ideal.Run
public import proofs.«01_k».proof.Proof.Latent.Spec
public import Idealize.ShloMosaic.Lib.Pointwise
public import Idealize.ShloMosaic.Lib.ValueIdx
public import Idealize.ShloMosaic.Lib.Claim

@[expose] public section

set_option maxRecDepth 16384

noncomputable section

namespace Cert.Reference5Ideal.Rot

open Cert.Reference5Ideal Cert.Reference5Ideal.Gen Cert.InProj.Spec Cert.Latent.Spec Idealize.ShloMosaic Idealize.ShloMosaic.TcCoe Idealize.SL.Sem
open scoped BigOperators

/-- The modulation with a middle axis. -/
def modv (s : FVec Ideal S4x6144 .f32) : FVec Ideal S4x1x6144 .f32 := broadcastInDim S4x1x6144 ![0, 2] bcast_S4x6144_S4x1x6144_0_2 s

/-- The modulated norm of every token, as printed. -/
def hidden (x : FVec Ideal S4x4096x1024 .f32) (s : FVec Ideal S4x6144 .f32) (n : FVec Ideal S1x1024 .f32) : FVec Ideal S4x4096x1024 .f32 :=
  addf (mulf (mulf (mulf x (broadcastInDim S4x4096x1024 ![0, 1, 2] bcast_S4x4096x1_S4x4096x1024_0_1_2
      (Host.rsqrt (addf (Host.divf (broadcastInDim S4x4096x1 ![0, 1] bcast_S4x4096_S4x4096x1_0_1
          (Host.reduceAdd (mulf x x) (constant S_ .f32 0x00000000#32) reducesTo_S4x4096x1024_S4x4096_d2 h_S_))
        (broadcastInDim S4x4096x1 ![] bcast_S_S4x4096x1 (constant S_ .f32 0x44800000#32)))
        (broadcastInDim S4x4096x1 ![] bcast_S_S4x4096x1 (constant S_ .f32 0x358637BD#32))))))
      (broadcastInDim S4x4096x1024 ![0, 1, 2] bcast_S1x1x1024_S4x4096x1024_0_1_2
        (broadcastInDim S1x1x1024 ![2] bcast_S1024_S1x1x1024_2 (shapeCast S1024 n shapeCasts_S1x1024_S1024))))
      (broadcastInDim S4x4096x1024 ![0, 1, 2] bcast_S4x1x1024_S4x4096x1024_0_1_2
        (addf (broadcastInDim S4x1x1024 ![] bcast_S_S4x1x1024 (constant S_ .f32 0x3F800000#32))
          (extractStridedSlice S4x1x1024 ![0, 0, 1024] (modv s) slices_S4x1x6144_S4x1x1024_0_0_1024))))
    (broadcastInDim S4x4096x1024 ![0, 1, 2] bcast_S4x1x1024_S4x4096x1024_0_1_2
      (extractStridedSlice S4x1x1024 ![0, 0, 0] (modv s) slices_S4x1x6144_S4x1x1024_0_0_0))

/-- The product with the input weights, as printed. -/
def prod (x : FVec Ideal S4x4096x1024 .f32) (s : FVec Ideal S4x6144 .f32) (n : FVec Ideal S1x1024 .f32) (w : FVec Ideal S1x1024x2048 .f32) :
    FVec Ideal S4x4096x2048 .f32 :=
  Host.dotGeneral dot_S4x4096x1024_S1024x2048_S4x4096x2048_2_0_01_1_n_n none (hidden x s n) (shapeCast S1024x2048 w shapeCasts_S1x1024x2048_S1024x2048)

/-- The grid's row number of every position. -/
def rowNo : FVec Ideal S4096 .f32 :=
  shapeCast S4096 (broadcastInDim S64x64 ![0] bcast_S64_S64x64_0 (sitofp .f32 (iotaInDim S64 32 0))) shapeCasts_S64x64_S4096

/-- The grid's column number of every position. -/
def colNo : FVec Ideal S4096 .f32 :=
  shapeCast S4096 (broadcastInDim S64x64 ![0, 1] bcast_S1x64_S64x64_0_1 (shapeCast S1x64 (sitofp .f32 (iotaInDim S64 32 0)) shapeCasts_S64_S1x64))
    shapeCasts_S64x64_S4096

/-- The sixteen frequencies. -/
def freq : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- The angles of numbered positions. -/
def angles (a : FVec Ideal S4096 .f32) : FVec Ideal S4096x16 .f32 :=
  mulf (broadcastInDim S4096x16 ![0, 1] bcast_S4096x1_S4096x16_0_1 (broadcastInDim S4096x1 ![0] bcast_S4096_S4096x1_0 a))
    (broadcastInDim S4096x16 ![0, 1] bcast_S1x16_S4096x16_0_1 (broadcastInDim S1x16 ![1] bcast_S16_S1x16_1 freq))

/-- A table over positions and frequencies, for every batch and head. -/
def spread (t : FVec Ideal S4096x16 .f32) : FVec Ideal S4x4096x4x2x16 .f32 :=
  broadcastInDim S4x4096x4x2x16 ![0, 1, 2, 3, 4] bcast_S1x4096x1x1x16_S4x4096x4x2x16_0_1_2_3_4
    (broadcastInDim S1x4096x1x1x16 ![1, 2, 3, 4] bcast_S4096x1x1x16_S1x4096x1x1x16_1_2_3_4
      (broadcastInDim S4096x1x1x16 ![0, 3] bcast_S4096x16_S4096x1x1x16_0_3 t))

/-- The first sixteen of thirty-two columns. -/
def fst (x : FVec Ideal S4x4096x4x2x32 .f32) : FVec Ideal S4x4096x4x2x16 .f32 :=
  extractStridedSlice S4x4096x4x2x16 ![0, 0, 0, 0, 0] x slices_S4x4096x4x2x32_S4x4096x4x2x16_0_0_0_0_0
/-- The second sixteen. -/
def snd (x : FVec Ideal S4x4096x4x2x32 .f32) : FVec Ideal S4x4096x4x2x16 .f32 :=
  extractStridedSlice S4x4096x4x2x16 ![0, 0, 0, 0, 16] x slices_S4x4096x4x2x32_S4x4096x4x2x16_0_0_0_0_16

/-- Thirty-two columns turned in pairs by sixteen angles. -/
def pairs (x : FVec Ideal S4x4096x4x2x32 .f32) (a : FVec Ideal S4096x16 .f32) : FVec Ideal S4x4096x4x2x32 .f32 :=
  concatenate S4x4096x4x2x32 4
    [⟨S4x4096x4x2x16, subf (mulf (fst x) (spread (Host.cos a))) (mulf (snd x) (spread (Host.sin a)))⟩,
     ⟨S4x4096x4x2x16, addf (mulf (snd x) (spread (Host.cos a))) (mulf (fst x) (spread (Host.sin a)))⟩]
    concatenates_S4x4096x4x2x16_S4x4096x4x2x16_S4x4096x4x2x32_d4

/-- A head's sixty-four columns turned, the first half by the rows' angles and the second by the columns'. -/
def axial (y : FVec Ideal S4x4096x4x2x64 .f32) : FVec Ideal S4x4096x4x2x64 .f32 :=
  concatenate S4x4096x4x2x64 4
    [⟨S4x4096x4x2x32, pairs (extractStridedSlice S4x4096x4x2x32 ![0, 0, 0, 0, 0] y slices_S4x4096x4x2x64_S4x4096x4x2x32_0_0_0_0_0) (angles rowNo)⟩,
     ⟨S4x4096x4x2x32, pairs (extractStridedSlice S4x4096x4x2x32 ![0, 0, 0, 0, 32] y slices_S4x4096x4x2x64_S4x4096x4x2x32_0_0_0_0_32) (angles colNo)⟩]
    concatenates_S4x4096x4x2x32_S4x4096x4x2x32_S4x4096x4x2x64_d4

/-- The first quarter of the product, one row after another. -/
def resU (p : FVec Ideal S4x4096x2048 .f32) : FVec Ideal S16384x512 .f32 :=
  shapeCast S16384x512 (extractStridedSlice S4x4096x512 ![0, 0, 0] p slices_S4x4096x2048_S4x4096x512_0_0_0) shapeCasts_S4x4096x512_S16384x512

/-- The second quarter by heads, turned and scaled. -/
def resQ (p : FVec Ideal S4x4096x2048 .f32) : FVec Ideal S16384x512 .bf16 :=
  truncf .bf16 (shapeCast S16384x512 (mulf (axial (shapeCast S4x4096x4x2x64 (extractStridedSlice S4x4096x512 ![0, 0, 512] p
      slices_S4x4096x2048_S4x4096x512_0_0_512) shapeCasts_S4x4096x512_S4x4096x4x2x64))
    (broadcastInDim S4x4096x4x2x64 ![] bcast_S_S4x4096x4x2x64 (constant S_ .f32 0x3E000000#32))) shapeCasts_S4x4096x4x2x64_S16384x512) bitsLt_bf16_f32

/-- The third quarter by heads, turned. -/
def resK (p : FVec Ideal S4x4096x2048 .f32) : FVec Ideal S16384x512 .bf16 :=
  truncf .bf16 (shapeCast S16384x512 (axial (shapeCast S4x4096x4x2x64 (extractStridedSlice S4x4096x512 ![0, 0, 1024] p
      slices_S4x4096x2048_S4x4096x512_0_0_1024) shapeCasts_S4x4096x512_S4x4096x4x2x64)) shapeCasts_S4x4096x4x2x64_S16384x512) bitsLt_bf16_f32

/-- The fourth quarter, one row after another. -/
def resV (p : FVec Ideal S4x4096x2048 .f32) : FVec Ideal S16384x512 .bf16 :=
  truncf .bf16 (shapeCast S16384x512 (extractStridedSlice S4x4096x512 ![0, 0, 1536] p slices_S4x4096x2048_S4x4096x512_0_0_1536)
    shapeCasts_S4x4096x512_S16384x512) bitsLt_bf16_f32

/-- The modulated norm at an index. -/
theorem hidden_apply (x : FVec Ideal S4x4096x1024 .f32) (s : FVec Ideal S4x6144 .f32) (n : FVec Ideal S1x1024 .f32) (b : Fin 4) (p : Fin 4096)
    (d : Fin 1024) : hidden x s n (ix3 b p d) = normed (fun e => x (ix3 b p e)) (fun e => n (ix2 0 e)) (fun j => s (ix2 b j)) d := by
  pointwise [hidden, modv]
  rfl

/-- The product at an index. -/
theorem prod_apply (x : FVec Ideal S4x4096x1024 .f32) (s : FVec Ideal S4x6144 .f32) (n : FVec Ideal S1x1024 .f32) (w : FVec Ideal S1x1024x2048 .f32)
    (b : Fin 4) (p : Fin 4096) (o : Fin 2048) :
    prod x s n w (ix3 b p o) = proj (fun e => x (ix3 b p e)) (fun e => n (ix2 0 e)) (fun j => s (ix2 b j)) (fun d o => w (ix3 0 d o)) o := by
  pointwise [prod]
  simp only [hidden_apply]
  rfl

/-- A row's angle at an index. -/
theorem row_angle (p : Fin 4096) (d : Fin 16) : angles rowNo (ix2 p d) = angle (p.val / 64) d.val := by
  pointwise [angles, rowNo, freq]
  rfl

/-- A column's angle at an index. -/
theorem col_angle (p : Fin 4096) (d : Fin 16) : angles colNo (ix2 p d) = angle (p.val % 64) d.val := by
  pointwise [angles, colNo, freq]
  rfl

/-- The turned pairs at an index. -/
theorem pairs_apply (x : FVec Ideal S4x4096x4x2x32 .f32) (a : FVec Ideal S4096x16 .f32) (b : Fin 4) (p : Fin 4096) (h : Fin 4) (g : Fin 2) (j : Fin 32) :
    pairs x a (ix5 b p h g j) = if e : j.val < 16 then
        x (ix5 b p h g j) * Ideal.cos (a (ix2 p ⟨j.val, e⟩)) - x (ix5 b p h g ⟨j.val + 16, by omega⟩) * Ideal.sin (a (ix2 p ⟨j.val, e⟩))
      else x (ix5 b p h g j) * Ideal.cos (a (ix2 p ⟨j.val - 16, by omega⟩)) + x (ix5 b p h g ⟨j.val - 16, by omega⟩) * Ideal.sin (a (ix2 p ⟨j.val - 16, by omega⟩)) := by
  pointwise [pairs, fst, snd, spread]
  split
  · rw [show (⟨16 + j.val, by omega⟩ : Fin 32) = ⟨j.val + 16, by omega⟩ from Fin.ext (by simp only []; omega)]
  · rw [show (⟨16 + (j.val - 16), by omega⟩ : Fin 32) = j from Fin.ext (by simp only []; omega)]

/-- The turned columns at an index. -/
theorem axial_apply (y : FVec Ideal S4x4096x4x2x64 .f32) (b : Fin 4) (p : Fin 4096) (h : Fin 4) (g : Fin 2) (l : Fin 64) :
    axial y (ix5 b p h g l) = if e : l.val % 32 < 16 then
        y (ix5 b p h g l) * Ideal.cos (theta p l.val) - y (ix5 b p h g ⟨l.val + 16, by omega⟩) * Ideal.sin (theta p l.val)
      else y (ix5 b p h g l) * Ideal.cos (theta p l.val) + y (ix5 b p h g ⟨l.val - 16, by omega⟩) * Ideal.sin (theta p l.val) := by
  pointwise [axial]
  simp only [pairs_apply, row_angle, col_angle]
  pointwise
  split
  · split
    · rw [dif_pos (by omega), theta_eq p l.val (n := p.val / 64) (d := l.val) (by split <;> omega) (by omega)]
    · rw [dif_neg (by omega), theta_eq p l.val (n := p.val / 64) (d := l.val - 16) (by split <;> omega) (by omega)]
  · have e : (⟨32 + (l.val - 32), by omega⟩ : Fin 64) = l := Fin.ext (by simp only []; omega)
    split
    · rw [dif_pos (by omega), theta_eq p l.val (n := p.val % 64) (d := l.val - 32) (by split <;> omega) (by omega), e,
        show (⟨32 + (l.val - 32 + 16), by omega⟩ : Fin 64) = ⟨l.val + 16, by omega⟩ from Fin.ext (by simp only []; omega)]
    · rw [dif_neg (by omega), theta_eq p l.val (n := p.val % 64) (d := l.val - 32 - 16) (by split <;> omega) (by omega), e,
        show (⟨32 + (l.val - 32 - 16), by omega⟩ : Fin 64) = ⟨l.val - 16, by omega⟩ from Fin.ext (by simp only []; omega)]

/-- The first result at an index. -/
theorem resU_apply (p : FVec Ideal S4x4096x2048 .f32) (i : Fin 16384) (o : Fin 512) :
    resU p (ix2 i o) = p (ix3 (⟨i.val / 4096, by omega⟩ : Fin 4) (⟨i.val % 4096, by omega⟩ : Fin 4096) (⟨o.val, by omega⟩ : Fin 2048)) := by
  pointwise [resU]

/-- The fourth result at an index. -/
theorem resV_apply (p : FVec Ideal S4x4096x2048 .f32) (i : Fin 16384) (o : Fin 512) :
    resV p (ix2 i o) = p (ix3 (⟨i.val / 4096, by omega⟩ : Fin 4) (⟨i.val % 4096, by omega⟩ : Fin 4096) (⟨1536 + o.val, by omega⟩ : Fin 2048)) := by
  pointwise [resV]

/-- The second result at an index. -/
theorem resQ_apply (p : FVec Ideal S4x4096x2048 .f32) (i : Fin 16384) (o : Fin 512) :
    resQ p (ix2 i o) = spun (fun o => p (ix3 (⟨i.val / 4096, by omega⟩ : Fin 4) (⟨i.val % 4096, by omega⟩ : Fin 4096) (⟨512 + o.val, by omega⟩ : Fin 2048)))
      ⟨i.val % 4096, by omega⟩ o * Ideal.ofBits FTy.f32 0x3E000000#32 := by
  pointwise [resQ]
  simp only [axial_apply]
  pointwise
  congr 1
  split
  · exact spun_ahead (hk := by omega) (fun o => p (ix3 (⟨i.val / 4096, by omega⟩ : Fin 4) (⟨i.val % 4096, by omega⟩ : Fin 4096) (⟨512 + o.val, by omega⟩ : Fin 2048))) _ o
      (by omega) (by omega) (by omega)
  · exact spun_back (hk := by omega) (fun o => p (ix3 (⟨i.val / 4096, by omega⟩ : Fin 4) (⟨i.val % 4096, by omega⟩ : Fin 4096) (⟨512 + o.val, by omega⟩ : Fin 2048))) _ o
      (by omega) (by omega) (by omega)

/-- The third result at an index. -/
theorem resK_apply (p : FVec Ideal S4x4096x2048 .f32) (i : Fin 16384) (o : Fin 512) :
    resK p (ix2 i o) = spun (fun o => p (ix3 (⟨i.val / 4096, by omega⟩ : Fin 4) (⟨i.val % 4096, by omega⟩ : Fin 4096) (⟨1024 + o.val, by omega⟩ : Fin 2048)))
      ⟨i.val % 4096, by omega⟩ o := by
  pointwise [resK]
  simp only [axial_apply]
  pointwise
  split
  · exact spun_ahead (hk := by omega) (fun o => p (ix3 (⟨i.val / 4096, by omega⟩ : Fin 4) (⟨i.val % 4096, by omega⟩ : Fin 4096) (⟨1024 + o.val, by omega⟩ : Fin 2048))) _ o
      (by omega) (by omega) (by omega)
  · exact spun_back (hk := by omega) (fun o => p (ix3 (⟨i.val / 4096, by omega⟩ : Fin 4) (⟨i.val % 4096, by omega⟩ : Fin 4096) (⟨1024 + o.val, by omega⟩ : Fin 2048))) _ o
      (by omega) (by omega) (by omega)

/-- Every run of the reference ends with the four results, and its arguments kept. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v150) = resU (prod (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v152) = resQ (prod (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v154) = resK (prod (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v156) = resV (prod (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.Reference5Ideal.Rot

end
-- ==== Proof.Latent.Equal.lean ====
/-
  THE KERNEL GIVES THE REFERENCE'S FOUR RESULTS, whatever extended reals the arguments hold.
-/
module

public import proofs.«01_k».proof.Defs
public import proofs.«01_k».proof.Proof.Latent.Array
public import proofs.«01_k».proof.Proof.Latent.Run
public import proofs.«01_k».proof.Proof.Latent.Reference

@[expose] public section

set_option maxRecDepth 16384

noncomputable section

namespace Cert.LatentIdeal.Rot

open Cert.LatentIdeal Cert.LatentIdeal.Gen Cert.InProj.Spec Cert.Latent.Spec Idealize.ShloMosaic Idealize.ShloMosaic.TcCoe Idealize.SL.Sem
open scoped BigOperators

variable (m : (ℓ : Loc nD τ sig) → Buf (Elt Ideal) ℓ) (c : Dev nD)

/-- The reference's product of the kernel's arguments. -/
def prodOf : FVec Ideal Cert.Reference5Ideal.S4x4096x2048 .f32 :=
  Cert.Reference5Ideal.Rot.prod (m ((c.tc : Thread nD τ).loc main_arg0)) (m ((c.tc : Thread nD τ).loc main_arg1)) (m ((c.tc : Thread nD τ).loc main_arg2))
    (m ((c.tc : Thread nD τ).loc main_arg3))

/-- A token's projection is the reference's product at the token's batch and position. -/
theorem proj_value (i : Fin 16384) (o : Fin 2048) : projRow m c i o = prodOf m c (ix3 (batch i) (pos i) o) :=
  (Cert.Reference5Ideal.Rot.prod_apply _ _ _ _ _ _ _).symm

/-- The first result. -/
theorem u_value : (dats m 0 c).arrAt 6 cfg0.N = Cert.Reference5Ideal.Rot.resU (prodOf m c) := by
  rw [u_array]
  funext y
  obtain ⟨i, o, rfl⟩ : ∃ (i : Fin 16384) (o : Fin 512), y = ix2 i o := ⟨y 0, y 1, eq_ix2 y⟩
  refine Eq.trans ?_ (Cert.Reference5Ideal.Rot.resU_apply _ i o).symm
  exact proj_value m c i _

/-- The queries. -/
theorem q_value : (dats m 0 c).arrAt 7 cfg0.N = Cert.Reference5Ideal.Rot.resQ (prodOf m c) := by
  rw [q_array]
  funext y
  obtain ⟨i, o, rfl⟩ : ∃ (i : Fin 16384) (o : Fin 512), y = ix2 i o := ⟨y 0, y 1, eq_ix2 y⟩
  refine Eq.trans ?_ (Cert.Reference5Ideal.Rot.resQ_apply _ i o).symm
  exact congrArg (· * Ideal.ofBits FTy.f32 0x3E000000#32) (spun_congr (pos i) (fun o => proj_value m c i _) o)

/-- The keys. -/
theorem k_value : (dats m 0 c).arrAt 8 cfg0.N = Cert.Reference5Ideal.Rot.resK (prodOf m c) := by
  rw [k_array]
  funext y
  obtain ⟨i, o, rfl⟩ : ∃ (i : Fin 16384) (o : Fin 512), y = ix2 i o := ⟨y 0, y 1, eq_ix2 y⟩
  refine Eq.trans ?_ (Cert.Reference5Ideal.Rot.resK_apply _ i o).symm
  exact spun_congr (pos i) (fun o : Fin 512 => proj_value m c i ⟨1024 + o.val, by omega⟩) o

/-- The values. -/
theorem v_value : (dats m 0 c).arrAt 9 cfg0.N = Cert.Reference5Ideal.Rot.resV (prodOf m c) := by
  rw [v_array]
  funext y
  obtain ⟨i, o, rfl⟩ : ∃ (i : Fin 16384) (o : Fin 512), y = ix2 i o := ⟨y 0, y 1, eq_ix2 y⟩
  refine Eq.trans ?_ (Cert.Reference5Ideal.Rot.resV_apply _ i o).symm
  exact proj_value m c i _

/-- Every run of the kernel and every run of the reference end with equal results and their arguments kept. -/
theorem algebraic : algebraic_LatentIdeal_Reference5Ideal := by
  intro m g m' g' _ hargs
  refine ⟨fun c => (dats m 0 c).arrAt 6 cfg0.N, fun c => (dats m 0 c).arrAt 7 cfg0.N, fun c => (dats m 0 c).arrAt 8 cfg0.N,
    fun c => (dats m 0 c).arrAt 9 cfg0.N, run m g, ?_⟩
  refine (θ_run Cert.Reference5Ideal.defs _ _).mono (fun r h c => ?_) (Cert.Reference5Ideal.Rot.run m' g')
  obtain ⟨h0, h1, h2, h3, hkeep⟩ := h c
  obtain ⟨e0, e1, e2, e3⟩ := hargs c
  rw [e0, e1, e2, e3] at h0 h1 h2 h3
  exact ⟨h0.trans (u_value m c).symm, h1.trans (q_value m c).symm, h2.trans (k_value m c).symm, h3.trans (v_value m c).symm, hkeep⟩

end Cert.LatentIdeal.Rot

end
-- ==== Proof.Ctx.Scratch.lean ====
/-
  THE SCORE BUFFER OF THE PROMPT ATTENTION KERNEL, READ BACK. The buffer has one part for each head, reached as a slice with
  its leading axis dropped; each part has two planes, one for each softmax map. A load of a plane gives what was last stored
  to that plane.
-/
module

public import proofs.«01_k».proof.Proof.Gen.CtxIdeal.Value
public import Idealize.ShloMosaic.Lib.Pipeline.ReadBack

@[expose] public section
set_option maxRecDepth 16384
noncomputable section
namespace Cert.CtxIdeal.Attn
open Cert.CtxIdeal Cert.CtxIdeal.Gen Idealize.ShloMosaic Idealize.ShloMosaic.TcCoe Idealize.SL.Sem

variable {F : FTy → Type} [FloatOps F]

/-- Reading back through a head's part of the score buffer what was last stored at the same place through it. -/
theorem readCov_lift_hit {κ : Kind} {sp : Space} {sg : RefSig} (v : View sg κ sp S4x2x256x256 .f32) (o : Fin 4 → Nat)
    (io : ∀ a, o a + ![1, 2, 256, 256] a ≤ S4x2x256x256.size a) (p : Fin 3 → Nat)
    (ip : ∀ a, p a + ![1, 256, 256] a ≤ S2x256x256.size a)
    (h0 : (![1, 2, 256, 256] : Fin 4 → Nat) 0 = 1) (hs : ∀ i : Fin 3, (![1, 2, 256, 256] : Fin 4 → Nat) i.succ = ![2, 256, 256] i)
    (hA hA')
    (hR : ((Rect.unit (s := S2x256x256) p ![1, 256, 256] ip).consLift ![1, 2, 256, 256] h0 hs).shape.numel
      = (Rect.unit (s := S2x256x256) p ![1, 256, 256] ip).shape.numel)
    (hR' : (Rect.unit (s := S2x256x256) p ![1, 256, 256] ip).toLoadRect.shape.numel
      = ((Rect.unit (s := S4x2x256x256) o ![1, 2, 256, 256] io).withinL ((Rect.unit (s := S2x256x256) p ![1, 256, 256] ip).toLoadRect.consLift ![1, 2, 256, 256] h0 hs) hA').shape.numel)
    (w : (Rect.unit (s := S2x256x256) p ![1, 256, 256] ip).shape.Idx → Elt F .f32) (L : List (View.Piece (Elt F) S4x2x256x256 .f32)) :
    LoadRect.valAlong (lr := (Rect.unit (s := S2x256x256) p ![1, 256, 256] ip).toLoadRect) hR'
      (v.readCov (⟨(Rect.unit (s := S4x2x256x256) o ![1, 2, 256, 256] io).within
          ((Rect.unit (s := S2x256x256) p ![1, 256, 256] ip).consLift ![1, 2, 256, 256] h0 hs) hA, Rect.payAlong hR w⟩ :: L)
        ((Rect.unit (s := S4x2x256x256) o ![1, 2, 256, 256] io).withinL
          ((Rect.unit (s := S2x256x256) p ![1, 256, 256] ip).toLoadRect.consLift ![1, 2, 256, 256] h0 hs) hA')) = w := by
  funext x
  have h := congrFun (View.readCov_cons_toLoadRect v ((Rect.unit (s := S4x2x256x256) o ![1, 2, 256, 256] io).within
          ((Rect.unit (s := S2x256x256) p ![1, 256, 256] ip).consLift ![1, 2, 256, 256] h0 hs) hA) (Rect.payAlong hR w) L)
    (Shape.reshapeEquiv hR' x)
  refine h.trans ?_
  exact congrArg w ((Shape.reshapeEquiv_reshapeEquiv (s'' := (Rect.unit (s := S2x256x256) p ![1, 256, 256] ip).shape)
    (s' := ((Rect.unit (s := S2x256x256) p ![1, 256, 256] ip).consLift ![1, 2, 256, 256] h0 hs).shape) hR hR' x).trans
    (Shape.reshapeEquiv_self _ x))

/-- A plane of a head's part of the score buffer is read past a store to the part's other plane. -/
theorem readCov_lift_skip {κ : Kind} {sp : Space} {sg : RefSig} (v : View sg κ sp S4x2x256x256 .f32) (o : Fin 4 → Nat)
    (io : ∀ a, o a + ![1, 2, 256, 256] a ≤ S4x2x256x256.size a)
    (ip : ∀ a, (![1, 0, 0] : Fin 3 → Nat) a + ![1, 256, 256] a ≤ S2x256x256.size a)
    (iq : ∀ a, (![0, 0, 0] : Fin 3 → Nat) a + ![1, 256, 256] a ≤ S2x256x256.size a)
    (h0 : (![1, 2, 256, 256] : Fin 4 → Nat) 0 = 1) (hs : ∀ i : Fin 3, (![1, 2, 256, 256] : Fin 4 → Nat) i.succ = ![2, 256, 256] i)
    (hA hA') (w) (L : List (View.Piece (Elt F) S4x2x256x256 .f32)) :
    v.readCov (⟨(Rect.unit (s := S4x2x256x256) o ![1, 2, 256, 256] io).within
          ((Rect.unit (s := S2x256x256) ![1, 0, 0] ![1, 256, 256] ip).consLift ![1, 2, 256, 256] h0 hs) hA, w⟩ :: L)
        ((Rect.unit (s := S4x2x256x256) o ![1, 2, 256, 256] io).withinL
          ((Rect.unit (s := S2x256x256) ![0, 0, 0] ![1, 256, 256] iq).toLoadRect.consLift ![1, 2, 256, 256] h0 hs) hA')
      = v.readCov L ((Rect.unit (s := S4x2x256x256) o ![1, 2, 256, 256] io).withinL
          ((Rect.unit (s := S2x256x256) ![0, 0, 0] ![1, 256, 256] iq).toLoadRect.consLift ![1, 2, 256, 256] h0 hs) hA') := by
  refine View.readCov_skip v _ w L _ (decide_eq_true ⟨1, .inr (.inr (.inr ?_))⟩)
  show o 1 + 0 + 1 * (1 - 1) < o 1 + 1
  omega

/-- The first plane of a head's part of the score buffer, read after both planes were stored: what was stored to it. -/
theorem readCov_lift_second {κ : Kind} {sp : Space} {sg : RefSig} (v : View sg κ sp S4x2x256x256 .f32) (o : Fin 4 → Nat)
    (io : ∀ a, o a + ![1, 2, 256, 256] a ≤ S4x2x256x256.size a)
    (ip : ∀ a, (![1, 0, 0] : Fin 3 → Nat) a + ![1, 256, 256] a ≤ S2x256x256.size a)
    (iq : ∀ a, (![0, 0, 0] : Fin 3 → Nat) a + ![1, 256, 256] a ≤ S2x256x256.size a)
    (h0 : (![1, 2, 256, 256] : Fin 4 → Nat) 0 = 1) (hs : ∀ i : Fin 3, (![1, 2, 256, 256] : Fin 4 → Nat) i.succ = ![2, 256, 256] i)
    (hA hA' hB)
    (hR : ((Rect.unit (s := S2x256x256) ![0, 0, 0] ![1, 256, 256] iq).consLift ![1, 2, 256, 256] h0 hs).shape.numel
      = (Rect.unit (s := S2x256x256) ![0, 0, 0] ![1, 256, 256] iq).shape.numel)
    (hR' : (Rect.unit (s := S2x256x256) ![0, 0, 0] ![1, 256, 256] iq).toLoadRect.shape.numel
      = ((Rect.unit (s := S4x2x256x256) o ![1, 2, 256, 256] io).withinL ((Rect.unit (s := S2x256x256) ![0, 0, 0] ![1, 256, 256] iq).toLoadRect.consLift ![1, 2, 256, 256] h0 hs) hA').shape.numel)
    (w' w) (L : List (View.Piece (Elt F) S4x2x256x256 .f32)) :
    LoadRect.valAlong (lr := (Rect.unit (s := S2x256x256) ![0, 0, 0] ![1, 256, 256] iq).toLoadRect) hR'
      (v.readCov (⟨(Rect.unit (s := S4x2x256x256) o ![1, 2, 256, 256] io).within
          ((Rect.unit (s := S2x256x256) ![1, 0, 0] ![1, 256, 256] ip).consLift ![1, 2, 256, 256] h0 hs) hB, w'⟩ ::
          ⟨(Rect.unit (s := S4x2x256x256) o ![1, 2, 256, 256] io).within
          ((Rect.unit (s := S2x256x256) ![0, 0, 0] ![1, 256, 256] iq).consLift ![1, 2, 256, 256] h0 hs) hA, Rect.payAlong hR w⟩ :: L)
        ((Rect.unit (s := S4x2x256x256) o ![1, 2, 256, 256] io).withinL
          ((Rect.unit (s := S2x256x256) ![0, 0, 0] ![1, 256, 256] iq).toLoadRect.consLift ![1, 2, 256, 256] h0 hs) hA')) = w := by
  rw [readCov_lift_skip]
  exact readCov_lift_hit v o io _ iq h0 hs hA hA' hR hR' w L

end Cert.CtxIdeal.Attn
-- ==== Proof.Ctx.Body.lean ====
/-
  WHAT ONE GRID POINT OF THE PROMPT ATTENTION KERNEL STORES, head by head, written with a few vector functions: the two
  masked copies of a head's query block, their scores against the 256 keys, the row maximum, the weighted sum of the values
  (with a second half of ones, whose sums are the softmax denominators), and the last step. `out_eq` says that the run's
  stored block is made of the four heads' blocks side by side.
-/
module

public import proofs.«01_k».proof.Proof.Ctx.Scratch
public import proofs.«01_k».proof.Proof.Attn.Spec
public import Idealize.ShloMosaic.Lib.Pipeline.ValueKit
public import Idealize.ShloMosaic.Lib.Pipeline.ReadBack
public import Idealize.ShloMosaic.Lib.Pointwise

@[expose] public section
set_option maxRecDepth 16384
noncomputable section
namespace Cert.CtxIdeal.Attn
open Cert.CtxIdeal Cert.CtxIdeal.Gen Cert.Attn Idealize.ShloMosaic Idealize.ShloMosaic.TcCoe Idealize.SL.Sem

variable {F : FTy → Type} [FloatOps F]

/-- A head's query block with lanes 64 to 127 set to zero: the queries of the first softmax map. -/
def maskLo (q : Vec F S1x256x128 .bf16) : FVec F S256x128 .bf16 :=
  select (cmpi .slt (iota .tc S256x128 32 [1] iota_S256x128_d1_w32) (broadcast S256x128 64#32))
    (shapeCast S256x128 q shapeCasts_S1x256x128_S256x128) (broadcast S256x128 (Scalar.ofBits .bf16 0x0000#16))

/-- A head's query block with lanes 0 to 63 set to zero: the queries of the second softmax map. -/
def maskHi (q : Vec F S1x256x128 .bf16) : FVec F S256x128 .bf16 :=
  select (cmpi .sge (iota .tc S256x128 32 [1] iota_S256x128_d1_w32) (broadcast S256x128 64#32))
    (shapeCast S256x128 q shapeCasts_S1x256x128_S256x128) (broadcast S256x128 (Scalar.ofBits .bf16 0x0000#16))

/-- The scores of 256 masked queries against the 256 keys. -/
def score (q : FVec F S256x128 .bf16) (k : Vec F S1x256x128 .f32) : FVec F S256x256 .f32 :=
  matmul dot_S256x128_S256x128_S256x256_1_1_0_0_n_n none q
    (truncf .bf16 (shapeCast S256x128 k shapeCasts_S1x256x128_S256x128) bitsLt_bf16_f32) (constant S256x256 .f32 0x00000000#32)

/-- The row maximum of the scores: the larger of two lane groups, then over the lanes. -/
def rowMax (s : FVec F S256x256 .f32) : FVec F S256x1 .f32 :=
  shapeCast S256x1 (multiReduction .maximumf [1] S256
    (maximumf (extractStridedSlice S256x128 ![0, 0] s slices_S256x256_o0_0_S256x128)
      (extractStridedSlice S256x128 ![0, 128] s slices_S256x256_o0_128_S256x128))
    0xFF800000#32 reduces_S256x128_S256 (.inl rfl) rfl) shapeCasts_S256_S256x1

/-- The weighted value sum: the weights are the exponentials of the scores (read back from the buffer they were stored in)
less the row maximum; the right operand holds the values and then 128 columns of ones. -/
def term (mx : FVec F S256x1 .f32) (s : FVec F S256x256 .f32) (v : Vec F S1x256x128 .f32) : FVec F S256x256 .f32 :=
  matmul dot_S256x256_S256x256_S256x256_1_0_0_1_n_n none
    (truncf .bf16 (exp (subf
      (shapeCast S256x256 (shapeCast S1x256x256 s shapeCasts_S256x256_S1x256x256) shapeCasts_S1x256x256_S256x256)
      (broadcastTo S256x256 mx broadcasts_S256x1_S256x256))) bitsLt_bf16_f32)
    (concatenate S256x256 1 [⟨S256x128, truncf .bf16 (shapeCast S256x128 v shapeCasts_S1x256x128_S256x128) bitsLt_bf16_f32⟩,
      ⟨S256x128, broadcast S256x128 (Scalar.ofBits .bf16 0x3F80#16 : F .bf16)⟩] concatenates_S256x128_S256x128_S256x256_d1)
    (constant S256x256 .f32 0x00000000#32)

/-- The weighted value sums of masked queries against the keys and values. -/
def attend (q : FVec F S256x128 .bf16) (k v : Vec F S1x256x128 .f32) : FVec F S256x256 .f32 :=
  term (rowMax (score q k)) (score q k) v

/-- The weighted sums times the reciprocal of the sum of the weights. -/
def normd (a : FVec F S256x256 .f32) : FVec F S256x128 .f32 :=
  mulf (extractStridedSlice S256x128 ![0, 0] a slices_S256x256_o0_0_S256x128)
    (broadcastTo S256x128 (divf (broadcast S256x1 (Scalar.ofBits .f32 0x3F800000#32))
      (extractStridedSlice S256x1 ![0, 128] a slices_S256x256_o0_128_S256x1)) broadcasts_S256x1_S256x128)

/-- The block stored for one head, of the head's queries, keys and values, the mixing factor and the norm's weight. -/
def headBlock (q : Vec F S1x256x128 .bf16) (k v : Vec F S1x256x128 .f32) (lam : Elt F .f32) (w : Vec F S1x128 .f32) :
    FVec F S1x256x128 .bf16 :=
  k0_pay33 (attend (maskHi q) k v) (normd (attend (maskLo q) k v)) lam w

/-- A head's 128 lanes of a block of 512 lanes. -/
def headOf {α : Type} (x : S1x256x512.Idx → α) (h : Fin 4) : S1x256x128.Idx → α := fun y => x (ix3 0 (y 1) (lane h (y 2)))

/-- The stored block as a function of the point's input blocks: lane `128 h + e` is lane `e` of head `h`'s block. -/
def block (x0 : Vec F S1 .f32) (x1 : Vec F S1x256x512 .bf16) (x2 x3 : Vec F S1x256x512 .f32) (x4 : Vec F S1x128 .f32) :
    FVec F S1x256x512 .bf16 := fun y =>
  have hy : (y 2).val < 512 := (y 2).isLt
  headBlock (headOf x1 ⟨(y 2).val / 128, by omega⟩) (headOf x2 ⟨(y 2).val / 128, by omega⟩)
    (headOf x3 ⟨(y 2).val / 128, by omega⟩) (x0 (ix1 0)) x4 (ix3 0 (y 1) ⟨(y 2).val % 128, Nat.mod_lt _ (by decide)⟩)

/-- The only element of a one-element block, whatever the index that names it. -/
theorem ld_one (x0 : Vec F S1 .f32) (y : S1.Idx) : View.ld x0 (Rect.unit ![0] ![1] inb_S1_S1_0) y = x0 (ix1 0) := by
  refine congrArg x0 (funext fun a => ?_)
  have : a = 0 := Subsingleton.elim _ _
  subst this
  exact Subsingleton.elim (α := Fin 1) _ _

/-- A load of 128 lanes of a block is the head whose lanes they are. -/
theorem ld_head {e : EltTy} (x : Vec F S1x256x512 e) (h : Fin 4) (o : Nat) (ho : o = 128 * h.val)
    (inb : ∀ a, (![0, 0, o] : Fin 3 → Nat) a + ![1, 256, 128] a ≤ S1x256x512.size a) :
    View.ld x (Rect.unit ![0, 0, o] ![1, 256, 128] inb) = headOf x h := by
  subst ho
  funext y
  refine congrArg x (funext fun a => Fin.ext ?_)
  fin_cases a
  · show 0 + 1 * (y 0).val = 0
    have : (y 0).val < 1 := (y 0).isLt
    omega
  · show 0 + 1 * (y 1).val = (y 1).val
    omega
  · show 128 * h.val + 1 * (y 2).val = 128 * h.val + (y 2).val
    omega

/-- The block at the place of a head's lane is the head's block at that lane. -/
theorem block_at (x0 : Vec F S1 .f32) (x1 : Vec F S1x256x512 .bf16) (x2 x3 : Vec F S1x256x512 .f32) (x4 : Vec F S1x128 .f32)
    (h : Fin 4) (o : Nat) (ho : o = 128 * h.val)
    (inb : ∀ a, (![0, 0, o] : Fin 3 → Nat) a + ![1, 256, 128] a ≤ S1x256x512.size a) (z : S1x256x128.Idx) :
    block x0 x1 x2 x3 x4 ((Rect.unit (s := S1x256x512) ![0, 0, o] ![1, 256, 128] inb).emb z)
      = headBlock (headOf x1 h) (headOf x2 h) (headOf x3 h) (x0 (ix1 0)) x4 z := by
  have hz : (z 2).val < 128 := (z 2).isLt
  have e2 : (((Rect.unit (s := S1x256x512) ![0, 0, o] ![1, 256, 128] inb).emb z) 2).val = 128 * h.val + (z 2).val := by
    show o + 1 * (z 2).val = _
    omega
  have e1 : (((Rect.unit (s := S1x256x512) ![0, 0, o] ![1, 256, 128] inb).emb z) 1) = z 1 := Fin.ext (by
    show 0 + 1 * (z 1).val = _
    omega)
  have eh : ∀ p, (⟨(((Rect.unit (s := S1x256x512) ![0, 0, o] ![1, 256, 128] inb).emb z) 2).val / 128, p⟩ : Fin 4) = h :=
    fun p => Fin.ext (by simp only [e2]; omega)
  have ez : ∀ p, ix3 (0 : Fin 1) (z 1) (⟨(((Rect.unit (s := S1x256x512) ![0, 0, o] ![1, 256, 128] inb).emb z) 2).val % 128, p⟩ : Fin 128) = z :=
    fun p => by
      have : (⟨(((Rect.unit (s := S1x256x512) ![0, 0, o] ![1, 256, 128] inb).emb z) 2).val % 128, p⟩ : Fin 128) = z 2 :=
        Fin.ext (by simp only [e2]; omega)
      rw [this]
      exact ((eq_ix3 z).trans (congrArg (ix3 · (z 1) (z 2)) (Subsingleton.elim (α := Fin 1) _ _))).symm
  unfold block
  simp only [eh, e1]
  exact congrArg (headBlock (headOf x1 h) (headOf x2 h) (headOf x3 h) (x0 (ix1 0)) x4) (ez _)

section
variable (q : Vec F S1x256x128 .bf16) (k v : Vec F S1x256x128 .f32) (lam : Elt F .f32) (w : Vec F S1x128 .f32)
  (s0 s1 : Vec F S1x256x256 .f32)

/-- What is stored for the first head, given what is read back of its scores. -/
theorem head0 (h0 : s0 = k0_pay4 q k) (h1 : s1 = k0_pay7 (k0_pay6 q k)) :
    k0_pay11 (k0_pay8 (k0_pay5 q k) s0 v) (k0_pay9 v) (k0_pay10 (k0_pay6 q k) s1) lam w = headBlock q k v lam w := by
  subst h0 h1; rfl

/-- What is stored for the second head, given what is read back of its scores. -/
theorem head1 (h0 : s0 = k0_pay14 (k0_pay12 q) (iota .tc S256x128 32 [1] iota_S256x128_d1_w32) k)
    (h1 : s1 = k0_pay17 (k0_pay12 q) (iota .tc S256x128 32 [1] iota_S256x128_d1_w32) k) :
    k0_pay22 (k0_pay19 (k0_pay16 (k0_pay12 q) (iota .tc S256x128 32 [1] iota_S256x128_d1_w32) k) s1 v)
      (k0_pay20 (k0_pay15 (k0_pay12 q) (iota .tc S256x128 32 [1] iota_S256x128_d1_w32) k) s0 v)
      (k0_pay21 (k0_pay15 (k0_pay12 q) (iota .tc S256x128 32 [1] iota_S256x128_d1_w32) k) s0 v) lam w = headBlock q k v lam w := by
  subst h0 h1; rfl

/-- What is stored for the third head, given what is read back of its scores. -/
theorem head2 (h0 : s0 = k0_pay26 (k0_pay24 q) k)
    (h1 : s1 = k0_pay29 (k0_pay23 q) (iota .tc S256x128 32 [1] iota_S256x128_d1_w32) 64#32 k) :
    k0_pay33 (k0_pay31 (k0_pay30 (k0_pay23 q) (iota .tc S256x128 32 [1] iota_S256x128_d1_w32) 64#32 k) s1 v)
      (k0_pay32 (k0_pay27 (k0_pay24 q) k) s0 v) lam w = headBlock q k v lam w := by
  subst h0 h1; rfl

/-- What is stored for the fourth head, given what is read back of its scores. -/
theorem head3 (h0 : s0 = k0_pay38 (k0_pay35 q) k) (h1 : s1 = k0_pay41 (k0_pay36 q) k) :
    k0_pay1 (k0_pay44 (k0_pay39 (k0_pay35 q) k) (k0_pay43 s0) v) lam (k0_pay45 (k0_pay42 (k0_pay36 q) k) s1 v) w
      = headBlock q k v lam w := by
  subst h0 h1; rfl
end

/-- An element lies in the rectangle of 128 lanes that its lane falls into. -/
theorem mem_head (y : S1x256x512.Idx) (o : Nat) (inb : ∀ a, (![0, 0, o] : Fin 3 → Nat) a + ![1, 256, 128] a ≤ S1x256x512.size a)
    (h1 : o ≤ (y 2).val) (h2 : (y 2).val < o + 128) : y ∈ (Rect.unit (s := S1x256x512) ![0, 0, o] ![1, 256, 128] inb).set := by
  have h0 : (y 0).val < 1 := (y 0).isLt
  have h3 : (y 1).val < 256 := (y 1).isLt
  refine (Rect.unit (s := S1x256x512) ![0, 0, o] ![1, 256, 128] inb).mem_set.mpr fun a => ?_
  fin_cases a
  · exact ⟨0, Nat.one_pos, (by show (y 0).val = 0 + 1 * 0; omega)⟩
  · exact ⟨(y 1).val, h3, (by show (y 1).val = 0 + 1 * (y 1).val; omega)⟩
  · exact ⟨(y 2).val - o, (by show (y 2).val - o < 128; omega), (by show (y 2).val = o + 1 * ((y 2).val - o); omega)⟩

/-- Stores that are all parts of one block and together cover an element leave the block's element there. -/
theorem canon_pieces (G : S1x256x512.Idx → Elt F .bf16) (L : List (View.Piece (Elt F) S1x256x512 .bf16)) (h : View.PiecesOf G L)
    (y : S1x256x512.Idx) (hc : ∃ p ∈ L, y ∈ p.1.set) : View.canon L y = G y := by
  have := View.canon_append_of_piecesOf G [] L h y hc
  rwa [List.append_nil] at this

set_option maxHeartbeats 4000000 in
/-- The block that the body's run stores is `block` of the point's input blocks, on whatever staging memory. -/
theorem out_eq (c : Dev nD) (i : grid0.Coords) (arg1 : Memref sig .tc .smem S1 .f32) (harg1 : arg1.IsWhole) (arg2 : Memref sig .tc .vmem S1x256x512 .bf16) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x128 .f32) (harg5 : arg5.IsWhole) (arg6 : Memref sig .tc .vmem S1x256x512 .bf16) (harg6 : arg6.IsWhole) (arg7 : Memref sig .tc .vmem S4x2x256x256 .f32) (harg7 : arg7.IsWhole)
    (x0 : Vec F S1 .f32) (x1 : Vec F S1x256x512 .bf16) (x2 : Vec F S1x256x512 .f32) (x3 : Vec F S1x256x512 .f32) (x4 : Vec F S1x128 .f32) :
    out0_A_5 c i arg1 harg1 arg2 harg2 arg3 harg3 arg4 harg4 arg5 harg5 arg6 harg6 arg7 harg7 x0 x1 x2 x3 x4 = block x0 x1 x2 x3 x4 := by
  frame_open
  frame_out
  rw [ld_one]
  funext y
  refine canon_pieces (block x0 x1 x2 x3 x4) _ ?_ y ?_
  · refine ⟨fun z => ?_, fun z => ?_, fun z => ?_, fun z => ?_, trivial⟩
    · refine Eq.trans ?_ (block_at x0 x1 x2 x3 x4 3 384 rfl inb_S1x256x512_S1x256x128_0_0_384 z).symm
      rw [← ld_head x1 3 384 rfl inb_S1x256x512_S1x256x128_0_0_384, ← ld_head x2 3 384 rfl inb_S1x256x512_S1x256x128_0_0_384, ← ld_head x3 3 384 rfl inb_S1x256x512_S1x256x128_0_0_384]
      refine congrFun (head3 _ _ _ _ _ _ _ ?_ ?_) z
      · exact readCov_lift_second ..
      · exact readCov_lift_hit ..
    · refine Eq.trans ?_ (block_at x0 x1 x2 x3 x4 2 256 rfl inb_S1x256x512_S1x256x128_0_0_256 z).symm
      rw [← ld_head x1 2 256 rfl inb_S1x256x512_S1x256x128_0_0_256, ← ld_head x2 2 256 rfl inb_S1x256x512_S1x256x128_0_0_256, ← ld_head x3 2 256 rfl inb_S1x256x512_S1x256x128_0_0_256]
      refine congrFun (head2 _ _ _ _ _ _ _ ?_ ?_) z
      · exact readCov_lift_second ..
      · exact readCov_lift_hit ..
    · refine Eq.trans ?_ (block_at x0 x1 x2 x3 x4 1 128 rfl inb_S1x256x512_S1x256x128_0_0_128 z).symm
      rw [← ld_head x1 1 128 rfl inb_S1x256x512_S1x256x128_0_0_128, ← ld_head x2 1 128 rfl inb_S1x256x512_S1x256x128_0_0_128, ← ld_head x3 1 128 rfl inb_S1x256x512_S1x256x128_0_0_128]
      refine congrFun (head1 _ _ _ _ _ _ _ ?_ ?_) z
      · exact readCov_lift_second ..
      · exact readCov_lift_hit ..
    · refine Eq.trans ?_ (block_at x0 x1 x2 x3 x4 0 0 rfl inb_S1x256x512_S1x256x128_0_0_0 z).symm
      rw [← ld_head x1 0 0 rfl inb_S1x256x512_S1x256x128_0_0_0, ← ld_head x2 0 0 rfl inb_S1x256x512_S1x256x128_0_0_0, ← ld_head x3 0 0 rfl inb_S1x256x512_S1x256x128_0_0_0]
      refine congrFun (head0 _ _ _ _ _ _ _ ?_ ?_) z
      · exact readCov_lift_second ..
      · exact readCov_lift_hit ..
  · have hy : (y 2).val < 512 := (y 2).isLt
    obtain h | h | h | h : (y 2).val / 128 = 3 ∨ (y 2).val / 128 = 2 ∨ (y 2).val / 128 = 1 ∨ (y 2).val / 128 = 0 := by omega
    · exact ⟨_, .head _, mem_head y 384 inb_S1x256x512_S1x256x128_0_0_384 (by omega) (by omega)⟩
    · exact ⟨_, .tail _ (.head _), mem_head y 256 inb_S1x256x512_S1x256x128_0_0_256 (by omega) (by omega)⟩
    · exact ⟨_, .tail _ (.tail _ (.head _)), mem_head y 128 inb_S1x256x512_S1x256x128_0_0_128 (by omega) (by omega)⟩
    · exact ⟨_, .tail _ (.tail _ (.tail _ (.head _))), mem_head y 0 inb_S1x256x512_S1x256x128_0_0_0 (by omega) (by omega)⟩

end Cert.CtxIdeal.Attn
-- ==== Proof.Ctx.BodyValue.lean ====
/-
  THE VECTOR FUNCTIONS OF ONE HEAD, READ AT AN INDEX in the extended reals, and what they come to where the head's inputs are
  real numbers: the difference of two softmax averages over the 256 keys, normed over the head.
-/
module

public import proofs.«01_k».proof.Proof.Ctx.Body
public import proofs.«01_k».proof.Proof.Attn.Softmax
public import Idealize.ShloMosaic.Lib.WordCmp

@[expose] public section
set_option maxRecDepth 16384
noncomputable section
namespace Cert.CtxIdeal.Attn
open Cert.CtxIdeal Cert.CtxIdeal.Gen Cert.Attn Idealize.ShloMosaic Idealize.ShloMosaic.TcCoe Idealize.SL.Sem
open scoped BigOperators

/-- A masked query of the first map: the query below lane 64, zero from there on. -/
theorem maskLo_apply (q : Vec Ideal S1x256x128 .bf16) (r : Fin 256) (d : Fin 128) :
    maskLo q (ix2 r d) = if d.val < 64 then q (ix3 0 r d) else 0 := by
  pointwise [maskLo]
  rw [WordCmp.cmpi_slt_ofNat (by omega) (by omega)]
  by_cases h : d.val < 64 <;> simp [h, Scalar.select]

/-- A masked query of the second map: the query from lane 64 on, zero below. -/
theorem maskHi_apply (q : Vec Ideal S1x256x128 .bf16) (r : Fin 256) (d : Fin 128) :
    maskHi q (ix2 r d) = if 64 ≤ d.val then q (ix3 0 r d) else 0 := by
  pointwise [maskHi]
  rw [WordCmp.cmpi_sge_ofNat (by omega) (by omega)]
  by_cases h : 64 ≤ d.val <;> simp [h, Scalar.select]

/-- A score is the sum of the products over the 128 lanes. -/
theorem score_apply (q : FVec Ideal S256x128 .bf16) (k : Vec Ideal S1x256x128 .f32) (r j : Fin 256) :
    score q k (ix2 r j) = ∑ d : Fin 128, q (ix2 r d) * k (ix3 0 j d) := by
  pointwise [score]

/-- The weighted sum: the weights times the values in the first 128 columns, the weights alone in the rest. -/
theorem term_apply (mx : FVec Ideal S256x1 .f32) (s : FVec Ideal S256x256 .f32) (v : Vec Ideal S1x256x128 .f32) (r e : Fin 256) :
    term mx s v (ix2 r e) = ∑ j : Fin 256, Ideal.exp (s (ix2 r j) - mx (ix2 r 0))
      * (if h : e.val < 128 then v (ix3 0 j ⟨e.val, h⟩) else 1) := by
  pointwise [term]

/-- Where the scores of a row are real numbers, so is the row's maximum. -/
theorem rowMax_real (s : FVec Ideal S256x256 .f32) (r : Fin 256) (sr : Fin 256 → ℝ)
    (hs : ∀ j, s (ix2 r j) = (sr j : EReal)) : ∃ M : ℝ, rowMax s (ix2 r 0) = (M : EReal) := by
  pointwise [rowMax]
  rw [ofBits_negInf]
  refine fold_max_real _ ⟨0, Finset.mem_univ _⟩ _ fun l => ?_
  simp only [hs, ← coe_max]
  exact ⟨_, rfl⟩

/-- The weighted sums of a row where the row's scores and the values are real numbers: for some real number `M` taken from
every score, the columns below 128 hold the weighted values and the others the sum of the weights. -/
theorem attend_real (q : FVec Ideal S256x128 .bf16) (k v : Vec Ideal S1x256x128 .f32) (r : Fin 256) (sr : Fin 256 → ℝ)
    (vr : Fin 256 → Fin 128 → ℝ) (hs : ∀ j, score q k (ix2 r j) = (sr j : EReal)) (hv : ∀ j d, v (ix3 0 j d) = (vr j d : EReal)) :
    ∃ M : ℝ, ∀ e : Fin 256, attend q k v (ix2 r e)
      = ((∑ j, Real.exp (sr j - M) * (if h : e.val < 128 then vr j ⟨e.val, h⟩ else 1) : ℝ) : EReal) := by
  obtain ⟨M, hM⟩ := rowMax_real (score q k) r sr hs
  refine ⟨M, fun e => ?_⟩
  unfold attend
  rw [term_apply, coe_sum]
  refine Finset.sum_congr rfl fun j _ => ?_
  rw [hM, hs, ← EReal.coe_sub, Ideal.exp_coe, EReal.coe_mul]
  by_cases h : e.val < 128 <;> simp [h, hv]

/-- The last step at one element: the two normalized sums, the second times the mixing factor, and the norm. -/
theorem final_apply (a b : FVec Ideal S256x256 .f32) (lam : EReal) (w : FVec Ideal S1x128 .f32) (r : Fin 256) (e : Fin 128) :
    k0_pay33 (F := Ideal) b (normd a) lam w (ix3 0 r e)
      = headNorm (fun d => a (ix2 r ⟨d.val, by omega⟩) * Ideal.div 1 (a (ix2 r 128))
          - lam * (b (ix2 r ⟨d.val, by omega⟩) * Ideal.div 1 (b (ix2 r 128)))) (fun d => w (ix2 0 d)) e := by
  pointwise [k0_pay33, normd, headNorm]

/-- The weighted values times the reciprocal of the sum of the weights are the softmax average. -/
theorem normalized_real (a : FVec Ideal S256x256 .f32) (r : Fin 256) (M : ℝ) (sr : Fin 256 → ℝ) (vr : Fin 256 → Fin 128 → ℝ)
    (ha : ∀ e : Fin 256, a (ix2 r e)
      = ((∑ j, Real.exp (sr j - M) * (if h : e.val < 128 then vr j ⟨e.val, h⟩ else 1) : ℝ) : EReal)) (d : Fin 128) :
    a (ix2 r ⟨d.val, by omega⟩) * Ideal.div 1 (a (ix2 r 128)) = ((softAvg sr (fun j => vr j d) : ℝ) : EReal) := by
  have h1 : a (ix2 r 128) = ((∑ j, Real.exp (sr j - M) : ℝ) : EReal) := by
    rw [ha 128]; congr 1; exact Finset.sum_congr rfl fun j _ => by simp
  have h0 : a (ix2 r ⟨d.val, by omega⟩) = ((∑ j, Real.exp (sr j - M) * vr j d : ℝ) : EReal) := by
    rw [ha ⟨d.val, by omega⟩]; congr 1; exact Finset.sum_congr rfl fun j _ => by simp
  rw [h1, h0, Ideal.div_coe (sum_exp_pos _).ne', one_mul, ← EReal.coe_mul, softAvg_shift]

/-- The score of a masked query of the first map and a key, both real. -/
theorem score_lo (q : Vec Ideal S1x256x128 .bf16) (k : Vec Ideal S1x256x128 .f32) (r j : Fin 256) (qr kr : Fin 128 → ℝ)
    (hq : ∀ d, q (ix3 0 r d) = (qr d : EReal)) (hk : ∀ d, k (ix3 0 j d) = (kr d : EReal)) :
    score (maskLo q) k (ix2 r j) = ((∑ d : Fin 64, qr ⟨d.val, by omega⟩ * kr ⟨d.val, by omega⟩ : ℝ) : EReal) := by
  rw [score_apply, coe_sum, Fin.sum_univ_add (a := 64) (b := 64)]
  have h2 : ∀ d : Fin 64, maskLo q (ix2 r (Fin.natAdd 64 d)) * k (ix3 0 j (Fin.natAdd 64 d)) = 0 := fun d => by
    rw [maskLo_apply, if_neg (by simp), zero_mul]
  simp only [h2, Finset.sum_const_zero, add_zero]
  refine Finset.sum_congr rfl fun d _ => ?_
  rw [maskLo_apply, if_pos (by simp), hq, hk, ← EReal.coe_mul]
  rfl

/-- The score of a masked query of the second map and a key, both real. -/
theorem score_hi (q : Vec Ideal S1x256x128 .bf16) (k : Vec Ideal S1x256x128 .f32) (r j : Fin 256) (qr kr : Fin 128 → ℝ)
    (hq : ∀ d, q (ix3 0 r d) = (qr d : EReal)) (hk : ∀ d, k (ix3 0 j d) = (kr d : EReal)) :
    score (maskHi q) k (ix2 r j) = ((∑ d : Fin 64, qr ⟨64 + d.val, by omega⟩ * kr ⟨64 + d.val, by omega⟩ : ℝ) : EReal) := by
  rw [score_apply, coe_sum, Fin.sum_univ_add (a := 64) (b := 64)]
  have h1 : ∀ d : Fin 64, maskHi q (ix2 r (Fin.castAdd 64 d)) * k (ix3 0 j (Fin.castAdd 64 d)) = 0 := fun d => by
    rw [maskHi_apply, if_neg (by simp), zero_mul]
  simp only [h1, Finset.sum_const_zero, zero_add]
  refine Finset.sum_congr rfl fun d _ => ?_
  rw [maskHi_apply, if_pos (by simp), hq, hk, ← EReal.coe_mul]
  rfl

/-- One element of a head's block where queries, keys, values and the mixing factor are real numbers: the difference of the
two softmax averages over the 256 keys, normed over the head's lanes. -/
theorem headBlock_real (q : Vec Ideal S1x256x128 .bf16) (k v : Vec Ideal S1x256x128 .f32) (w : Vec Ideal S1x128 .f32)
    (r : Fin 256) (e : Fin 128) (l : EReal) (lam : ℝ) (qr : Fin 128 → ℝ) (kr vr : Fin 256 → Fin 128 → ℝ) (hl : l = (lam : EReal))
    (hq : ∀ d, q (ix3 0 r d) = (qr d : EReal)) (hk : ∀ j d, k (ix3 0 j d) = (kr j d : EReal))
    (hv : ∀ j d, v (ix3 0 j d) = (vr j d : EReal)) :
    headBlock q k v l w (ix3 0 r e)
      = headNorm (fun x => ((softAvg (fun j => ∑ d : Fin 64, qr ⟨d.val, by omega⟩ * kr j ⟨d.val, by omega⟩) (fun j => vr j x)
          - lam * softAvg (fun j => ∑ d : Fin 64, qr ⟨64 + d.val, by omega⟩ * kr j ⟨64 + d.val, by omega⟩) (fun j => vr j x) : ℝ) : EReal))
          (fun d => w (ix2 0 d)) e := by
  obtain ⟨M, hM⟩ := attend_real (maskLo q) k v r
    (fun j => ∑ d : Fin 64, qr ⟨d.val, by omega⟩ * kr j ⟨d.val, by omega⟩) vr (fun j => score_lo q k r j qr (kr j) hq (hk j)) hv
  obtain ⟨N, hN⟩ := attend_real (maskHi q) k v r
    (fun j => ∑ d : Fin 64, qr ⟨64 + d.val, by omega⟩ * kr j ⟨64 + d.val, by omega⟩) vr (fun j => score_hi q k r j qr (kr j) hq (hk j)) hv
  unfold headBlock
  rw [final_apply, hl]
  congr 1
  funext x
  rw [normalized_real _ r M _ vr hM x, normalized_real _ r N _ vr hN x, ← EReal.coe_mul, ← EReal.coe_sub]

end Cert.CtxIdeal.Attn
-- ==== Proof.Ctx.Spec.lean ====
/-
  THE PROMPT'S DIFFERENTIAL ATTENTION AS A FUNCTION OF THE ARGUMENT ARRAYS, element by element: what both programs are shown
  to compute. Lane `128 h + d` is lane `d` of head `h`; the first 64 lanes of a head are those of the first softmax map, the
  other 64 those of the second. A query sees the 256 keys of its own sequence.
-/
module

public import proofs.«01_k».proof.Proof.Attn.Spec

@[expose] public section
noncomputable section
namespace Cert.Ctx.Attn
open Cert.Attn Idealize.ShloMosaic
open scoped BigOperators

/-- An array of 32 sequences of 256 rows of 512 lanes. -/
abbrev SP : Shape := ⟨3, ![32, 256, 512]⟩

/-- The score of a query row and key row `j` of the same sequence in softmax map `μ`. -/
def dotMap (q k : SP.Idx → ℝ) (b : Fin 32) (i : Fin 256) (h : Fin 4) (μ : Fin 2) (j : Fin 256) : ℝ :=
  ∑ d : Fin 64, q (ix3 b i (lane h ⟨64 * μ.val + d.val, by omega⟩)) * k (ix3 b j (lane h ⟨64 * μ.val + d.val, by omega⟩))

/-- One head's output vector before the norm: the difference of the two softmax averages of the values. -/
def headOut (lam : ℝ) (q k v : SP.Idx → ℝ) (b : Fin 32) (i : Fin 256) (h : Fin 4) (x : Fin 128) : ℝ :=
  softAvg (dotMap q k b i h 0) (fun j => v (ix3 b j (lane h x)))
    - lam * softAvg (dotMap q k b i h 1) (fun j => v (ix3 b j (lane h x)))

/-- The attention's result at sequence `b`, row `i`, head `h`, lane `e`. -/
def attn (lam : ℝ) (q k v : SP.Idx → ℝ) (w : Fin 128 → EReal) (b : Fin 32) (i : Fin 256) (h : Fin 4) (e : Fin 128) : EReal :=
  headNorm (fun x => (headOut lam q k v b i h x : EReal)) w e

/-- Element `(b, i, l)` of the result as a function of real arguments: head `l / 128`, lane `l % 128`. -/
def result (lam : ℝ) (q k v : SP.Idx → ℝ) (w : Fin 128 → EReal) (y : SP.Idx) : EReal :=
  attn lam q k v w (y 0) (y 1) ⟨(y 2).val / 128, by have : (y 2).val < 512 := (y 2).isLt; omega⟩
    ⟨(y 2).val % 128, Nat.mod_lt _ (by decide)⟩

end Cert.Ctx.Attn
-- ==== Proof.Ctx.Reads.lean ====
/-
  THE BLOCKS OF A GRID POINT OF THE PROMPT ATTENTION, READ FROM THE ARGUMENT ARRAYS: each point has one sequence.
-/
module

public import proofs.«01_k».proof.Proof.Ctx.Body
public import proofs.«01_k».proof.Proof.Ctx.Spec

@[expose] public section
set_option maxRecDepth 16384
noncomputable section
namespace Cert.CtxIdeal.Attn
open Cert.CtxIdeal Cert.CtxIdeal.Gen Cert.Attn Idealize.ShloMosaic Idealize.ShloMosaic.TcCoe Idealize.SL.Sem
open scoped BigOperators

variable (m : (ℓ : Loc nD τ sig) → Buf (Elt Ideal) ℓ) (c : Dev nD)

/-- The windows' block indices at a grid point. -/
theorem idx : ∀ t : Fin cfg0.N,
    win0_1.index t = ![(grid0.coords t 0).val, 0, 0]
    ∧ win0_2.index t = ![(grid0.coords t 0).val, 0, 0]
    ∧ win0_3.index t = ![(grid0.coords t 0).val, 0, 0]
    ∧ win0_4.index t = ![0, 0]
    ∧ win0_5.index t = ![(grid0.coords t 0).val, 0, 0] :=
  (by decide +kernel : ∀ t : Fin grid0.N, _)

/-- The sequence of a grid point. -/
def ptB (t : Fin cfg0.N) : Fin 32 := grid0.coords t 0

/-- The query block, read from the argument array. -/
theorem q_read (t : Fin cfg0.N) (r : Fin 256) (l : Fin 512) :
    iblk m c 1 t (ix3 0 r l) = m ((c : Thread nD τ).loc main_arg0) (ix3 (ptB t) r l) := by
  blk_ext! [iblk, V, idx t, ptB]

/-- The block of keys, read from the argument array. -/
theorem k_read (t : Fin cfg0.N) (r : Fin 256) (l : Fin 512) :
    iblk m c 2 t (ix3 0 r l) = m ((c : Thread nD τ).loc main_arg1) (ix3 (ptB t) r l) := by
  blk_ext! [iblk, V, idx t, ptB]

/-- The block of values, read from the argument array. -/
theorem v_read (t : Fin cfg0.N) (r : Fin 256) (l : Fin 512) :
    iblk m c 3 t (ix3 0 r l) = m ((c : Thread nD τ).loc main_arg2) (ix3 (ptB t) r l) := by
  blk_ext! [iblk, V, idx t, ptB]

/-- The one number in the small memory: the mixing factor, of the lambda vectors. -/
theorem lam_read (t : Fin cfg0.N) :
    iblk m c 0 t (ix1 0) = lambda (m ((c : Thread nD τ).loc main_arg3)) (m ((c : Thread nD τ).loc main_arg4)) := by
  blk_simp [iblk, idx t]
  entry_read
  pointwise
  rfl

/-- The weight of the norm, read from the argument array. -/
theorem w_read (t : Fin cfg0.N) (d : Fin 128) :
    iblk m c 4 t (ix2 0 d) = m ((c : Thread nD τ).loc main_arg5) (ix2 0 d) := by
  blk_ext! [iblk, V, idx t, ptB]

end Cert.CtxIdeal.Attn
-- ==== Proof.Ctx.Array.lean ====
/-
  THE PROMPT ATTENTION KERNEL'S RESULT ARRAY: every element is the differential attention of the argument arrays at that
  element.
-/
module

public import proofs.«01_k».proof.Proof.Ctx.BodyValue
public import proofs.«01_k».proof.Proof.Ctx.Reads

@[expose] public section
set_option maxRecDepth 16384
noncomputable section
namespace Cert.CtxIdeal.Attn
open Cert.CtxIdeal Cert.CtxIdeal.Gen Cert.Ctx.Attn Idealize.ShloMosaic Idealize.ShloMosaic.TcCoe Idealize.SL.Sem
open Cert.Attn hiding result attn headOut dotMap
open scoped BigOperators

variable (m : (ℓ : Loc nD τ sig) → Buf (Elt Ideal) ℓ) (c : Dev nD)

/-- The result at an index with given sequence, row and lane. -/
theorem result_at (lam : ℝ) (q k v : SP.Idx → ℝ) (w : Fin 128 → EReal) (y : SP.Idx) (b : Fin 32) (i : Fin 256) (l : Fin 512)
    (h0 : (y 0).val = b.val) (h1 : (y 1).val = i.val) (h2 : (y 2).val = l.val) :
    result lam q k v w y = attn lam q k v w b i ⟨l.val / 128, by omega⟩ ⟨l.val % 128, Nat.mod_lt _ (by decide)⟩ := by
  have e0 : y 0 = b := Fin.ext h0
  have e1 : y 1 = i := Fin.ext h1
  unfold result
  rw [e0, e1]
  congr 1 <;> refine Fin.ext ?_ <;> simp only [h2]

/-- The array that the run leaves in the result buffer, where the arguments are real numbers. -/
theorem array (lam : ℝ) (q k v : SP.Idx → ℝ)
    (hl : lambda (m ((c : Thread nD τ).loc main_arg3)) (m ((c : Thread nD τ).loc main_arg4)) = lam)
    (hq : ∀ i, m ((c : Thread nD τ).loc main_arg0) i = (q i : EReal))
    (hk : ∀ i, m ((c : Thread nD τ).loc main_arg1) i = (k i : EReal))
    (hv : ∀ i, m ((c : Thread nD τ).loc main_arg2) i = (v i : EReal)) :
    (dats m 0 c).arrAt 5 cfg0.N
      = result lam q k v (fun d => m ((c : Thread nD τ).loc main_arg5) (ix2 0 d)) := by
  refine (dats m 0 c).arrAt_eq_of_covers 5 _ (by decide +kernel) fun t hf y => ?_
  blk_simp
  rw [after0_5]
  unfold outsAt0
  rw [out_eq]
  obtain ⟨r, l, rfl⟩ : ∃ (r : Fin 256) (l : Fin 512), y = ix3 0 r l :=
    ⟨y 1, y 2, (eq_ix3 y).trans (congrArg (ix3 · (y 1) (y 2)) (Subsingleton.elim (α := Fin 1) _ _))⟩
  refine (headBlock_real (headOf (iblk m c 1 t) ⟨l.val / 128, by omega⟩) (headOf (iblk m c 2 t) ⟨l.val / 128, by omega⟩)
    (headOf (iblk m c 3 t) ⟨l.val / 128, by omega⟩) (iblk m c 4 t) r ⟨l.val % 128, Nat.mod_lt _ (by decide)⟩ _ lam
    (fun d => q (ix3 (ptB t) r (lane ⟨l.val / 128, by omega⟩ d))) (fun j d => k (ix3 (ptB t) j (lane ⟨l.val / 128, by omega⟩ d)))
    (fun j d => v (ix3 (ptB t) j (lane ⟨l.val / 128, by omega⟩ d))) ((lam_read m c t).trans hl)
    (fun d => (q_read m c t r _).trans (hq _)) (fun j d => (k_read m c t j _).trans (hk _))
    (fun j d => (v_read m c t j _).trans (hv _))).trans ?_
  rw [result_at lam q k v _ ((win0_5.blk t).view.emb (ix3 0 r l)) (ptB t) r l
    (by blk_simp [idx t]; rfl) (by blk_simp [idx t]) (by blk_simp [idx t])]
  unfold attn headOut
  have hw : (fun d => iblk m c 4 t (ix2 0 d)) = fun d : Fin 128 => m ((c : Thread nD τ).loc main_arg5) (ix2 0 d) :=
    funext fun d => w_read m c t d
  rw [hw]
  congr 1

end Cert.CtxIdeal.Attn
-- ==== Proof.Ctx.Reference.lean ====
/-
  THE PROMPT ATTENTION REFERENCE'S RESULT, stage by stage: scores, softmax weights, the mixed weights, the heads' outputs and
  the norm.
-/
module

public import proofs.«01_k».proof.Proof.Gen.Reference6Ideal.Run
public import proofs.«01_k».proof.Proof.Attn.Reference
public import proofs.«01_k».proof.Proof.Ctx.Spec

@[expose] public section
set_option maxRecDepth 16384
noncomputable section
namespace Cert.Reference6Ideal.Attn
open Cert.Reference6Ideal Cert.Reference6Ideal.Gen Cert.Ctx.Attn Idealize.ShloMosaic Idealize.ShloMosaic.TcCoe
open Cert.Attn hiding result attn headOut dotMap
open scoped BigOperators

/-- The scores of every query against every key of its sequence, in both maps. -/
def scores (q : FVec Ideal S32x256x512 .bf16) (k : FVec Ideal S32x256x512 .f32) : FVec Ideal S32x4x2x256x256 .f32 :=
  Host.dotGeneral dot_S32x256x4x2x64_S32x256x4x2x64_S32x4x2x256x256_4_4_1_1_023_023 none
    (shapeCast _ (extf .f32 q bitsLt_bf16_f32) shapeCasts_S32x256x512_S32x256x4x2x64)
    (shapeCast _ k shapeCasts_S32x256x512_S32x256x4x2x64)

/-- The largest score of each row. -/
def rowTop (s : FVec Ideal S32x4x2x256x256 .f32) : FVec Ideal S32x4x2x256 .f32 :=
  maximumf (broadcastInDim S32x4x2x256 ![] bcast_S_S32x4x2x256 (constant S_ .f32 0xFF800000#32))
    (Host.reduce FloatOps.maximumf s (constant S_ .f32 0xFF800000#32) reducesTo_S32x4x2x256x256_S32x4x2x256_d4 h_S_)

/-- The exponentials of the scores less their row's largest. -/
def exps (s : FVec Ideal S32x4x2x256x256 .f32) : FVec Ideal S32x4x2x256x256 .f32 :=
  Host.exp (subf s (broadcastInDim S32x4x2x256x256 ![0, 1, 2, 3, 4] bcast_S32x4x2x256x1_S32x4x2x256x256_0_1_2_3_4
    (broadcastInDim S32x4x2x256x1 ![0, 1, 2, 3] bcast_S32x4x2x256_S32x4x2x256x1_0_1_2_3 (rowTop s))))

/-- The softmax weights. -/
def weights (s : FVec Ideal S32x4x2x256x256 .f32) : FVec Ideal S32x4x2x256x256 .f32 :=
  Host.divf (exps s) (broadcastInDim S32x4x2x256x256 ![0, 1, 2, 3, 4] bcast_S32x4x2x256x1_S32x4x2x256x256_0_1_2_3_4
    (broadcastInDim S32x4x2x256x1 ![0, 1, 2, 3] bcast_S32x4x2x256_S32x4x2x256x1_0_1_2_3
      (Host.reduceAdd (exps s) (constant S_ .f32 0x00000000#32) reducesTo_S32x4x2x256x256_S32x4x2x256_d4 h_S_)))

/-- The mixing factor. -/
def mixing (lq lk : FVec Ideal S1x2x64 .f32) : FVec Ideal S_ .f32 :=
  addf (subf
    (Host.exp (Host.reduceAdd (mulf
      (shapeCast _ (extractStridedSlice S1x64 ![0, 0] (shapeCast _ lq shapeCasts_S1x2x64_S2x64) slices_S2x64_S1x64_0_0) shapeCasts_S1x64_S64)
      (shapeCast _ (extractStridedSlice S1x64 ![0, 0] (shapeCast _ lk shapeCasts_S1x2x64_S2x64) slices_S2x64_S1x64_0_0) shapeCasts_S1x64_S64))
      (constant S_ .f32 0x00000000#32) reducesTo_S64_S_d0 h_S_))
    (Host.exp (Host.reduceAdd (mulf
      (shapeCast _ (extractStridedSlice S1x64 ![1, 0] (shapeCast _ lq shapeCasts_S1x2x64_S2x64) slices_S2x64_S1x64_1_0) shapeCasts_S1x64_S64)
      (shapeCast _ (extractStridedSlice S1x64 ![1, 0] (shapeCast _ lk shapeCasts_S1x2x64_S2x64) slices_S2x64_S1x64_1_0) shapeCasts_S1x64_S64))
      (constant S_ .f32 0x00000000#32) reducesTo_S64_S_d0 h_S_)))
    (constant S_ .f32 0x3E4CCCCD#32)

/-- The first map's weights less the mixing factor times the second map's. -/
def mixed (p : FVec Ideal S32x4x2x256x256 .f32) (lam : FVec Ideal S_ .f32) : FVec Ideal S32x4x256x256 .f32 :=
  subf (shapeCast _ (extractStridedSlice S32x4x1x256x256 ![0, 0, 0, 0, 0] p slices_S32x4x2x256x256_S32x4x1x256x256_0_0_0_0_0)
      shapeCasts_S32x4x1x256x256_S32x4x256x256)
    (mulf (broadcastInDim S32x4x256x256 ![] bcast_S_S32x4x256x256 lam)
      (shapeCast _ (extractStridedSlice S32x4x1x256x256 ![0, 0, 1, 0, 0] p slices_S32x4x2x256x256_S32x4x1x256x256_0_0_1_0_0)
        shapeCasts_S32x4x1x256x256_S32x4x256x256))

/-- The heads' outputs: the mixed weights times the values. -/
def heads (v : FVec Ideal S32x256x512 .f32) (w : FVec Ideal S32x4x256x256 .f32) : FVec Ideal S32x256x4x128 .f32 :=
  transpose S32x256x4x128 [0, 3, 1, 2] (Host.dotGeneral dot_S32x256x4x128_S32x4x256x256_S32x4x128x256_1_3_3_2_02_01 none
    (shapeCast _ v shapeCasts_S32x256x512_S32x256x4x128) w) transposes_S32x4x128x256_S32x256x4x128_0_3_1_2

/-- The norm over a head's lanes, its weight and the constant, laid out as the result. -/
def normed (o : FVec Ideal S32x256x4x128 .f32) (w : FVec Ideal S1x128 .f32) : FVec Ideal S32x256x512 .bf16 :=
  truncf .bf16 (shapeCast _ (mulf (mulf (mulf o
      (broadcastInDim S32x256x4x128 ![0, 1, 2, 3] bcast_S32x256x4x1_S32x256x4x128_0_1_2_3 (Host.rsqrt (addf (Host.divf
        (broadcastInDim S32x256x4x1 ![0, 1, 2] bcast_S32x256x4_S32x256x4x1_0_1_2
          (Host.reduceAdd (mulf o o) (constant S_ .f32 0x00000000#32) reducesTo_S32x256x4x128_S32x256x4_d3 h_S_))
        (broadcastInDim S32x256x4x1 ![] bcast_S_S32x256x4x1 (constant S_ .f32 0x43000000#32)))
        (broadcastInDim S32x256x4x1 ![] bcast_S_S32x256x4x1 (constant S_ .f32 0x358637BD#32))))))
      (broadcastInDim S32x256x4x128 ![0, 1, 2, 3] bcast_S1x1x1x128_S32x256x4x128_0_1_2_3
        (broadcastInDim S1x1x1x128 ![3] bcast_S128_S1x1x1x128_3 (shapeCast _ w shapeCasts_S1x128_S128))))
      (broadcastInDim S32x256x4x128 ![] bcast_S_S32x256x4x128 (constant S_ .f32 0x3F4CCCCD#32)))
    shapeCasts_S32x256x4x128_S32x256x512) bitsLt_bf16_f32

/-- The reference's result is its stages one after the other. -/
theorem result_stages (m : (ℓ : Loc nD τ sig) → Buf (Elt Ideal) ℓ) (c : Dev nD) :
    Value.res_out0 m c
      = normed (heads (m ((c : Thread nD τ).loc main_arg2))
          (mixed (weights (scores (m ((c : Thread nD τ).loc main_arg0)) (m ((c : Thread nD τ).loc main_arg1))))
            (mixing (m ((c : Thread nD τ).loc main_arg3)) (m ((c : Thread nD τ).loc main_arg4)))))
          (m ((c : Thread nD τ).loc main_arg5)) := rfl

/-- Where queries and keys are real numbers, a score is the map's dot product. -/
theorem scores_real (q : FVec Ideal S32x256x512 .bf16) (k : FVec Ideal S32x256x512 .f32) (qR kR : SP.Idx → ℝ)
    (hq : ∀ i, q i = (qR i : EReal)) (hk : ∀ i, k i = (kR i : EReal)) (b : Fin 32) (h : Fin 4) (μ : Fin 2) (i j : Fin 256) :
    scores q k (ix5 b h μ i j) = (dotMap qR kR b i h μ j : EReal) := by
  pointwise [scores]
  unfold dotMap
  rw [coe_sum]
  refine Finset.sum_congr rfl fun d _ => ?_
  rw [hq, hk, EReal.coe_mul]
  have hl : (⟨h.val * 128 + μ.val * 64 + d.val, by omega⟩ : Fin 512) = lane h ⟨64 * μ.val + d.val, by omega⟩ :=
    Fin.ext (by simp only [lane]; omega)
  rw [hl]

/-- Where every score is a real number, so is a row's largest. -/
theorem rowTop_real (s : FVec Ideal S32x4x2x256x256 .f32) (hs : ∀ i, ∃ r : ℝ, s i = r) (y : S32x4x2x256.Idx) :
    ∃ r : ℝ, rowTop s y = r := by
  obtain ⟨r, hr⟩ := Cert.ReferenceIdeal.Attn.reduceMax_real s (constant S_ .f32 0xFF800000#32)
    reducesTo_S32x4x2x256x256_S32x4x2x256_d4 (by decide) h_S_ y (by decide) hs ofBits_negInf
  refine ⟨r, ?_⟩
  unfold rowTop
  refine (ValueIdx.maximumf_apply _ _ _).trans ?_
  rw [hr]
  refine (congrArg (fun z : EReal => max z (r : EReal)) ofBits_negInf).trans (max_eq_right bot_le)

/-- Where the scores are real numbers, the weights are the exponentials of the shifted scores over their sum. -/
theorem weights_real (s : FVec Ideal S32x4x2x256x256 .f32) (f : Fin 32 → Fin 4 → Fin 2 → Fin 256 → Fin 256 → ℝ)
    (hs : ∀ b h μ i j, s (ix5 b h μ i j) = (f b h μ i j : EReal)) (b : Fin 32) (h : Fin 4) (μ : Fin 2) (i : Fin 256) :
    ∃ M : ℝ, ∀ j, weights s (ix5 b h μ i j)
      = ((Real.exp (f b h μ i j - M) * (1 / ∑ j, Real.exp (f b h μ i j - M)) : ℝ) : EReal) := by
  obtain ⟨M, hM⟩ := rowTop_real s (fun y => ⟨_, (congrArg s (eq_ix5 y)).trans (hs _ _ _ _ _)⟩) (ix4 b h μ i)
  refine ⟨M, fun j => ?_⟩
  pointwise [weights, exps]
  simp only [hs, hM, ← EReal.coe_sub, Ideal.exp_coe, ← coe_sum]
  rw [Ideal.div_coe (sum_exp_pos _).ne', EReal.coe_mul]

/-- The mixing factor is the one of the two lambda arrays. -/
theorem mixing_apply (lq lk : FVec Ideal S1x2x64 .f32) (y : S_.Idx) : mixing lq lk y = lambda lq lk := by
  pointwise [mixing]
  rfl

/-- A mixed weight. -/
theorem mixed_apply (p : FVec Ideal S32x4x2x256x256 .f32) (lam : FVec Ideal S_ .f32) (b : Fin 32) (h : Fin 4) (i j : Fin 256) :
    mixed p lam (ix4 b h i j) = p (ix5 b h 0 i j) - lam ix0 * p (ix5 b h 1 i j) := by
  pointwise [mixed]

/-- Where values and weights are real numbers, a head's output is the sum of the values times the weights. -/
theorem heads_real (v : FVec Ideal S32x256x512 .f32) (w : FVec Ideal S32x4x256x256 .f32) (vR : SP.Idx → ℝ) (g : Fin 256 → ℝ)
    (hv : ∀ i, v i = (vR i : EReal)) (b : Fin 32) (i : Fin 256) (h : Fin 4) (e : Fin 128)
    (hw : ∀ j, w (ix4 b h i j) = (g j : EReal)) :
    heads v w (ix4 b i h e) = ((∑ j, vR (ix3 b j (lane h e)) * g j : ℝ) : EReal) := by
  pointwise [heads]
  have hl : (⟨h.val * 128 + e.val, by omega⟩ : Fin 512) = lane h e := Fin.ext (by simp only [lane]; omega)
  simp only [hv, hw, hl, ← EReal.coe_mul, ← coe_sum]

/-- The norm at an index: the head's vector normed at the lane. -/
theorem normed_apply (o : FVec Ideal S32x256x4x128 .f32) (w : FVec Ideal S1x128 .f32) (b : Fin 32) (i : Fin 256) (l : Fin 512) :
    normed o w (ix3 b i l)
      = headNorm (fun x => o (ix4 b i ⟨l.val / 128, by omega⟩ x)) (fun d => w (ix2 0 d)) ⟨l.val % 128, Nat.mod_lt _ (by decide)⟩ := by
  pointwise [normed]
  rfl

/-- The reference's result at an index, where the arguments are real numbers: the differential attention there. -/
theorem result_real (m : (ℓ : Loc nD τ sig) → Buf (Elt Ideal) ℓ) (c : Dev nD) (lam : ℝ) (q k v : SP.Idx → ℝ)
    (hl : lambda (m ((c : Thread nD τ).loc main_arg3)) (m ((c : Thread nD τ).loc main_arg4)) = lam)
    (hq : ∀ i, m ((c : Thread nD τ).loc main_arg0) i = (q i : EReal))
    (hk : ∀ i, m ((c : Thread nD τ).loc main_arg1) i = (k i : EReal))
    (hv : ∀ i, m ((c : Thread nD τ).loc main_arg2) i = (v i : EReal)) :
    Value.res_out0 m c = result lam q k v (fun d => m ((c : Thread nD τ).loc main_arg5) (ix2 0 d)) := by
  rw [result_stages]
  funext y
  obtain ⟨b, i, l, rfl⟩ : ∃ (b : Fin 32) (i : Fin 256) (l : Fin 512), y = ix3 b i l := ⟨y 0, y 1, y 2, eq_ix3 y⟩
  refine (normed_apply _ _ b i l).trans ?_
  unfold result attn
  refine congrArg (fun o => headNorm o _ _) (funext fun x => ?_)
  obtain ⟨M, hM⟩ := weights_real _ _ (scores_real _ _ q k hq hk) b ⟨l.val / 128, by omega⟩ 0 i
  obtain ⟨N, hN⟩ := weights_real _ _ (scores_real _ _ q k hq hk) b ⟨l.val / 128, by omega⟩ 1 i
  rw [heads_real _ _ v _ hv b i ⟨l.val / 128, by omega⟩ x (fun j => by
    rw [mixed_apply, hM, hN, mixing_apply, hl, ← EReal.coe_mul, ← EReal.coe_sub])]
  rw [sum_diff]
  rfl

end Cert.Reference6Ideal.Attn
-- ==== Proof.Ctx.Pre.lean ====
/-
  WHAT THE PROMPT ATTENTION'S PRECONDITION SAYS: every element of the first five arguments is a real number.
-/
module

public import proofs.«01_k».proof.Pre_finite_prompt
public import proofs.«01_k».proof.Proof.Gen.Pre_finite_prompt
public import proofs.«01_k».proof.Proof.Attn.Pre

@[expose] public section
noncomputable section
namespace Cert.Pre_finite_prompt
open Cert.Attn Cert.Pre_finite Idealize.ShloMosaic

/-- Where the precondition is true, every element of the first five arguments is a real number. -/
theorem fn_real (a0 : FVec Ideal S32x256x512 .bf16) (a1 a2 : FVec Ideal S32x256x512 .f32) (a3 a4 : FVec Ideal S1x2x64 .f32)
    (a5 : FVec Ideal S1x128 .f32) (h : Cert.Pre_finite_prompt.fn a0 a1 a2 a3 a4 a5 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) := by
  have e := congrFun h ix0
  unfold Cert.Pre_finite_prompt.fn Cert.Pre_finite_prompt.fn_part1 at e
  obtain ⟨e, h4⟩ := and_one e
  obtain ⟨e, h3⟩ := and_one e
  obtain ⟨e, h2⟩ := and_one e
  obtain ⟨e, h1⟩ := and_one e
  obtain ⟨-, h0⟩ := and_one e
  exact ⟨fun i => real_of_cmpf _ (Host.reduce_andi_all _ _ _ _ _ h0 i), fun i => real_of_cmpf _ (Host.reduce_andi_all _ _ _ _ _ h1 i),
    fun i => real_of_cmpf _ (Host.reduce_andi_all _ _ _ _ _ h2 i), fun i => real_of_cmpf _ (Host.reduce_andi_all _ _ _ _ _ h3 i),
    fun i => real_of_cmpf _ (Host.reduce_andi_all _ _ _ _ _ h4 i)⟩

end Cert.Pre_finite_prompt
-- ==== Proof.lean ====
/-
  THE CERTIFICATE'S CLAIMS: the frames, the preserved program, and the equality of the kernel's result with the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Pre_finite
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.Reference4Ideal
public import proofs.«01_k».proof.Proof.Gen.Reference4Ideal.Run
public import proofs.«01_k».proof.Proof.Gen.Latent
public import proofs.«01_k».proof.Proof.Gen.Latent.Skeleton
public import proofs.«01_k».proof.Proof.Gen.Latent.Launch
public import proofs.«01_k».proof.Proof.Gen.Latent.Points
public import proofs.«01_k».proof.Proof.Gen.Latent.Frame
public import proofs.«01_k».proof.Proof.Gen.LatentIdeal
public import proofs.«01_k».proof.Proof.Gen.LatentIdeal.Skeleton
public import proofs.«01_k».proof.Proof.Gen.LatentIdeal.Launch
public import proofs.«01_k».proof.Proof.Gen.LatentIdeal.Points
public import proofs.«01_k».proof.Proof.Gen.LatentIdeal.Frame
public import proofs.«01_k».proof.Proof.Gen.Reference5Ideal
public import proofs.«01_k».proof.Proof.Gen.Reference5Ideal.Run
public import proofs.«01_k».proof.Proof.Gen.Ctx
public import proofs.«01_k».proof.Proof.Gen.Ctx.Skeleton
public import proofs.«01_k».proof.Proof.Gen.Ctx.Launch
public import proofs.«01_k».proof.Proof.Gen.Ctx.Points
public import proofs.«01_k».proof.Proof.Gen.Ctx.Frame
public import proofs.«01_k».proof.Proof.Gen.CtxIdeal
public import proofs.«01_k».proof.Proof.Gen.CtxIdeal.Skeleton
public import proofs.«01_k».proof.Proof.Gen.CtxIdeal.Launch
public import proofs.«01_k».proof.Proof.Gen.CtxIdeal.Points
public import proofs.«01_k».proof.Proof.Gen.CtxIdeal.Frame
public import proofs.«01_k».proof.Proof.Gen.CtxIdeal.Value
public import proofs.«01_k».proof.Proof.Gen.Reference6Ideal
public import proofs.«01_k».proof.Proof.Gen.Reference6Ideal.Run
public import proofs.«01_k».proof.Proof.Gen.Pre_finite_prompt
public import proofs.«01_k».proof.Proof.Gen.Ffn
public import proofs.«01_k».proof.Proof.Gen.Ffn.Skeleton
public import proofs.«01_k».proof.Proof.Gen.Ffn.Launch
public import proofs.«01_k».proof.Proof.Gen.FfnIdeal
public import proofs.«01_k».proof.Proof.Gen.FfnIdeal.Skeleton
public import proofs.«01_k».proof.Proof.Gen.FfnIdeal.Launch
public import proofs.«01_k».proof.Proof.Gen.Reference2Ideal
public import proofs.«01_k».proof.Proof.Gen.Reference2Ideal.Run
public import proofs.«01_k».proof.Proof.Gen.Prompt
public import proofs.«01_k».proof.Proof.Gen.Prompt.Skeleton
public import proofs.«01_k».proof.Proof.Gen.Prompt.Launch
public import proofs.«01_k».proof.Proof.Gen.Prompt.Points
public import proofs.«01_k».proof.Proof.Gen.Prompt.Frame
public import proofs.«01_k».proof.Proof.Gen.PromptIdeal
public import proofs.«01_k».proof.Proof.Gen.PromptIdeal.Skeleton
public import proofs.«01_k».proof.Proof.Gen.PromptIdeal.Launch
public import proofs.«01_k».proof.Proof.Gen.PromptIdeal.Points
public import proofs.«01_k».proof.Proof.Gen.PromptIdeal.Frame
public import proofs.«01_k».proof.Proof.Gen.Reference3Ideal
public import proofs.«01_k».proof.Proof.Gen.Reference3Ideal.Run
public import proofs.«01_k».proof.Proof.Gen.Pre_padded
public import proofs.«01_k».proof.Proof.Gen.On_used_rows
public import proofs.«01_k».proof.Proof.Attn.Array
public import proofs.«01_k».proof.Proof.Attn.Reference
public import proofs.«01_k».proof.Proof.Attn.Pre
public import proofs.«01_k».proof.Proof.Ffn.Same
public import proofs.«01_k».proof.Proof.Ffn.Equal
public import proofs.«01_k».proof.Proof.Prompt.Equal
public import proofs.«01_k».proof.Proof.Post.Equal
public import proofs.«01_k».proof.Proof.Latent.Equal
public import proofs.«01_k».proof.Proof.Ctx.Array
public import proofs.«01_k».proof.Proof.Ctx.Reference
public import proofs.«01_k».proof.Proof.Ctx.Pre
public import Idealize.ShloMosaic.Adequacy
public import Idealize.ShloMosaic.Init

@[expose] public section

noncomputable section

namespace Cert.Proof

open Idealize.ShloMosaic Idealize.ShloMosaic.TcCoe Idealize.SL.Sem Cert.Attn

/-- At the ideal reading, where the precondition is true, the kernel's result is the reference's. -/
theorem attn_algebraic : algebraic_KernelIdeal_ReferenceIdeal_pre_finite := by
  intro m g m' g' hpre hargs
  refine ⟨fun c => Cert.ReferenceIdeal.Value.res_out0 m' c, ?_, Cert.ReferenceIdeal.Value.run m' g'⟩
  refine (θ_run Cert.KernelIdeal.defs _ _).mono (fun r h c => ?_) (Cert.KernelIdeal.Value.run_blocks m g)
  obtain ⟨hr, hkeep⟩ := h c
  refine ⟨hr.trans ?_, hkeep⟩
  obtain ⟨e0, e1, e2, e3, e4, e5, e6, e7⟩ := hargs c
  obtain ⟨h0, h1, h2, h3, h4, h5, h6⟩ := Cert.Pre_finite.fn_real _ _ _ _ _ _ _ _ (hpre c)
  obtain ⟨lam, hl⟩ := lambda_real _ _ h5 h6
  choose q hq using h0
  choose k hk using h1
  choose v hv using h2
  choose ck hck using h3
  choose cv hcv using h4
  rw [Cert.KernelIdeal.Attn.array m c lam q k v ck cv hl hq hk hv hck hcv]
  refine ((Cert.ReferenceIdeal.Attn.result_real m' c lam q k v ck cv ?_ ?_ ?_ ?_ ?_ ?_).trans ?_).symm
  · rw [e5, e6]; exact hl
  · rw [e0]; exact hq
  · rw [e1]; exact hk
  · rw [e2]; exact hv
  · rw [e3]; exact hck
  · rw [e4]; exact hcv
  · rw [e7]

/-- The prompt's attention at the ideal reading, where its precondition is true: the kernel's result is the reference's. -/
theorem ctx_algebraic : algebraic_CtxIdeal_Reference6Ideal_pre_finite_prompt := by
  intro m g m' g' hpre hargs
  refine ⟨fun c => Cert.Reference6Ideal.Value.res_out0 m' c, ?_, Cert.Reference6Ideal.Value.run m' g'⟩
  refine (θ_run Cert.CtxIdeal.defs _ _).mono (fun r h c => ?_) (Cert.CtxIdeal.Value.run_blocks m g)
  obtain ⟨hr, hkeep⟩ := h c
  refine ⟨hr.trans ?_, hkeep⟩
  obtain ⟨e0, e1, e2, e3, e4, e5⟩ := hargs c
  obtain ⟨h0, h1, h2, h3, h4⟩ := Cert.Pre_finite_prompt.fn_real _ _ _ _ _ _ (hpre c)
  obtain ⟨lam, hl⟩ := lambda_real _ _ h3 h4
  choose q hq using h0
  choose k hk using h1
  choose v hv using h2
  rw [Cert.CtxIdeal.Attn.array m c lam q k v hl hq hk hv]
  refine ((Cert.Reference6Ideal.Attn.result_real m' c lam q k v ?_ ?_ ?_ ?_).trans ?_).symm
  · rw [e3, e4]; exact hl
  · rw [e0]; exact hq
  · rw [e1]; exact hk
  · rw [e2]; exact hv
  · rw [e5]

/-- The reference ends with its arguments kept and every counter at zero. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The experts' reference ends with its arguments kept and every counter at zero. -/
theorem reference2_frame : quiescent_Reference2Ideal := fun m ρ _ =>
  (θ_run Cert.Reference2Ideal.defs _ _).mono (fun r h => ⟨fun c => (h c).2, sem_eq_zero_of_no_sems (by decide) r.2⟩)
    (Cert.Reference2Ideal.Value.run m ρ)

/-- The input projection's reference ends with its arguments kept and every counter at zero. -/
theorem reference3_frame : quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run m ρ)

/-- The mixing's reference ends with its arguments kept and every counter at zero. -/
theorem reference4_frame : quiescent_Reference4Ideal := fun m ρ _ =>
  (θ_run Cert.Reference4Ideal.defs _ _).mono (fun r h => ⟨fun c => (h c).2.2, sem_eq_zero_of_no_sems (by decide) r.2⟩)
    (Cert.Reference4Ideal.Value.run m ρ)

/-- The latent projection's reference ends with its arguments kept and every counter at zero. -/
theorem reference5_frame : quiescent_Reference5Ideal := fun m ρ _ =>
  (θ_run Cert.Reference5Ideal.defs _ _).mono (fun r h => ⟨fun c => (h c).2.2.2.2, sem_eq_zero_of_no_sems (by decide) r.2⟩)
    (Cert.Reference5Ideal.Value.run m ρ)

/-- The prompt attention's reference ends with its arguments kept and every counter at zero. -/
theorem reference6_frame : quiescent_Reference6Ideal := fun m ρ _ =>
  (θ_run Cert.Reference6Ideal.defs _ _).mono (fun r h => ⟨fun c => (h c).2, sem_eq_zero_of_no_sems (by decide) r.2⟩)
    (Cert.Reference6Ideal.Value.run m ρ)

/-- The certificate's claim. -/
theorem claim : Cert.Claim := ⟨Cert.Kernel.Gen.facts, Cert.KernelIdeal.Gen.facts, Cert.ReferenceIdeal.Gen.facts, Cert.Ffn.Gen.facts,
  Cert.FfnIdeal.Gen.facts, Cert.Reference2Ideal.Gen.facts, Cert.Prompt.Gen.facts, Cert.PromptIdeal.Gen.facts,
  Cert.Reference3Ideal.Gen.facts, Cert.Post.Gen.facts, Cert.PostIdeal.Gen.facts, Cert.Reference4Ideal.Gen.facts,
  Cert.Latent.Gen.facts, Cert.LatentIdeal.Gen.facts, Cert.Reference5Ideal.Gen.facts,
  Cert.Ctx.Gen.facts, Cert.CtxIdeal.Gen.facts, Cert.Reference6Ideal.Gen.facts,
  Cert.Pre_finite.Gen.facts, Cert.Pre_padded.Gen.facts, Cert.Pre_finite_prompt.Gen.facts, Cert.On_used_rows.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  Cert.Ffn.machine_frame,
  Cert.Ffn.ideal_frame,
  fun m ρ _ => Cert.Ffn.ideal_frame m ρ trivial,
  reference2_frame,
  fun m ρ _ => reference2_frame m ρ trivial,
  fun m ρ _ => Cert.Prompt.Gen.frame m ρ,
  fun m ρ _ => Cert.PromptIdeal.Gen.frame m ρ,
  reference3_frame,
  fun m ρ _ => Cert.Post.Gen.frame m ρ,
  fun m ρ _ => Cert.PostIdeal.Gen.frame m ρ,
  reference4_frame,
  fun m ρ _ => Cert.Latent.Gen.frame m ρ,
  fun m ρ _ => Cert.LatentIdeal.Gen.frame m ρ,
  reference5_frame,
  fun m ρ _ => Cert.Ctx.Gen.frame m ρ,
  fun m ρ _ => Cert.CtxIdeal.Gen.frame m ρ,
  fun m ρ _ => Cert.CtxIdeal.Gen.frame m ρ,
  reference6_frame,
  fun m ρ _ => reference6_frame m ρ trivial,
  trivial, attn_algebraic, trivial, Cert.Ffn.algebraic, trivial, Cert.PromptIdeal.InProj.algebraic,
  trivial, Cert.PostIdeal.Mix.algebraic,
  trivial, Cert.LatentIdeal.Rot.algebraic, trivial, ctx_algebraic⟩

end Cert.Proof

end
